-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_KernelIdeal_selected [hPre_selected : Cert.Pre_selected.Facts] (m : (ℓ : Loc Cert.KernelIdeal.nD Cert.KernelIdeal.τ Cert.KernelIdeal.sig) → Buf (Elt Ideal) ℓ) : Prop :=
  ∀ c : Dev Cert.KernelIdeal.nD,
    (Cert.Pre_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_selected [hPre_selected : Cert.Pre_selected.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_selected.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def Pre_Selection (m : (ℓ : Loc Cert.Selection.nD Cert.Selection.τ Cert.Selection.sig) → Buf (Elt Bits) ℓ) : Prop :=
  True

def Pre_SelectionIdeal (m : (ℓ : Loc Cert.SelectionIdeal.nD Cert.SelectionIdeal.τ Cert.SelectionIdeal.sig) → Buf (Elt Ideal) ℓ) : Prop :=
  True

def Pre_SelectionIdeal_finite [hPre_finite : Cert.Pre_finite.Facts] (m : (ℓ : Loc Cert.SelectionIdeal.nD Cert.SelectionIdeal.τ Cert.SelectionIdeal.sig) → Buf (Elt Ideal) ℓ) : Prop :=
  ∀ c : Dev Cert.SelectionIdeal.nD,
    (Cert.Pre_finite.fn (F := Ideal) (m ((c.tc : Thread Cert.SelectionIdeal.nD Cert.SelectionIdeal.τ).loc Cert.SelectionIdeal.main_arg0)) (m ((c.tc : Thread Cert.SelectionIdeal.nD Cert.SelectionIdeal.τ).loc Cert.SelectionIdeal.main_arg1)) (m ((c.tc : Thread Cert.SelectionIdeal.nD Cert.SelectionIdeal.τ).loc Cert.SelectionIdeal.main_arg2)) (m ((c.tc : Thread Cert.SelectionIdeal.nD Cert.SelectionIdeal.τ).loc Cert.SelectionIdeal.main_arg3)) (m ((c.tc : Thread Cert.SelectionIdeal.nD Cert.SelectionIdeal.τ).loc Cert.SelectionIdeal.main_arg4)) (m ((c.tc : Thread Cert.SelectionIdeal.nD Cert.SelectionIdeal.τ).loc Cert.SelectionIdeal.main_arg5)) (m ((c.tc : Thread Cert.SelectionIdeal.nD Cert.SelectionIdeal.τ).loc Cert.SelectionIdeal.main_arg6)) (m ((c.tc : Thread Cert.SelectionIdeal.nD Cert.SelectionIdeal.τ).loc Cert.SelectionIdeal.main_arg7))) = (fun _ => 1#1)

def Pre_SelectionReferenceIdeal (m : (ℓ : Loc Cert.SelectionReferenceIdeal.nD Cert.SelectionReferenceIdeal.τ Cert.SelectionReferenceIdeal.sig) → Buf (Elt Ideal) ℓ) : Prop :=
  True

def Pre_SelectionReferenceIdeal_finite [hPre_finite : Cert.Pre_finite.Facts] (m : (ℓ : Loc Cert.SelectionReferenceIdeal.nD Cert.SelectionReferenceIdeal.τ Cert.SelectionReferenceIdeal.sig) → Buf (Elt Ideal) ℓ) : Prop :=
  ∀ c : Dev Cert.SelectionReferenceIdeal.nD,
    (Cert.Pre_finite.fn (F := Ideal) (m ((c.tc : Thread Cert.SelectionReferenceIdeal.nD Cert.SelectionReferenceIdeal.τ).loc Cert.SelectionReferenceIdeal.main_arg0)) (m ((c.tc : Thread Cert.SelectionReferenceIdeal.nD Cert.SelectionReferenceIdeal.τ).loc Cert.SelectionReferenceIdeal.main_arg1)) (m ((c.tc : Thread Cert.SelectionReferenceIdeal.nD Cert.SelectionReferenceIdeal.τ).loc Cert.SelectionReferenceIdeal.main_arg2)) (m ((c.tc : Thread Cert.SelectionReferenceIdeal.nD Cert.SelectionReferenceIdeal.τ).loc Cert.SelectionReferenceIdeal.main_arg3)) (m ((c.tc : Thread Cert.SelectionReferenceIdeal.nD Cert.SelectionReferenceIdeal.τ).loc Cert.SelectionReferenceIdeal.main_arg4)) (m ((c.tc : Thread Cert.SelectionReferenceIdeal.nD Cert.SelectionReferenceIdeal.τ).loc Cert.SelectionReferenceIdeal.main_arg5)) (m ((c.tc : Thread Cert.SelectionReferenceIdeal.nD Cert.SelectionReferenceIdeal.τ).loc Cert.SelectionReferenceIdeal.main_arg6)) (m ((c.tc : Thread Cert.SelectionReferenceIdeal.nD Cert.SelectionReferenceIdeal.τ).loc Cert.SelectionReferenceIdeal.main_arg7))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_selected [hKernelIdeal : Cert.KernelIdeal.Facts] [hPre_selected : Cert.Pre_selected.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_selected m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_selected [hReferenceIdeal : Cert.ReferenceIdeal.Facts] [hPre_selected : Cert.Pre_selected.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_selected m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Selection [hSelection : Cert.Selection.Facts] : Prop :=
  ∀ (m : (ℓ : Loc Cert.Selection.nD Cert.Selection.τ Cert.Selection.sig) → Buf (Elt Bits) ℓ) (g : Dev Cert.Selection.nD → PrngReg), Pre_Selection m →
    θ_run (Cert.Selection.defs (F := Bits)) (onTc (τ := Cert.Selection.τ) (Cert.Selection.main (F := Bits))) ⟨m, fun _ => 0, g⟩ (fun r => (∀ c : Dev Cert.Selection.nD,
      r.2.mem ((c.tc : Thread Cert.Selection.nD Cert.Selection.τ).loc Cert.Selection.main_arg0) = m ((c.tc : Thread Cert.Selection.nD Cert.Selection.τ).loc Cert.Selection.main_arg0)
      ∧ r.2.mem ((c.tc : Thread Cert.Selection.nD Cert.Selection.τ).loc Cert.Selection.main_arg1) = m ((c.tc : Thread Cert.Selection.nD Cert.Selection.τ).loc Cert.Selection.main_arg1)
      ∧ r.2.mem ((c.tc : Thread Cert.Selection.nD Cert.Selection.τ).loc Cert.Selection.main_arg2) = m ((c.tc : Thread Cert.Selection.nD Cert.Selection.τ).loc Cert.Selection.main_arg2)
      ∧ r.2.mem ((c.tc : Thread Cert.Selection.nD Cert.Selection.τ).loc Cert.Selection.main_arg3) = m ((c.tc : Thread Cert.Selection.nD Cert.Selection.τ).loc Cert.Selection.main_arg3)
      ∧ r.2.mem ((c.tc : Thread Cert.Selection.nD Cert.Selection.τ).loc Cert.Selection.main_arg4) = m ((c.tc : Thread Cert.Selection.nD Cert.Selection.τ).loc Cert.Selection.main_arg4)
      ∧ r.2.mem ((c.tc : Thread Cert.Selection.nD Cert.Selection.τ).loc Cert.Selection.main_arg5) = m ((c.tc : Thread Cert.Selection.nD Cert.Selection.τ).loc Cert.Selection.main_arg5)
      ∧ r.2.mem ((c.tc : Thread Cert.Selection.nD Cert.Selection.τ).loc Cert.Selection.main_arg6) = m ((c.tc : Thread Cert.Selection.nD Cert.Selection.τ).loc Cert.Selection.main_arg6)
      ∧ r.2.mem ((c.tc : Thread Cert.Selection.nD Cert.Selection.τ).loc Cert.Selection.main_arg7) = m ((c.tc : Thread Cert.Selection.nD Cert.Selection.τ).loc Cert.Selection.main_arg7))
      ∧ r.2.sem = fun _ => 0)

def quiescent_SelectionIdeal [hSelectionIdeal : Cert.SelectionIdeal.Facts] : Prop :=
  ∀ (m : (ℓ : Loc Cert.SelectionIdeal.nD Cert.SelectionIdeal.τ Cert.SelectionIdeal.sig) → Buf (Elt Ideal) ℓ) (g : Dev Cert.SelectionIdeal.nD → PrngReg), Pre_SelectionIdeal m →
    θ_run (Cert.SelectionIdeal.defs (F := Ideal)) (onTc (τ := Cert.SelectionIdeal.τ) (Cert.SelectionIdeal.main (F := Ideal))) ⟨m, fun _ => 0, g⟩ (fun r => (∀ c : Dev Cert.SelectionIdeal.nD,
      r.2.mem ((c.tc : Thread Cert.SelectionIdeal.nD Cert.SelectionIdeal.τ).loc Cert.SelectionIdeal.main_arg0) = m ((c.tc : Thread Cert.SelectionIdeal.nD Cert.SelectionIdeal.τ).loc Cert.SelectionIdeal.main_arg0)
      ∧ r.2.mem ((c.tc : Thread Cert.SelectionIdeal.nD Cert.SelectionIdeal.τ).loc Cert.SelectionIdeal.main_arg1) = m ((c.tc : Thread Cert.SelectionIdeal.nD Cert.SelectionIdeal.τ).loc Cert.SelectionIdeal.main_arg1)
      ∧ r.2.mem ((c.tc : Thread Cert.SelectionIdeal.nD Cert.SelectionIdeal.τ).loc Cert.SelectionIdeal.main_arg2) = m ((c.tc : Thread Cert.SelectionIdeal.nD Cert.SelectionIdeal.τ).loc Cert.SelectionIdeal.main_arg2)
      ∧ r.2.mem ((c.tc : Thread Cert.SelectionIdeal.nD Cert.SelectionIdeal.τ).loc Cert.SelectionIdeal.main_arg3) = m ((c.tc : Thread Cert.SelectionIdeal.nD Cert.SelectionIdeal.τ).loc Cert.SelectionIdeal.main_arg3)
      ∧ r.2.mem ((c.tc : Thread Cert.SelectionIdeal.nD Cert.SelectionIdeal.τ).loc Cert.SelectionIdeal.main_arg4) = m ((c.tc : Thread Cert.SelectionIdeal.nD Cert.SelectionIdeal.τ).loc Cert.SelectionIdeal.main_arg4)
      ∧ r.2.mem ((c.tc : Thread Cert.SelectionIdeal.nD Cert.SelectionIdeal.τ).loc Cert.SelectionIdeal.main_arg5) = m ((c.tc : Thread Cert.SelectionIdeal.nD Cert.SelectionIdeal.τ).loc Cert.SelectionIdeal.main_arg5)
      ∧ r.2.mem ((c.tc : Thread Cert.SelectionIdeal.nD Cert.SelectionIdeal.τ).loc Cert.SelectionIdeal.main_arg6) = m ((c.tc : Thread Cert.SelectionIdeal.nD Cert.SelectionIdeal.τ).loc Cert.SelectionIdeal.main_arg6)
      ∧ r.2.mem ((c.tc : Thread Cert.SelectionIdeal.nD Cert.SelectionIdeal.τ).loc Cert.SelectionIdeal.main_arg7) = m ((c.tc : Thread Cert.SelectionIdeal.nD Cert.SelectionIdeal.τ).loc Cert.SelectionIdeal.main_arg7))
      ∧ r.2.sem = fun _ => 0)

def quiescent_SelectionIdeal_pre_finite [hSelectionIdeal : Cert.SelectionIdeal.Facts] [hPre_finite : Cert.Pre_finite.Facts] : Prop :=
  ∀ (m : (ℓ : Loc Cert.SelectionIdeal.nD Cert.SelectionIdeal.τ Cert.SelectionIdeal.sig) → Buf (Elt Ideal) ℓ) (g : Dev Cert.SelectionIdeal.nD → PrngReg), Pre_SelectionIdeal_finite m →
    θ_run (Cert.SelectionIdeal.defs (F := Ideal)) (onTc (τ := Cert.SelectionIdeal.τ) (Cert.SelectionIdeal.main (F := Ideal))) ⟨m, fun _ => 0, g⟩ (fun r => (∀ c : Dev Cert.SelectionIdeal.nD,
      r.2.mem ((c.tc : Thread Cert.SelectionIdeal.nD Cert.SelectionIdeal.τ).loc Cert.SelectionIdeal.main_arg0) = m ((c.tc : Thread Cert.SelectionIdeal.nD Cert.SelectionIdeal.τ).loc Cert.SelectionIdeal.main_arg0)
      ∧ r.2.mem ((c.tc : Thread Cert.SelectionIdeal.nD Cert.SelectionIdeal.τ).loc Cert.SelectionIdeal.main_arg1) = m ((c.tc : Thread Cert.SelectionIdeal.nD Cert.SelectionIdeal.τ).loc Cert.SelectionIdeal.main_arg1)
      ∧ r.2.mem ((c.tc : Thread Cert.SelectionIdeal.nD Cert.SelectionIdeal.τ).loc Cert.SelectionIdeal.main_arg2) = m ((c.tc : Thread Cert.SelectionIdeal.nD Cert.SelectionIdeal.τ).loc Cert.SelectionIdeal.main_arg2)
      ∧ r.2.mem ((c.tc : Thread Cert.SelectionIdeal.nD Cert.SelectionIdeal.τ).loc Cert.SelectionIdeal.main_arg3) = m ((c.tc : Thread Cert.SelectionIdeal.nD Cert.SelectionIdeal.τ).loc Cert.SelectionIdeal.main_arg3)
      ∧ r.2.mem ((c.tc : Thread Cert.SelectionIdeal.nD Cert.SelectionIdeal.τ).loc Cert.SelectionIdeal.main_arg4) = m ((c.tc : Thread Cert.SelectionIdeal.nD Cert.SelectionIdeal.τ).loc Cert.SelectionIdeal.main_arg4)
      ∧ r.2.mem ((c.tc : Thread Cert.SelectionIdeal.nD Cert.SelectionIdeal.τ).loc Cert.SelectionIdeal.main_arg5) = m ((c.tc : Thread Cert.SelectionIdeal.nD Cert.SelectionIdeal.τ).loc Cert.SelectionIdeal.main_arg5)
      ∧ r.2.mem ((c.tc : Thread Cert.SelectionIdeal.nD Cert.SelectionIdeal.τ).loc Cert.SelectionIdeal.main_arg6) = m ((c.tc : Thread Cert.SelectionIdeal.nD Cert.SelectionIdeal.τ).loc Cert.SelectionIdeal.main_arg6)
      ∧ r.2.mem ((c.tc : Thread Cert.SelectionIdeal.nD Cert.SelectionIdeal.τ).loc Cert.SelectionIdeal.main_arg7) = m ((c.tc : Thread Cert.SelectionIdeal.nD Cert.SelectionIdeal.τ).loc Cert.SelectionIdeal.main_arg7))
      ∧ r.2.sem = fun _ => 0)

def quiescent_SelectionReferenceIdeal [hSelectionReferenceIdeal : Cert.SelectionReferenceIdeal.Facts] : Prop :=
  ∀ (m : (ℓ : Loc Cert.SelectionReferenceIdeal.nD Cert.SelectionReferenceIdeal.τ Cert.SelectionReferenceIdeal.sig) → Buf (Elt Ideal) ℓ) (g : Dev Cert.SelectionReferenceIdeal.nD → PrngReg), Pre_SelectionReferenceIdeal m →
    θ_run (Cert.SelectionReferenceIdeal.defs (F := Ideal)) (onTc (τ := Cert.SelectionReferenceIdeal.τ) (Cert.SelectionReferenceIdeal.main (F := Ideal))) ⟨m, fun _ => 0, g⟩ (fun r => (∀ c : Dev Cert.SelectionReferenceIdeal.nD,
      r.2.mem ((c.tc : Thread Cert.SelectionReferenceIdeal.nD Cert.SelectionReferenceIdeal.τ).loc Cert.SelectionReferenceIdeal.main_arg0) = m ((c.tc : Thread Cert.SelectionReferenceIdeal.nD Cert.SelectionReferenceIdeal.τ).loc Cert.SelectionReferenceIdeal.main_arg0)
      ∧ r.2.mem ((c.tc : Thread Cert.SelectionReferenceIdeal.nD Cert.SelectionReferenceIdeal.τ).loc Cert.SelectionReferenceIdeal.main_arg1) = m ((c.tc : Thread Cert.SelectionReferenceIdeal.nD Cert.SelectionReferenceIdeal.τ).loc Cert.SelectionReferenceIdeal.main_arg1)
      ∧ r.2.mem ((c.tc : Thread Cert.SelectionReferenceIdeal.nD Cert.SelectionReferenceIdeal.τ).loc Cert.SelectionReferenceIdeal.main_arg2) = m ((c.tc : Thread Cert.SelectionReferenceIdeal.nD Cert.SelectionReferenceIdeal.τ).loc Cert.SelectionReferenceIdeal.main_arg2)
      ∧ r.2.mem ((c.tc : Thread Cert.SelectionReferenceIdeal.nD Cert.SelectionReferenceIdeal.τ).loc Cert.SelectionReferenceIdeal.main_arg3) = m ((c.tc : Thread Cert.SelectionReferenceIdeal.nD Cert.SelectionReferenceIdeal.τ).loc Cert.SelectionReferenceIdeal.main_arg3)
      ∧ r.2.mem ((c.tc : Thread Cert.SelectionReferenceIdeal.nD Cert.SelectionReferenceIdeal.τ).loc Cert.SelectionReferenceIdeal.main_arg4) = m ((c.tc : Thread Cert.SelectionReferenceIdeal.nD Cert.SelectionReferenceIdeal.τ).loc Cert.SelectionReferenceIdeal.main_arg4)
      ∧ r.2.mem ((c.tc : Thread Cert.SelectionReferenceIdeal.nD Cert.SelectionReferenceIdeal.τ).loc Cert.SelectionReferenceIdeal.main_arg5) = m ((c.tc : Thread Cert.SelectionReferenceIdeal.nD Cert.SelectionReferenceIdeal.τ).loc Cert.SelectionReferenceIdeal.main_arg5)
      ∧ r.2.mem ((c.tc : Thread Cert.SelectionReferenceIdeal.nD Cert.SelectionReferenceIdeal.τ).loc Cert.SelectionReferenceIdeal.main_arg6) = m ((c.tc : Thread Cert.SelectionReferenceIdeal.nD Cert.SelectionReferenceIdeal.τ).loc Cert.SelectionReferenceIdeal.main_arg6)
      ∧ r.2.mem ((c.tc : Thread Cert.SelectionReferenceIdeal.nD Cert.SelectionReferenceIdeal.τ).loc Cert.SelectionReferenceIdeal.main_arg7) = m ((c.tc : Thread Cert.SelectionReferenceIdeal.nD Cert.SelectionReferenceIdeal.τ).loc Cert.SelectionReferenceIdeal.main_arg7))
      ∧ r.2.sem = fun _ => 0)

def quiescent_SelectionReferenceIdeal_pre_finite [hSelectionReferenceIdeal : Cert.SelectionReferenceIdeal.Facts] [hPre_finite : Cert.Pre_finite.Facts] : Prop :=
  ∀ (m : (ℓ : Loc Cert.SelectionReferenceIdeal.nD Cert.SelectionReferenceIdeal.τ Cert.SelectionReferenceIdeal.sig) → Buf (Elt Ideal) ℓ) (g : Dev Cert.SelectionReferenceIdeal.nD → PrngReg), Pre_SelectionReferenceIdeal_finite m →
    θ_run (Cert.SelectionReferenceIdeal.defs (F := Ideal)) (onTc (τ := Cert.SelectionReferenceIdeal.τ) (Cert.SelectionReferenceIdeal.main (F := Ideal))) ⟨m, fun _ => 0, g⟩ (fun r => (∀ c : Dev Cert.SelectionReferenceIdeal.nD,
      r.2.mem ((c.tc : Thread Cert.SelectionReferenceIdeal.nD Cert.SelectionReferenceIdeal.τ).loc Cert.SelectionReferenceIdeal.main_arg0) = m ((c.tc : Thread Cert.SelectionReferenceIdeal.nD Cert.SelectionReferenceIdeal.τ).loc Cert.SelectionReferenceIdeal.main_arg0)
      ∧ r.2.mem ((c.tc : Thread Cert.SelectionReferenceIdeal.nD Cert.SelectionReferenceIdeal.τ).loc Cert.SelectionReferenceIdeal.main_arg1) = m ((c.tc : Thread Cert.SelectionReferenceIdeal.nD Cert.SelectionReferenceIdeal.τ).loc Cert.SelectionReferenceIdeal.main_arg1)
      ∧ r.2.mem ((c.tc : Thread Cert.SelectionReferenceIdeal.nD Cert.SelectionReferenceIdeal.τ).loc Cert.SelectionReferenceIdeal.main_arg2) = m ((c.tc : Thread Cert.SelectionReferenceIdeal.nD Cert.SelectionReferenceIdeal.τ).loc Cert.SelectionReferenceIdeal.main_arg2)
      ∧ r.2.mem ((c.tc : Thread Cert.SelectionReferenceIdeal.nD Cert.SelectionReferenceIdeal.τ).loc Cert.SelectionReferenceIdeal.main_arg3) = m ((c.tc : Thread Cert.SelectionReferenceIdeal.nD Cert.SelectionReferenceIdeal.τ).loc Cert.SelectionReferenceIdeal.main_arg3)
      ∧ r.2.mem ((c.tc : Thread Cert.SelectionReferenceIdeal.nD Cert.SelectionReferenceIdeal.τ).loc Cert.SelectionReferenceIdeal.main_arg4) = m ((c.tc : Thread Cert.SelectionReferenceIdeal.nD Cert.SelectionReferenceIdeal.τ).loc Cert.SelectionReferenceIdeal.main_arg4)
      ∧ r.2.mem ((c.tc : Thread Cert.SelectionReferenceIdeal.nD Cert.SelectionReferenceIdeal.τ).loc Cert.SelectionReferenceIdeal.main_arg5) = m ((c.tc : Thread Cert.SelectionReferenceIdeal.nD Cert.SelectionReferenceIdeal.τ).loc Cert.SelectionReferenceIdeal.main_arg5)
      ∧ r.2.mem ((c.tc : Thread Cert.SelectionReferenceIdeal.nD Cert.SelectionReferenceIdeal.τ).loc Cert.SelectionReferenceIdeal.main_arg6) = m ((c.tc : Thread Cert.SelectionReferenceIdeal.nD Cert.SelectionReferenceIdeal.τ).loc Cert.SelectionReferenceIdeal.main_arg6)
      ∧ r.2.mem ((c.tc : Thread Cert.SelectionReferenceIdeal.nD Cert.SelectionReferenceIdeal.τ).loc Cert.SelectionReferenceIdeal.main_arg7) = m ((c.tc : Thread Cert.SelectionReferenceIdeal.nD Cert.SelectionReferenceIdeal.τ).loc Cert.SelectionReferenceIdeal.main_arg7))
      ∧ r.2.sem = fun _ => 0)

def preserves_Kernel_KernelIdeal : Prop :=
  True

def algebraic_KernelIdeal_ReferenceIdeal_pre_selected [hKernelIdeal : Cert.KernelIdeal.Facts] [hReferenceIdeal : Cert.ReferenceIdeal.Facts] [hPre_selected : Cert.Pre_selected.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_selected m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Selection_SelectionIdeal : Prop :=
  True

def algebraic_SelectionIdeal_SelectionReferenceIdeal_pre_finite [hSelectionIdeal : Cert.SelectionIdeal.Facts] [hSelectionReferenceIdeal : Cert.SelectionReferenceIdeal.Facts] [hPre_finite : Cert.Pre_finite.Facts] : Prop :=
  ∀ (m : (ℓ : Loc Cert.SelectionIdeal.nD Cert.SelectionIdeal.τ Cert.SelectionIdeal.sig) → Buf (Elt Ideal) ℓ) (g : Dev Cert.SelectionIdeal.nD → PrngReg)
    (m' : (ℓ : Loc Cert.SelectionReferenceIdeal.nD Cert.SelectionReferenceIdeal.τ Cert.SelectionReferenceIdeal.sig) → Buf (Elt Ideal) ℓ) (g' : Dev Cert.SelectionReferenceIdeal.nD → PrngReg), Pre_SelectionIdeal_finite m →
    (∀ c : Dev Cert.SelectionIdeal.nD,
      m' ((c.tc : Thread Cert.SelectionReferenceIdeal.nD Cert.SelectionReferenceIdeal.τ).loc Cert.SelectionReferenceIdeal.main_arg0) = m ((c.tc : Thread Cert.SelectionIdeal.nD Cert.SelectionIdeal.τ).loc Cert.SelectionIdeal.main_arg0)
      ∧ m' ((c.tc : Thread Cert.SelectionReferenceIdeal.nD Cert.SelectionReferenceIdeal.τ).loc Cert.SelectionReferenceIdeal.main_arg1) = m ((c.tc : Thread Cert.SelectionIdeal.nD Cert.SelectionIdeal.τ).loc Cert.SelectionIdeal.main_arg1)
      ∧ m' ((c.tc : Thread Cert.SelectionReferenceIdeal.nD Cert.SelectionReferenceIdeal.τ).loc Cert.SelectionReferenceIdeal.main_arg2) = m ((c.tc : Thread Cert.SelectionIdeal.nD Cert.SelectionIdeal.τ).loc Cert.SelectionIdeal.main_arg2)
      ∧ m' ((c.tc : Thread Cert.SelectionReferenceIdeal.nD Cert.SelectionReferenceIdeal.τ).loc Cert.SelectionReferenceIdeal.main_arg3) = m ((c.tc : Thread Cert.SelectionIdeal.nD Cert.SelectionIdeal.τ).loc Cert.SelectionIdeal.main_arg3)
      ∧ m' ((c.tc : Thread Cert.SelectionReferenceIdeal.nD Cert.SelectionReferenceIdeal.τ).loc Cert.SelectionReferenceIdeal.main_arg4) = m ((c.tc : Thread Cert.SelectionIdeal.nD Cert.SelectionIdeal.τ).loc Cert.SelectionIdeal.main_arg4)
      ∧ m' ((c.tc : Thread Cert.SelectionReferenceIdeal.nD Cert.SelectionReferenceIdeal.τ).loc Cert.SelectionReferenceIdeal.main_arg5) = m ((c.tc : Thread Cert.SelectionIdeal.nD Cert.SelectionIdeal.τ).loc Cert.SelectionIdeal.main_arg5)
      ∧ m' ((c.tc : Thread Cert.SelectionReferenceIdeal.nD Cert.SelectionReferenceIdeal.τ).loc Cert.SelectionReferenceIdeal.main_arg6) = m ((c.tc : Thread Cert.SelectionIdeal.nD Cert.SelectionIdeal.τ).loc Cert.SelectionIdeal.main_arg6)
      ∧ m' ((c.tc : Thread Cert.SelectionReferenceIdeal.nD Cert.SelectionReferenceIdeal.τ).loc Cert.SelectionReferenceIdeal.main_arg7) = m ((c.tc : Thread Cert.SelectionIdeal.nD Cert.SelectionIdeal.τ).loc Cert.SelectionIdeal.main_arg7)) →
    ∃ (v0 : (c : Dev Cert.SelectionIdeal.nD) → Buf (Elt Ideal) ((c.tc : Thread Cert.SelectionIdeal.nD Cert.SelectionIdeal.τ).loc Cert.SelectionIdeal.main_v6)),
      θ_run (Cert.SelectionIdeal.defs (F := Ideal)) (onTc (τ := Cert.SelectionIdeal.τ) (Cert.SelectionIdeal.main (F := Ideal))) ⟨m, fun _ => 0, g⟩ (fun r => ∀ c : Dev Cert.SelectionIdeal.nD,
          r.2.mem ((c.tc : Thread Cert.SelectionIdeal.nD Cert.SelectionIdeal.τ).loc Cert.SelectionIdeal.main_v6) = v0 c
          ∧ r.2.mem ((c.tc : Thread Cert.SelectionIdeal.nD Cert.SelectionIdeal.τ).loc Cert.SelectionIdeal.main_arg0) = m ((c.tc : Thread Cert.SelectionIdeal.nD Cert.SelectionIdeal.τ).loc Cert.SelectionIdeal.main_arg0)
          ∧ r.2.mem ((c.tc : Thread Cert.SelectionIdeal.nD Cert.SelectionIdeal.τ).loc Cert.SelectionIdeal.main_arg1) = m ((c.tc : Thread Cert.SelectionIdeal.nD Cert.SelectionIdeal.τ).loc Cert.SelectionIdeal.main_arg1)
          ∧ r.2.mem ((c.tc : Thread Cert.SelectionIdeal.nD Cert.SelectionIdeal.τ).loc Cert.SelectionIdeal.main_arg2) = m ((c.tc : Thread Cert.SelectionIdeal.nD Cert.SelectionIdeal.τ).loc Cert.SelectionIdeal.main_arg2)
          ∧ r.2.mem ((c.tc : Thread Cert.SelectionIdeal.nD Cert.SelectionIdeal.τ).loc Cert.SelectionIdeal.main_arg3) = m ((c.tc : Thread Cert.SelectionIdeal.nD Cert.SelectionIdeal.τ).loc Cert.SelectionIdeal.main_arg3)
          ∧ r.2.mem ((c.tc : Thread Cert.SelectionIdeal.nD Cert.SelectionIdeal.τ).loc Cert.SelectionIdeal.main_arg4) = m ((c.tc : Thread Cert.SelectionIdeal.nD Cert.SelectionIdeal.τ).loc Cert.SelectionIdeal.main_arg4)
          ∧ r.2.mem ((c.tc : Thread Cert.SelectionIdeal.nD Cert.SelectionIdeal.τ).loc Cert.SelectionIdeal.main_arg5) = m ((c.tc : Thread Cert.SelectionIdeal.nD Cert.SelectionIdeal.τ).loc Cert.SelectionIdeal.main_arg5)
          ∧ r.2.mem ((c.tc : Thread Cert.SelectionIdeal.nD Cert.SelectionIdeal.τ).loc Cert.SelectionIdeal.main_arg6) = m ((c.tc : Thread Cert.SelectionIdeal.nD Cert.SelectionIdeal.τ).loc Cert.SelectionIdeal.main_arg6)
          ∧ r.2.mem ((c.tc : Thread Cert.SelectionIdeal.nD Cert.SelectionIdeal.τ).loc Cert.SelectionIdeal.main_arg7) = m ((c.tc : Thread Cert.SelectionIdeal.nD Cert.SelectionIdeal.τ).loc Cert.SelectionIdeal.main_arg7))
      ∧ θ_run (Cert.SelectionReferenceIdeal.defs (F := Ideal)) (onTc (τ := Cert.SelectionReferenceIdeal.τ) (Cert.SelectionReferenceIdeal.main (F := Ideal))) ⟨m', fun _ => 0, g'⟩ (fun r => ∀ c : Dev Cert.SelectionReferenceIdeal.nD,
          r.2.mem ((c.tc : Thread Cert.SelectionReferenceIdeal.nD Cert.SelectionReferenceIdeal.τ).loc Cert.SelectionReferenceIdeal.main_indices) = v0 c
          ∧ r.2.mem ((c.tc : Thread Cert.SelectionReferenceIdeal.nD Cert.SelectionReferenceIdeal.τ).loc Cert.SelectionReferenceIdeal.main_arg0) = m' ((c.tc : Thread Cert.SelectionReferenceIdeal.nD Cert.SelectionReferenceIdeal.τ).loc Cert.SelectionReferenceIdeal.main_arg0)
          ∧ r.2.mem ((c.tc : Thread Cert.SelectionReferenceIdeal.nD Cert.SelectionReferenceIdeal.τ).loc Cert.SelectionReferenceIdeal.main_arg1) = m' ((c.tc : Thread Cert.SelectionReferenceIdeal.nD Cert.SelectionReferenceIdeal.τ).loc Cert.SelectionReferenceIdeal.main_arg1)
          ∧ r.2.mem ((c.tc : Thread Cert.SelectionReferenceIdeal.nD Cert.SelectionReferenceIdeal.τ).loc Cert.SelectionReferenceIdeal.main_arg2) = m' ((c.tc : Thread Cert.SelectionReferenceIdeal.nD Cert.SelectionReferenceIdeal.τ).loc Cert.SelectionReferenceIdeal.main_arg2)
          ∧ r.2.mem ((c.tc : Thread Cert.SelectionReferenceIdeal.nD Cert.SelectionReferenceIdeal.τ).loc Cert.SelectionReferenceIdeal.main_arg3) = m' ((c.tc : Thread Cert.SelectionReferenceIdeal.nD Cert.SelectionReferenceIdeal.τ).loc Cert.SelectionReferenceIdeal.main_arg3)
          ∧ r.2.mem ((c.tc : Thread Cert.SelectionReferenceIdeal.nD Cert.SelectionReferenceIdeal.τ).loc Cert.SelectionReferenceIdeal.main_arg4) = m' ((c.tc : Thread Cert.SelectionReferenceIdeal.nD Cert.SelectionReferenceIdeal.τ).loc Cert.SelectionReferenceIdeal.main_arg4)
          ∧ r.2.mem ((c.tc : Thread Cert.SelectionReferenceIdeal.nD Cert.SelectionReferenceIdeal.τ).loc Cert.SelectionReferenceIdeal.main_arg5) = m' ((c.tc : Thread Cert.SelectionReferenceIdeal.nD Cert.SelectionReferenceIdeal.τ).loc Cert.SelectionReferenceIdeal.main_arg5)
          ∧ r.2.mem ((c.tc : Thread Cert.SelectionReferenceIdeal.nD Cert.SelectionReferenceIdeal.τ).loc Cert.SelectionReferenceIdeal.main_arg6) = m' ((c.tc : Thread Cert.SelectionReferenceIdeal.nD Cert.SelectionReferenceIdeal.τ).loc Cert.SelectionReferenceIdeal.main_arg6)
          ∧ r.2.mem ((c.tc : Thread Cert.SelectionReferenceIdeal.nD Cert.SelectionReferenceIdeal.τ).loc Cert.SelectionReferenceIdeal.main_arg7) = m' ((c.tc : Thread Cert.SelectionReferenceIdeal.nD Cert.SelectionReferenceIdeal.τ).loc Cert.SelectionReferenceIdeal.main_arg7))

def Claim : Prop :=
  ∃ (hKernel : Cert.Kernel.Facts) (hKernelIdeal : Cert.KernelIdeal.Facts) (hReferenceIdeal : Cert.ReferenceIdeal.Facts) (hSelection : Cert.Selection.Facts) (hSelectionIdeal : Cert.SelectionIdeal.Facts) (hSelectionReferenceIdeal : Cert.SelectionReferenceIdeal.Facts) (hPre_in_range : Cert.Pre_in_range.Facts) (hPre_selected : Cert.Pre_selected.Facts) (hPre_finite : Cert.Pre_finite.Facts),
    quiescent_Kernel (hKernel := hKernel) (hPre_in_range := hPre_in_range)
    ∧ quiescent_KernelIdeal (hKernelIdeal := hKernelIdeal) (hPre_in_range := hPre_in_range)
    ∧ quiescent_KernelIdeal_pre_selected (hKernelIdeal := hKernelIdeal) (hPre_selected := hPre_selected)
    ∧ quiescent_ReferenceIdeal (hReferenceIdeal := hReferenceIdeal)
    ∧ quiescent_ReferenceIdeal_pre_selected (hReferenceIdeal := hReferenceIdeal) (hPre_selected := hPre_selected)
    ∧ quiescent_Selection (hSelection := hSelection)
    ∧ quiescent_SelectionIdeal (hSelectionIdeal := hSelectionIdeal)
    ∧ quiescent_SelectionIdeal_pre_finite (hSelectionIdeal := hSelectionIdeal) (hPre_finite := hPre_finite)
    ∧ quiescent_SelectionReferenceIdeal (hSelectionReferenceIdeal := hSelectionReferenceIdeal)
    ∧ quiescent_SelectionReferenceIdeal_pre_finite (hSelectionReferenceIdeal := hSelectionReferenceIdeal) (hPre_finite := hPre_finite)
    ∧ preserves_Kernel_KernelIdeal
    ∧ algebraic_KernelIdeal_ReferenceIdeal_pre_selected (hKernelIdeal := hKernelIdeal) (hReferenceIdeal := hReferenceIdeal) (hPre_selected := hPre_selected)
    ∧ preserves_Selection_SelectionIdeal
    ∧ algebraic_SelectionIdeal_SelectionReferenceIdeal_pre_finite (hSelectionIdeal := hSelectionIdeal) (hSelectionReferenceIdeal := hSelectionReferenceIdeal) (hPre_finite := hPre_finite)
-- ==== Pre_finite.lean ====
abbrev S4x2048x1024 : Shape := ⟨3, ![4, 2048, 1024]⟩
abbrev S8192x1024 : Shape := ⟨2, ![8192, 1024]⟩
abbrev S4x8192 : Shape := ⟨2, ![4, 8192]⟩
abbrev S1024 : Shape := ⟨1, ![1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S4x8192 : S_.BroadcastsInDim S4x8192 (![] : Fin 0 → Fin S4x8192.rank)
  reducesTo_S4x8192_S_d0_1 : S4x8192.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S_ .f32) (main_v33 : IVec S_ 1) : IVec S_ 1 :=
  let main_v34 : FVec F S_ .f32 := Host.absf main_arg7
  let main_cst_12 : FVec F S_ .f32 := constant S_ .f32 0x7F800000#32
  let main_v35 : IVec S_ 1 := cmpf .olt main_v34 main_cst_12
  let main_v36 : IVec S_ 1 := andi main_v33 main_v35
  main_v36

def fn_part1 {F : FTy → Type} [FloatOps F] (main_arg4 : FVec F S1024 .f32) (main_arg5 : FVec F S1024x1024 .f32) (main_arg6 : FVec F S1024 .f32) (main_arg7 : FVec F S_ .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S4x2048x1024 .f32) (main_arg1 : FVec F S8192x1024 .f32) (main_arg2 : FVec F S4x8192 .f32) (main_arg3 : FVec F S1024 .f32) (main_arg4 : FVec F S1024 .f32) (main_arg5 : FVec F S1024x1024 .f32) (main_arg6 : FVec F S1024 .f32) (main_arg7 : FVec F S_ .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S4x8192 .f32 := Host.absf main_arg2
  let main_cst_2 : FVec F S_ .f32 := constant S_ .f32 0x7F800000#32
  let main_v10 : FVec F S4x8192 .f32 := broadcastInDim S4x8192 ![] bcast_S_S4x8192 main_cst_2
  let main_v11 : IVec S4x8192 1 := cmpf .olt main_v9 main_v10
  let main_c_3 : IVec S_ 1 := constantI S_ 1 1#1
  let main_v12 : IVec S_ 1 := (fun x v => Host.reduce IntOp.andi x v reducesTo_S4x8192_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Pre_in_range.lean ====
abbrev S4x2048x1024 : Shape := ⟨3, ![4, 2048, 1024]⟩
abbrev S8192x1024 : Shape := ⟨2, ![8192, 1024]⟩
abbrev S4x64 : Shape := ⟨2, ![4, 64]⟩
abbrev S1024x1024 : Shape := ⟨2, ![1024, 1024]⟩
abbrev S1024 : Shape := ⟨1, ![1024]⟩
abbrev S_ : Shape := ⟨0, ![]⟩

class Facts : Prop where
  bcast_S_S4x64 : S_.BroadcastsInDim S4x64 (![] : Fin 0 → Fin S4x64.rank)
  reducesTo_S4x64_S_d0_1 : S4x64.ReducesTo [0, 1] S_
  h_S_ : 0 < S_.numel

variable [Facts]

def fn {F : FTy → Type} [FloatOps F] (main_arg0 : FVec F S4x2048x1024 .f32) (main_arg1 : FVec F S8192x1024 .f32) (main_arg2 : IVec S4x64 32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024 .f32) (main_arg12 : FVec F S1024 .f32) (main_arg13 : FVec F S_ .f32) : IVec S_ 1 :=
  let main_c : IVec S_ 32 := constantI S_ 32 0#32
  let main_v0 : IVec S4x64 32 := broadcastInDim S4x64 ![] bcast_S_S4x64 main_c
  let main_v1 : IVec S4x64 1 := cmpi .sge main_arg2 main_v0
  let main_c_0 : IVec S_ 32 := constantI S_ 32 8192#32
  let main_v2 : IVec S4x64 32 := broadcastInDim S4x64 ![] bcast_S_S4x64 main_c_0
  let main_v3 : IVec S4x64 1 := cmpi .slt main_arg2 main_v2
  let main_v4 : IVec S4x64 1 := andi main_v1 main_v3
  let main_c_1 : IVec S_ 1 := constantI S_ 1 1#1
  let main_v5 : IVec S_ 1 := (fun x v => Host.reduce IntOp.andi x v reducesTo_S4x64_S_d0_1 h_S_) main_v4 main_c_1
  main_v5
-- ==== Pre_selected.lean ====
abbrev S4x2048x1024 : Shape := ⟨3, ![4, 2048, 1024]⟩
abbrev S8192x1024 : Shape := ⟨2, ![8192, 1024]⟩
abbrev S4x64 : Shape := ⟨2, ![4, 64]⟩
abbrev S1024x1024 : Shape := ⟨2, ![1024, 1024]⟩
abbrev S1024 : Shape := ⟨1, ![1024]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x64x1 : Shape := ⟨3, ![4, 64, 1]⟩
abbrev S4x1x64 : Shape := ⟨3, ![4, 1, 64]⟩
abbrev S4x64x64 : Shape := ⟨3, ![4, 64, 64]⟩
abbrev S1x64x64 : Shape := ⟨3, ![1, 64, 64]⟩

class Facts : Prop where
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S4x64 : S_.BroadcastsInDim S4x64 (![] : Fin 0 → Fin S4x64.rank)
  reducesTo_S4x64_S_d0_1 : S4x64.ReducesTo [0, 1] S_
  h_S_ : 0 < S_.numel
  bcast_S4x64_S4x64x1_0_1 : S4x64.BroadcastsInDim S4x64x1 (![0, 1] : Fin 2 → Fin S4x64x1.rank)
  bcast_S4x64_S4x1x64_0_2 : S4x64.BroadcastsInDim S4x1x64 (![0, 2] : Fin 2 → Fin S4x1x64.rank)
  bcast_S4x64x1_S4x64x64_0_1_2 : S4x64x1.BroadcastsInDim S4x64x64 (![0, 1, 2] : Fin 3 → Fin S4x64x64.rank)
  bcast_S4x1x64_S4x64x64_0_1_2 : S4x1x64.BroadcastsInDim S4x64x64 (![0, 1, 2] : Fin 3 → Fin S4x64x64.rank)
  bcast_S64x64_S1x64x64_1_2 : S64x64.BroadcastsInDim S1x64x64 (![1, 2] : Fin 2 → Fin S1x64x64.rank)
  bcast_S1x64x64_S4x64x64_0_1_2 : S1x64x64.BroadcastsInDim S4x64x64 (![0, 1, 2] : Fin 3 → Fin S4x64x64.rank)
  reducesTo_S4x64x64_S_d0_1_2 : S4x64x64.ReducesTo [0, 1, 2] S_
  bcast_S_S4x2048x1024 : S_.BroadcastsInDim S4x2048x1024 (![] : Fin 0 → Fin S4x2048x1024.rank)
  reducesTo_S4x2048x1024_S_d0_1_2 : S4x2048x1024.ReducesTo [0, 1, 2] S_
  bcast_S_S8192x1024 : S_.BroadcastsInDim S8192x1024 (![] : Fin 0 → Fin S8192x1024.rank)
  reducesTo_S8192x1024_S_d0_1 : S8192x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg12 : FVec F S1024 .f32) (main_v53 : IVec S_ 1) (main_v54 : FVec F S1024 .f32) (main_cst_14 : FVec F S_ .f32) : IVec S_ 1 :=
  let main_v55 : FVec F S1024 .f32 := broadcastInDim S1024 ![] bcast_S_S1024 main_cst_14
  let main_v56 : IVec S1024 1 := cmpf .olt main_v54 main_v55
  let main_c_15 : IVec S_ 1 := constantI S_ 1 1#1
  let main_v57 : IVec S_ 1 := (fun x v => Host.reduce IntOp.andi x v reducesTo_S1024_S_d0 h_S_) main_v56 main_c_15
  let main_v58 : IVec S_ 1 := andi main_v53 main_v57
  let main_v59 : FVec F S1024 .f32 := Host.absf main_arg12
  let main_cst_16 : FVec F S_ .f32 := constant S_ .f32 0x7F800000#32
  let main_v60 : FVec F S1024 .f32 := broadcastInDim S1024 ![] bcast_S_S1024 main_cst_16
  let main_v61 : IVec S1024 1 := cmpf .olt main_v59 main_v60
  let main_c_17 : IVec S_ 1 := constantI S_ 1 1#1
  let main_v62 : IVec S_ 1 := (fun x v => Host.reduce IntOp.andi x v reducesTo_S1024_S_d0 h_S_) main_v61 main_c_17
  let main_v63 : IVec S_ 1 := andi main_v58 main_v62
  main_v63

def fn_part2 {F : FTy → Type} [FloatOps F] (main_arg4 : FVec F S1024 .f32) (main_arg5 : FVec F S1024x1024 .f32) (main_arg6 : FVec F S1024 .f32) (main_arg11 : FVec F S1024 .f32) (main_arg12 : FVec F S1024 .f32) (main_v33 : IVec S_ 1) (main_v37 : IVec S_ 1) : IVec S_ 1 :=
  let main_v38 : IVec S_ 1 := andi main_v33 main_v37
  let main_v39 : FVec F S1024 .f32 := Host.absf main_arg4
  let main_cst_8 : FVec F S_ .f32 := constant S_ .f32 0x7F800000#32
  let main_v40 : FVec F S1024 .f32 := broadcastInDim S1024 ![] bcast_S_S1024 main_cst_8
  let main_v41 : IVec S1024 1 := cmpf .olt main_v39 main_v40
  let main_c_9 : IVec S_ 1 := constantI S_ 1 1#1
  let main_v42 : IVec S_ 1 := (fun x v => Host.reduce IntOp.andi x v reducesTo_S1024_S_d0 h_S_) main_v41 main_c_9
  let main_v43 : IVec S_ 1 := andi main_v38 main_v42
  let main_v44 : FVec F S1024x1024 .f32 := Host.absf main_arg5
  let main_cst_10 : FVec F S_ .f32 := constant S_ .f32 0x7F800000#32
  let main_v45 : FVec F S1024x1024 .f32 := broadcastInDim S1024x1024 ![] bcast_S_S1024x1024 main_cst_10
  let main_v46 : IVec S1024x1024 1 := cmpf .olt main_v44 main_v45
  let main_c_11 : IVec S_ 1 := constantI S_ 1 1#1
  let main_v47 : IVec S_ 1 := (fun x v => Host.reduce IntOp.andi x v reducesTo_S1024x1024_S_d0_1 h_S_) main_v46 main_c_11
  let main_v48 : IVec S_ 1 := andi main_v43 main_v47
  let main_v49 : FVec F S1024 .f32 := Host.absf main_arg6
  let main_cst_12 : FVec F S_ .f32 := constant S_ .f32 0x7F800000#32
  let main_v50 : FVec F S1024 .f32 := broadcastInDim S1024 ![] bcast_S_S1024 main_cst_12
  let main_v51 : IVec S1024 1 := cmpf .olt main_v49 main_v50
  let main_c_13 : IVec S_ 1 := constantI S_ 1 1#1
  let main_v52 : IVec S_ 1 := (fun x v => Host.reduce IntOp.andi x v reducesTo_S1024_S_d0 h_S_) main_v51 main_c_13
  let main_v53 : IVec S_ 1 := andi main_v48 main_v52
  let main_v54 : FVec F S1024 .f32 := Host.absf main_arg11
  let main_cst_14 : FVec F S_ .f32 := constant S_ .f32 0x7F800000#32
  fn_part3 (F := F) main_arg12 main_v53 main_v54 main_cst_14

def fn_part1 {F : FTy → Type} [FloatOps F] (main_arg0 : FVec F S4x2048x1024 .f32) (main_arg1 : FVec F S8192x1024 .f32) (main_arg3 : FVec F S1024x1024 .f32) (main_arg4 : FVec F S1024 .f32) (main_arg5 : FVec F S1024x1024 .f32) (main_arg6 : FVec F S1024 .f32) (main_arg11 : FVec F S1024 .f32) (main_arg12 : FVec F S1024 .f32) (main_v12 : IVec S_ 1) (main_v17 : IVec S4x64x64 1) (main_v20 : IVec S4x64x64 1) : IVec S_ 1 :=
  let main_v21 : IVec S4x64x64 1 := ori main_v17 main_v20
  let main_c_2 : IVec S_ 1 := constantI S_ 1 1#1
  let main_v22 : IVec S_ 1 := (fun x v => Host.reduce IntOp.andi x v reducesTo_S4x64x64_S_d0_1_2 h_S_) main_v21 main_c_2
  let main_v23 : IVec S_ 1 := andi main_v12 main_v22
  let main_v24 : FVec F S4x2048x1024 .f32 := Host.absf main_arg0
  let main_cst : FVec F S_ .f32 := constant S_ .f32 0x7F800000#32
  let main_v25 : FVec F S4x2048x1024 .f32 := broadcastInDim S4x2048x1024 ![] bcast_S_S4x2048x1024 main_cst
  let main_v26 : IVec S4x2048x1024 1 := cmpf .olt main_v24 main_v25
  let main_c_3 : IVec S_ 1 := constantI S_ 1 1#1
  let main_v27 : IVec S_ 1 := (fun x v => Host.reduce IntOp.andi x v reducesTo_S4x2048x1024_S_d0_1_2 h_S_) main_v26 main_c_3
  let main_v28 : IVec S_ 1 := andi main_v23 main_v27
  let main_v29 : FVec F S8192x1024 .f32 := Host.absf main_arg1
  let main_cst_4 : FVec F S_ .f32 := constant S_ .f32 0x7F800000#32
  let main_v30 : FVec F S8192x1024 .f32 := broadcastInDim S8192x1024 ![] bcast_S_S8192x1024 main_cst_4
  let main_v31 : IVec S8192x1024 1 := cmpf .olt main_v29 main_v30
  let main_c_5 : IVec S_ 1 := constantI S_ 1 1#1
  let main_v32 : IVec S_ 1 := (fun x v => Host.reduce IntOp.andi x v reducesTo_S8192x1024_S_d0_1 h_S_) main_v31 main_c_5
  let main_v33 : IVec S_ 1 := andi main_v28 main_v32
  let main_v34 : FVec F S1024x1024 .f32 := Host.absf main_arg3
  let main_cst_6 : FVec F S_ .f32 := constant S_ .f32 0x7F800000#32
  let main_v35 : FVec F S1024x1024 .f32 := broadcastInDim S1024x1024 ![] bcast_S_S1024x1024 main_cst_6
  let main_v36 : IVec S1024x1024 1 := cmpf .olt main_v34 main_v35
  let main_c_7 : IVec S_ 1 := constantI S_ 1 1#1
  let main_v37 : IVec S_ 1 := (fun x v => Host.reduce IntOp.andi x v reducesTo_S1024x1024_S_d0_1 h_S_) main_v36 main_c_7
  fn_part2 (F := F) main_arg4 main_arg5 main_arg6 main_arg11 main_arg12 main_v33 main_v37

def fn {F : FTy → Type} [FloatOps F] (main_arg0 : FVec F S4x2048x1024 .f32) (main_arg1 : FVec F S8192x1024 .f32) (main_arg2 : IVec S4x64 32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024 .f32) (main_arg12 : FVec F S1024 .f32) (main_arg13 : FVec F S_ .f32) : IVec S_ 1 :=
  let main_v0 : IVec S64 32 := iotaInDim S64 32 0
  let main_v1 : IVec S64x1 32 := broadcastInDim S64x1 ![0] bcast_S64_S64x1_0 main_v0
  let main_v2 : IVec S64 32 := iotaInDim S64 32 0
  let main_v3 : IVec S1x64 32 := broadcastInDim S1x64 ![1] bcast_S64_S1x64_1 main_v2
  let main_v4 : IVec S64x64 32 := broadcastInDim S64x64 ![0, 1] bcast_S64x1_S64x64_0_1 main_v1
  let main_v5 : IVec S64x64 32 := broadcastInDim S64x64 ![0, 1] bcast_S1x64_S64x64_0_1 main_v3
  let main_v6 : IVec S64x64 1 := cmpi .slt main_v4 main_v5
  let main_c : IVec S_ 32 := constantI S_ 32 0#32
  let main_v7 : IVec S4x64 32 := broadcastInDim S4x64 ![] bcast_S_S4x64 main_c
  let main_v8 : IVec S4x64 1 := cmpi .sge main_arg2 main_v7
  let main_c_0 : IVec S_ 32 := constantI S_ 32 8192#32
  let main_v9 : IVec S4x64 32 := broadcastInDim S4x64 ![] bcast_S_S4x64 main_c_0
  let main_v10 : IVec S4x64 1 := cmpi .slt main_arg2 main_v9
  let main_v11 : IVec S4x64 1 := andi main_v8 main_v10
  let main_c_1 : IVec S_ 1 := constantI S_ 1 1#1
  let main_v12 : IVec S_ 1 := (fun x v => Host.reduce IntOp.andi x v reducesTo_S4x64_S_d0_1 h_S_) main_v11 main_c_1
  let main_v13 : IVec S4x64x1 32 := broadcastInDim S4x64x1 ![0, 1] bcast_S4x64_S4x64x1_0_1 main_arg2
  let main_v14 : IVec S4x1x64 32 := broadcastInDim S4x1x64 ![0, 2] bcast_S4x64_S4x1x64_0_2 main_arg2
  let main_v15 : IVec S4x64x64 32 := broadcastInDim S4x64x64 ![0, 1, 2] bcast_S4x64x1_S4x64x64_0_1_2 main_v13
  let main_v16 : IVec S4x64x64 32 := broadcastInDim S4x64x64 ![0, 1, 2] bcast_S4x1x64_S4x64x64_0_1_2 main_v14
  let main_v17 : IVec S4x64x64 1 := cmpi .ne main_v15 main_v16
  let main_v18 : IVec S1x64x64 1 := broadcastInDim S1x64x64 ![1, 2] bcast_S64x64_S1x64x64_1_2 main_v6
  let main_v19 : IVec S1x64x64 1 := noti main_v18
  let main_v20 : IVec S4x64x64 1 := broadcastInDim S4x64x64 ![0, 1, 2] bcast_S1x64x64_S4x64x64_0_1_2 main_v19
  fn_part1 (F := F) main_arg0 main_arg1 main_arg3 main_arg4 main_arg5 main_arg6 main_arg11 main_arg12 main_v12 main_v17 main_v20
-- ==== Kernel.lean ====
abbrev S4x2048x1024 : Shape := ⟨3, ![4, 2048, 1024]⟩
abbrev S8192x1024 : Shape := ⟨2, ![8192, 1024]⟩
abbrev S4x64 : Shape := ⟨2, ![4, 64]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S1x1 : Shape := ⟨2, ![1, 1]⟩
abbrev S1024x1 : Shape := ⟨2, ![1024, 1]⟩
abbrev S1x512 : Shape := ⟨2, ![1, 512]⟩
abbrev S256 : Shape := ⟨1, ![256]⟩
abbrev S256x1024 : Shape := ⟨2, ![256, 1024]⟩
abbrev S8 : Shape := ⟨1, ![8]⟩
abbrev S8x1024 : Shape := ⟨2, ![8, 1024]⟩
abbrev S8x128 : Shape := ⟨2, ![8, 128]⟩
abbrev S8192x128 : Shape := ⟨2, ![8192, 128]⟩
abbrev S4x1024x1024 : Shape := ⟨3, ![4, 1024, 1024]⟩
abbrev S64x1024 : Shape := ⟨2, ![64, 1024]⟩
abbrev S1x64x1024 : Shape := ⟨3, ![1, 64, 1024]⟩
abbrev S16x64x1024 : Shape := ⟨3, ![16, 64, 1024]⟩
abbrev S1x1024x1024 : Shape := ⟨3, ![1, 1024, 1024]⟩
abbrev S4x1x64 : Shape := ⟨3, ![4, 1, 64]⟩
abbrev S1x512x1024 : Shape := ⟨3, ![1, 512, 1024]⟩
abbrev S1x1x64 : Shape := ⟨3, ![1, 1, 64]⟩
abbrev S512x1024 : Shape := ⟨2, ![512, 1024]⟩
abbrev S512 : Shape := ⟨1, ![512]⟩
abbrev S512x1 : Shape := ⟨2, ![512, 1]⟩
abbrev S1x64 : Shape := ⟨2, ![1, 64]⟩
abbrev S4x1x8192 : Shape := ⟨3, ![4, 1, 8192]⟩
abbrev S1x1x8192 : Shape := ⟨3, ![1, 1, 8192]⟩
abbrev S1x8192 : Shape := ⟨2, ![1, 8192]⟩
abbrev S4x8192 : Shape := ⟨2, ![4, 8192]⟩

abbrev nBuf : Table → Nat
  | .hbm => 61
  | .local .tc .vmem => 28
  | .local .tc .smem => 3
  | .local .scVector .vmem => 2
  | _ => 0

abbrev bufTy : (tb : Table) → Fin (nBuf tb) → BufTy
  | .hbm, ⟨0, _⟩ => ⟨S4x2048x1024, .f32⟩
  | .hbm, ⟨1, _⟩ => ⟨S8192x1024, .f32⟩
  | .hbm, ⟨2, _⟩ => ⟨S4x64, .i32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1, .f32⟩
  | .hbm, ⟨21, _⟩ => ⟨S1024x1024, .bf16⟩
  | .hbm, ⟨22, _⟩ => ⟨S1024x1024, .bf16⟩
  | .hbm, ⟨23, _⟩ => ⟨S1024x1024, .bf16⟩
  | .hbm, ⟨24, _⟩ => ⟨S1024x1024, .bf16⟩
  | .hbm, ⟨25, _⟩ => ⟨S1024, .i32⟩
  | .hbm, ⟨26, _⟩ => ⟨S_, .i32⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S_, .i32⟩
  | .hbm, ⟨32, _⟩ => ⟨S1024, .i32⟩
  | .hbm, ⟨33, _⟩ => ⟨S1024, .i1⟩
  | .hbm, ⟨34, _⟩ => ⟨S1024, .i32⟩
  | .hbm, ⟨35, _⟩ => ⟨S1024, .i32⟩
  | .hbm, ⟨36, _⟩ => ⟨S_, .i32⟩
  | .hbm, ⟨37, _⟩ => ⟨S1024, .i32⟩
  | .hbm, ⟨38, _⟩ => ⟨S1024, .i1⟩
  | .hbm, ⟨39, _⟩ => ⟨S1024, .i1⟩
  | .hbm, ⟨40, _⟩ => ⟨S_, .i32⟩
  | .hbm, ⟨41, _⟩ => ⟨S1024, .i32⟩
  | .hbm, ⟨42, _⟩ => ⟨S1024, .i32⟩
  | .hbm, ⟨43, _⟩ => ⟨S1024, .i32⟩
  | .hbm, ⟨44, _⟩ => ⟨S1024x1, .i32⟩
  | .hbm, ⟨45, _⟩ => ⟨S1x1024, .i32⟩
  | .hbm, ⟨46, _⟩ => ⟨S1024x1024, .i32⟩
  | .hbm, ⟨47, _⟩ => ⟨S1024x1024, .i32⟩
  | .hbm, ⟨48, _⟩ => ⟨S1024x1024, .i1⟩
  | .hbm, ⟨49, _⟩ => ⟨S1024x1024, .bf16⟩
  | .hbm, ⟨50, _⟩ => ⟨S_, .bf16⟩
  | .hbm, ⟨51, _⟩ => ⟨S1x512, .bf16⟩
  | .hbm, ⟨52, _⟩ => ⟨S256, .i32⟩
  | .hbm, ⟨53, _⟩ => ⟨S256x1024, .f32⟩
  | .hbm, ⟨54, _⟩ => ⟨S4x1024x1024, .bf16⟩
  | .hbm, ⟨55, _⟩ => ⟨S4x1024x1024, .bf16⟩
  | .hbm, ⟨56, _⟩ => ⟨S4x2048x1024, .f32⟩
  | .hbm, ⟨57, _⟩ => ⟨S4x1x64, .f32⟩
  | .hbm, ⟨58, _⟩ => ⟨S4x64, .f32⟩
  | .hbm, ⟨59, _⟩ => ⟨S4x1x8192, .f32⟩
  | .hbm, ⟨60, _⟩ => ⟨S4x8192, .f32⟩
  | .local .tc .vmem, ⟨0, _⟩ => ⟨S256x1024, .f32⟩
  | .local .tc .vmem, ⟨1, _⟩ => ⟨S1024x1024, .bf16⟩
  | .local .tc .vmem, ⟨2, _⟩ => ⟨S1x1024, .f32⟩
  | .local .tc .vmem, ⟨3, _⟩ => ⟨S1024x1024, .bf16⟩
  | .local .tc .vmem, ⟨4, _⟩ => ⟨S1x1024, .f32⟩
  | .local .tc .vmem, ⟨5, _⟩ => ⟨S1024x1024, .bf16⟩
  | .local .tc .vmem, ⟨6, _⟩ => ⟨S4x1024x1024, .bf16⟩
  | .local .tc .vmem, ⟨7, _⟩ => ⟨S4x1024x1024, .bf16⟩
  | .local .tc .vmem, ⟨8, _⟩ => ⟨S1x512x1024, .f32⟩
  | .local .tc .vmem, ⟨9, _⟩ => ⟨S1x512x1024, .f32⟩
  | .local .tc .vmem, ⟨10, _⟩ => ⟨S1x1024x1024, .bf16⟩
  | .local .tc .vmem, ⟨11, _⟩ => ⟨S1x1024x1024, .bf16⟩
  | .local .tc .vmem, ⟨12, _⟩ => ⟨S1x1024x1024, .bf16⟩
  | .local .tc .vmem, ⟨13, _⟩ => ⟨S1x1024x1024, .bf16⟩
  | .local .tc .vmem, ⟨14, _⟩ => ⟨S1024x1024, .bf16⟩
  | .local .tc .vmem, ⟨15, _⟩ => ⟨S1x512, .bf16⟩
  | .local .tc .vmem, ⟨16, _⟩ => ⟨S1024x1024, .bf16⟩
  | .local .tc .vmem, ⟨17, _⟩ => ⟨S1x1024, .f32⟩
  | .local .tc .vmem, ⟨18, _⟩ => ⟨S1024x1024, .bf16⟩
  | .local .tc .vmem, ⟨19, _⟩ => ⟨S1x1024, .f32⟩
  | .local .tc .vmem, ⟨20, _⟩ => ⟨S1x1024, .f32⟩
  | .local .tc .vmem, ⟨21, _⟩ => ⟨S1x1024, .f32⟩
  | .local .tc .vmem, ⟨22, _⟩ => ⟨S1x512x1024, .f32⟩
  | .local .tc .vmem, ⟨23, _⟩ => ⟨S1x512x1024, .f32⟩
  | .local .tc .vmem, ⟨24, _⟩ => ⟨S1x1x64, .f32⟩
  | .local .tc .vmem, ⟨25, _⟩ => ⟨S1x1x64, .f32⟩
  | .local .tc .vmem, ⟨26, _⟩ => ⟨S1x1x8192, .f32⟩
  | .local .tc .vmem, ⟨27, _⟩ => ⟨S1x1x8192, .f32⟩
  | .local .tc .smem, ⟨0, _⟩ => ⟨S1x1, .f32⟩
  | .local .tc .smem, ⟨1, _⟩ => ⟨S4x64, .i32⟩
  | .local .tc .smem, ⟨2, _⟩ => ⟨S4x64, .f32⟩
  | .local .scVector .vmem, ⟨0, _⟩ => ⟨S8, .i32⟩
  | .local .scVector .vmem, ⟨1, _⟩ => ⟨S8x1024, .f32⟩
  | _, _ => ⟨S4x2048x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | .smem, ⟨1, _⟩ => true
  | .smem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 34 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTables nBuf rfl bufTy 4 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22_0 : Ref sig .tc := ⟨.hbm, 54, rfl⟩
abbrev main_v22_1 : Ref sig .tc := ⟨.hbm, 55, rfl⟩
abbrev main_v23_0 : Ref sig .tc := ⟨.hbm, 56, rfl⟩
abbrev main_v23_1 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_arg1_scv : Ref sig .scVector := ⟨.hbm, 1, rfl⟩
abbrev main_v20_scv : Ref sig .scVector := ⟨.hbm, 52, rfl⟩
abbrev main_v21_scv : Ref sig .scVector := ⟨.hbm, 53, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg7_0 : Ref sig .tc := ⟨.vmem, 18, rfl⟩
abbrev cc2_stg8_0 : Ref sig .tc := ⟨.vmem, 19, rfl⟩
abbrev cc2_stg9_0 : Ref sig .tc := ⟨.vmem, 20, rfl⟩
abbrev cc2_stg10_0 : Ref sig .tc := ⟨.vmem, 21, rfl⟩
abbrev cc2_stg12_0 : Ref sig .tc := ⟨.vmem, 22, rfl⟩
abbrev cc2_stg12_1 : Ref sig .tc := ⟨.vmem, 23, rfl⟩
abbrev cc2_stg13_0 : Ref sig .tc := ⟨.vmem, 24, rfl⟩
abbrev cc2_stg13_1 : Ref sig .tc := ⟨.vmem, 25, rfl⟩
abbrev cc3_stg2_0 : Ref sig .tc := ⟨.vmem, 26, rfl⟩
abbrev cc3_stg2_1 : Ref sig .tc := ⟨.vmem, 27, rfl⟩
abbrev cc2_stg11_0 : Ref sig .tc := ⟨.smem, 0, rfl⟩
abbrev cc3_stg0_0 : Ref sig .tc := ⟨.smem, 1, rfl⟩
abbrev cc3_stg1_0 : Ref sig .tc := ⟨.smem, 2, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev cc1_sem7_0 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem9_0 : DmaSem sig := 23
abbrev cc2_sem10_0 : DmaSem sig := 24
abbrev cc2_sem11_0 : DmaSem sig := 25
abbrev cc2_sem12_0 : DmaSem sig := 26
abbrev cc2_sem12_1 : DmaSem sig := 27
abbrev cc2_sem13_0 : DmaSem sig := 28
abbrev cc2_sem13_1 : DmaSem sig := 29
abbrev cc3_sem0_0 : DmaSem sig := 30
abbrev cc3_sem1_0 : DmaSem sig := 31
abbrev cc3_sem2_0 : DmaSem sig := 32
abbrev cc3_sem2_1 : DmaSem sig := 33
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_88_r1 : BitVec 32 := 0#32
  ![v2.toNat, 0]
abbrev grid1 : Pipeline.Grid := .none

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S4x1024x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S4x1024x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev grid2 : Pipeline.Grid := ⟨2, ![4, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_13 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S1024x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x512 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1024x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1024x1024 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S1x1024 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S1x1024 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .smem S1x1 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 2 → Memref sig .tc .vmem S1x512x1024 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, true]

abbrev stage2_13 : Fin 2 → Memref sig .tc .vmem S1x1x64 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true, false]

abbrev grid3 : Pipeline.Grid := ⟨1, ![4], ![false]⟩

def k3_off1 (i : grid3.Coords) : Fin 2 → Nat :=
  let arg0 : BitVec 32 := BitVec.ofNat 32 (i 0).val
  let v2 : Index := Scalar.indexCast arg0
  let c0 : Index := 0#32
  ![v2.toNat, 0]
def k3_off2 (i : grid3.Coords) : Fin 2 → Nat :=
  let arg0 : BitVec 32 := BitVec.ofNat 32 (i 0).val
  let v13 : Index := Scalar.indexCast arg0
  let c1 : Index := 1#32
  ![v13.toNat, 1]
def k3_off3 (i : grid3.Coords) : Fin 2 → Nat :=
  let arg0 : BitVec 32 := BitVec.ofNat 32 (i 0).val
  let v24 : Index := Scalar.indexCast arg0
  let c2 : Index := 2#32
  ![v24.toNat, 2]
def k3_off4 (i : grid3.Coords) : Fin 2 → Nat :=
  let arg0 : BitVec 32 := BitVec.ofNat 32 (i 0).val
  let v35 : Index := Scalar.indexCast arg0
  let c3 : Index := 3#32
  ![v35.toNat, 3]
def k3_off5 (i : grid3.Coords) : Fin 2 → Nat :=
  let arg0 : BitVec 32 := BitVec.ofNat 32 (i 0).val
  let v46 : Index := Scalar.indexCast arg0
  let c4 : Index := 4#32
  ![v46.toNat, 4]
def k3_off6 (i : grid3.Coords) : Fin 2 → Nat :=
  let arg0 : BitVec 32 := BitVec.ofNat 32 (i 0).val
  let v57 : Index := Scalar.indexCast arg0
  let c5 : Index := 5#32
  ![v57.toNat, 5]
def k3_off7 (i : grid3.Coords) : Fin 2 → Nat :=
  let arg0 : BitVec 32 := BitVec.ofNat 32 (i 0).val
  let v68 : Index := Scalar.indexCast arg0
  let c6 : Index := 6#32
  ![v68.toNat, 6]
def k3_off8 (i : grid3.Coords) : Fin 2 → Nat :=
  let arg0 : BitVec 32 := BitVec.ofNat 32 (i 0).val
  let v79 : Index := Scalar.indexCast arg0
  let c7 : Index := 7#32
  ![v79.toNat, 7]
def k3_off9 (i : grid3.Coords) : Fin 2 → Nat :=
  let arg0 : BitVec 32 := BitVec.ofNat 32 (i 0).val
  let v90 : Index := Scalar.indexCast arg0
  let c8 : Index := 8#32
  ![v90.toNat, 8]
def k3_off10 (i : grid3.Coords) : Fin 2 → Nat :=
  let arg0 : BitVec 32 := BitVec.ofNat 32 (i 0).val
  let v101 : Index := Scalar.indexCast arg0
  let c9 : Index := 9#32
  ![v101.toNat, 9]
def k3_off11 (i : grid3.Coords) : Fin 2 → Nat :=
  let arg0 : BitVec 32 := BitVec.ofNat 32 (i 0).val
  let v112 : Index := Scalar.indexCast arg0
  let c10 : Index := 10#32
  ![v112.toNat, 10]
def k3_off12 (i : grid3.Coords) : Fin 2 → Nat :=
  let arg0 : BitVec 32 := BitVec.ofNat 32 (i 0).val
  let v123 : Index := Scalar.indexCast arg0
  let c11 : Index := 11#32
  ![v123.toNat, 11]
def k3_off13 (i : grid3.Coords) : Fin 2 → Nat :=
  let arg0 : BitVec 32 := BitVec.ofNat 32 (i 0).val
  let v134 : Index := Scalar.indexCast arg0
  let c12 : Index := 12#32
  ![v134.toNat, 12]
def k3_off14 (i : grid3.Coords) : Fin 2 → Nat :=
  let arg0 : BitVec 32 := BitVec.ofNat 32 (i 0).val
  let v145 : Index := Scalar.indexCast arg0
  let c13 : Index := 13#32
  ![v145.toNat, 13]
def k3_off15 (i : grid3.Coords) : Fin 2 → Nat :=
  let arg0 : BitVec 32 := BitVec.ofNat 32 (i 0).val
  let v156 : Index := Scalar.indexCast arg0
  let c14 : Index := 14#32
  ![v156.toNat, 14]
def k3_off16 (i : grid3.Coords) : Fin 2 → Nat :=
  let arg0 : BitVec 32 := BitVec.ofNat 32 (i 0).val
  let v167 : Index := Scalar.indexCast arg0
  let c15 : Index := 15#32
  ![v167.toNat, 15]
def k3_off17 (i : grid3.Coords) : Fin 2 → Nat :=
  let arg0 : BitVec 32 := BitVec.ofNat 32 (i 0).val
  let v178 : Index := Scalar.indexCast arg0
  let c16 : Index := 16#32
  ![v178.toNat, 16]
def k3_off18 (i : grid3.Coords) : Fin 2 → Nat :=
  let arg0 : BitVec 32 := BitVec.ofNat 32 (i 0).val
  let v189 : Index := Scalar.indexCast arg0
  let c17 : Index := 17#32
  ![v189.toNat, 17]
def k3_off19 (i : grid3.Coords) : Fin 2 → Nat :=
  let arg0 : BitVec 32 := BitVec.ofNat 32 (i 0).val
  let v200 : Index := Scalar.indexCast arg0
  let c18 : Index := 18#32
  ![v200.toNat, 18]
def k3_off20 (i : grid3.Coords) : Fin 2 → Nat :=
  let arg0 : BitVec 32 := BitVec.ofNat 32 (i 0).val
  let v211 : Index := Scalar.indexCast arg0
  let c19 : Index := 19#32
  ![v211.toNat, 19]
def k3_off21 (i : grid3.Coords) : Fin 2 → Nat :=
  let arg0 : BitVec 32 := BitVec.ofNat 32 (i 0).val
  let v222 : Index := Scalar.indexCast arg0
  let c20 : Index := 20#32
  ![v222.toNat, 20]
def k3_off22 (i : grid3.Coords) : Fin 2 → Nat :=
  let arg0 : BitVec 32 := BitVec.ofNat 32 (i 0).val
  let v233 : Index := Scalar.indexCast arg0
  let c21 : Index := 21#32
  ![v233.toNat, 21]
def k3_off23 (i : grid3.Coords) : Fin 2 → Nat :=
  let arg0 : BitVec 32 := BitVec.ofNat 32 (i 0).val
  let v244 : Index := Scalar.indexCast arg0
  let c22 : Index := 22#32
  ![v244.toNat, 22]
def k3_off24 (i : grid3.Coords) : Fin 2 → Nat :=
  let arg0 : BitVec 32 := BitVec.ofNat 32 (i 0).val
  let v255 : Index := Scalar.indexCast arg0
  let c23 : Index := 23#32
  ![v255.toNat, 23]
def k3_off25 (i : grid3.Coords) : Fin 2 → Nat :=
  let arg0 : BitVec 32 := BitVec.ofNat 32 (i 0).val
  let v266 : Index := Scalar.indexCast arg0
  let c24 : Index := 24#32
  ![v266.toNat, 24]
def k3_off26 (i : grid3.Coords) : Fin 2 → Nat :=
  let arg0 : BitVec 32 := BitVec.ofNat 32 (i 0).val
  let v277 : Index := Scalar.indexCast arg0
  let c25 : Index := 25#32
  ![v277.toNat, 25]
def k3_off27 (i : grid3.Coords) : Fin 2 → Nat :=
  let arg0 : BitVec 32 := BitVec.ofNat 32 (i 0).val
  let v288 : Index := Scalar.indexCast arg0
  let c26 : Index := 26#32
  ![v288.toNat, 26]
def k3_off28 (i : grid3.Coords) : Fin 2 → Nat :=
  let arg0 : BitVec 32 := BitVec.ofNat 32 (i 0).val
  let v299 : Index := Scalar.indexCast arg0
  let c27 : Index := 27#32
  ![v299.toNat, 27]
def k3_off29 (i : grid3.Coords) : Fin 2 → Nat :=
  let arg0 : BitVec 32 := BitVec.ofNat 32 (i 0).val
  let v310 : Index := Scalar.indexCast arg0
  let c28 : Index := 28#32
  ![v310.toNat, 28]
def k3_off30 (i : grid3.Coords) : Fin 2 → Nat :=
  let arg0 : BitVec 32 := BitVec.ofNat 32 (i 0).val
  let v321 : Index := Scalar.indexCast arg0
  let c29 : Index := 29#32
  ![v321.toNat, 29]
def k3_off31 (i : grid3.Coords) : Fin 2 → Nat :=
  let arg0 : BitVec 32 := BitVec.ofNat 32 (i 0).val
  let v332 : Index := Scalar.indexCast arg0
  let c30 : Index := 30#32
  ![v332.toNat, 30]
def k3_off32 (i : grid3.Coords) : Fin 2 → Nat :=
  let arg0 : BitVec 32 := BitVec.ofNat 32 (i 0).val
  let v343 : Index := Scalar.indexCast arg0
  let c31 : Index := 31#32
  ![v343.toNat, 31]
def k3_off33 (i : grid3.Coords) : Fin 2 → Nat :=
  let arg0 : BitVec 32 := BitVec.ofNat 32 (i 0).val
  let v354 : Index := Scalar.indexCast arg0
  let c32 : Index := 32#32
  ![v354.toNat, 32]
def k3_off34 (i : grid3.Coords) : Fin 2 → Nat :=
  let arg0 : BitVec 32 := BitVec.ofNat 32 (i 0).val
  let v365 : Index := Scalar.indexCast arg0
  let c33 : Index := 33#32
  ![v365.toNat, 33]
def k3_off35 (i : grid3.Coords) : Fin 2 → Nat :=
  let arg0 : BitVec 32 := BitVec.ofNat 32 (i 0).val
  let v376 : Index := Scalar.indexCast arg0
  let c34 : Index := 34#32
  ![v376.toNat, 34]
def k3_off36 (i : grid3.Coords) : Fin 2 → Nat :=
  let arg0 : BitVec 32 := BitVec.ofNat 32 (i 0).val
  let v387 : Index := Scalar.indexCast arg0
  let c35 : Index := 35#32
  ![v387.toNat, 35]
def k3_off37 (i : grid3.Coords) : Fin 2 → Nat :=
  let arg0 : BitVec 32 := BitVec.ofNat 32 (i 0).val
  let v398 : Index := Scalar.indexCast arg0
  let c36 : Index := 36#32
  ![v398.toNat, 36]
def k3_off38 (i : grid3.Coords) : Fin 2 → Nat :=
  let arg0 : BitVec 32 := BitVec.ofNat 32 (i 0).val
  let v409 : Index := Scalar.indexCast arg0
  let c37 : Index := 37#32
  ![v409.toNat, 37]
def k3_off39 (i : grid3.Coords) : Fin 2 → Nat :=
  let arg0 : BitVec 32 := BitVec.ofNat 32 (i 0).val
  let v420 : Index := Scalar.indexCast arg0
  let c38 : Index := 38#32
  ![v420.toNat, 38]
def k3_off40 (i : grid3.Coords) : Fin 2 → Nat :=
  let arg0 : BitVec 32 := BitVec.ofNat 32 (i 0).val
  let v431 : Index := Scalar.indexCast arg0
  let c39 : Index := 39#32
  ![v431.toNat, 39]
def k3_off41 (i : grid3.Coords) : Fin 2 → Nat :=
  let arg0 : BitVec 32 := BitVec.ofNat 32 (i 0).val
  let v442 : Index := Scalar.indexCast arg0
  let c40 : Index := 40#32
  ![v442.toNat, 40]
def k3_off42 (i : grid3.Coords) : Fin 2 → Nat :=
  let arg0 : BitVec 32 := BitVec.ofNat 32 (i 0).val
  let v453 : Index := Scalar.indexCast arg0
  let c41 : Index := 41#32
  ![v453.toNat, 41]
def k3_off43 (i : grid3.Coords) : Fin 2 → Nat :=
  let arg0 : BitVec 32 := BitVec.ofNat 32 (i 0).val
  let v464 : Index := Scalar.indexCast arg0
  let c42 : Index := 42#32
  ![v464.toNat, 42]
def k3_off44 (i : grid3.Coords) : Fin 2 → Nat :=
  let arg0 : BitVec 32 := BitVec.ofNat 32 (i 0).val
  let v475 : Index := Scalar.indexCast arg0
  let c43 : Index := 43#32
  ![v475.toNat, 43]
def k3_off45 (i : grid3.Coords) : Fin 2 → Nat :=
  let arg0 : BitVec 32 := BitVec.ofNat 32 (i 0).val
  let v486 : Index := Scalar.indexCast arg0
  let c44 : Index := 44#32
  ![v486.toNat, 44]
def k3_off46 (i : grid3.Coords) : Fin 2 → Nat :=
  let arg0 : BitVec 32 := BitVec.ofNat 32 (i 0).val
  let v497 : Index := Scalar.indexCast arg0
  let c45 : Index := 45#32
  ![v497.toNat, 45]
def k3_off47 (i : grid3.Coords) : Fin 2 → Nat :=
  let arg0 : BitVec 32 := BitVec.ofNat 32 (i 0).val
  let v508 : Index := Scalar.indexCast arg0
  let c46 : Index := 46#32
  ![v508.toNat, 46]
def k3_off48 (i : grid3.Coords) : Fin 2 → Nat :=
  let arg0 : BitVec 32 := BitVec.ofNat 32 (i 0).val
  let v519 : Index := Scalar.indexCast arg0
  let c47 : Index := 47#32
  ![v519.toNat, 47]
def k3_off49 (i : grid3.Coords) : Fin 2 → Nat :=
  let arg0 : BitVec 32 := BitVec.ofNat 32 (i 0).val
  let v530 : Index := Scalar.indexCast arg0
  let c48 : Index := 48#32
  ![v530.toNat, 48]
def k3_off50 (i : grid3.Coords) : Fin 2 → Nat :=
  let arg0 : BitVec 32 := BitVec.ofNat 32 (i 0).val
  let v541 : Index := Scalar.indexCast arg0
  let c49 : Index := 49#32
  ![v541.toNat, 49]
def k3_off51 (i : grid3.Coords) : Fin 2 → Nat :=
  let arg0 : BitVec 32 := BitVec.ofNat 32 (i 0).val
  let v552 : Index := Scalar.indexCast arg0
  let c50 : Index := 50#32
  ![v552.toNat, 50]
def k3_off52 (i : grid3.Coords) : Fin 2 → Nat :=
  let arg0 : BitVec 32 := BitVec.ofNat 32 (i 0).val
  let v563 : Index := Scalar.indexCast arg0
  let c51 : Index := 51#32
  ![v563.toNat, 51]
def k3_off53 (i : grid3.Coords) : Fin 2 → Nat :=
  let arg0 : BitVec 32 := BitVec.ofNat 32 (i 0).val
  let v574 : Index := Scalar.indexCast arg0
  let c52 : Index := 52#32
  ![v574.toNat, 52]
def k3_off54 (i : grid3.Coords) : Fin 2 → Nat :=
  let arg0 : BitVec 32 := BitVec.ofNat 32 (i 0).val
  let v585 : Index := Scalar.indexCast arg0
  let c53 : Index := 53#32
  ![v585.toNat, 53]
def k3_off55 (i : grid3.Coords) : Fin 2 → Nat :=
  let arg0 : BitVec 32 := BitVec.ofNat 32 (i 0).val
  let v596 : Index := Scalar.indexCast arg0
  let c54 : Index := 54#32
  ![v596.toNat, 54]
def k3_off56 (i : grid3.Coords) : Fin 2 → Nat :=
  let arg0 : BitVec 32 := BitVec.ofNat 32 (i 0).val
  let v607 : Index := Scalar.indexCast arg0
  let c55 : Index := 55#32
  ![v607.toNat, 55]
def k3_off57 (i : grid3.Coords) : Fin 2 → Nat :=
  let arg0 : BitVec 32 := BitVec.ofNat 32 (i 0).val
  let v618 : Index := Scalar.indexCast arg0
  let c56 : Index := 56#32
  ![v618.toNat, 56]
def k3_off58 (i : grid3.Coords) : Fin 2 → Nat :=
  let arg0 : BitVec 32 := BitVec.ofNat 32 (i 0).val
  let v629 : Index := Scalar.indexCast arg0
  let c57 : Index := 57#32
  ![v629.toNat, 57]
def k3_off59 (i : grid3.Coords) : Fin 2 → Nat :=
  let arg0 : BitVec 32 := BitVec.ofNat 32 (i 0).val
  let v640 : Index := Scalar.indexCast arg0
  let c58 : Index := 58#32
  ![v640.toNat, 58]
def k3_off60 (i : grid3.Coords) : Fin 2 → Nat :=
  let arg0 : BitVec 32 := BitVec.ofNat 32 (i 0).val
  let v651 : Index := Scalar.indexCast arg0
  let c59 : Index := 59#32
  ![v651.toNat, 59]
def k3_off61 (i : grid3.Coords) : Fin 2 → Nat :=
  let arg0 : BitVec 32 := BitVec.ofNat 32 (i 0).val
  let v662 : Index := Scalar.indexCast arg0
  let c60 : Index := 60#32
  ![v662.toNat, 60]
def k3_off62 (i : grid3.Coords) : Fin 2 → Nat :=
  let arg0 : BitVec 32 := BitVec.ofNat 32 (i 0).val
  let v673 : Index := Scalar.indexCast arg0
  let c61 : Index := 61#32
  ![v673.toNat, 61]
def k3_off63 (i : grid3.Coords) : Fin 2 → Nat :=
  let arg0 : BitVec 32 := BitVec.ofNat 32 (i 0).val
  let v684 : Index := Scalar.indexCast arg0
  let c62 : Index := 62#32
  ![v684.toNat, 62]
def k3_off64 (i : grid3.Coords) : Fin 2 → Nat :=
  let arg0 : BitVec 32 := BitVec.ofNat 32 (i 0).val
  let v695 : Index := Scalar.indexCast arg0
  let c63 : Index := 63#32
  ![v695.toNat, 63]
def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 1 → Memref sig .tc .smem S4x64 .i32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .smem S4x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1x1x8192 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x2048x1024 : Shape := ⟨3, ![4, 2048, 1024]⟩
abbrev S8192x1024 : Shape := ⟨2, ![8192, 1024]⟩
abbrev S4x64 : Shape := ⟨2, ![4, 64]⟩
abbrev S1024x1024 : Shape := ⟨2, ![1024, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x64x1 : Shape := ⟨3, ![4, 64, 1]⟩
abbrev S1 : Shape := ⟨1, ![1]⟩
abbrev S1x1x1 : Shape := ⟨3, ![1, 1, 1]⟩
abbrev S4x64x1024 : Shape := ⟨3, ![4, 64, 1024]⟩
abbrev S4x2048x16x64 : Shape := ⟨4, ![4, 2048, 16, 64]⟩
abbrev S4x16x2048x64 : Shape := ⟨4, ![4, 16, 2048, 64]⟩
abbrev S4x64x16x64 : Shape := ⟨4, ![4, 64, 16, 64]⟩
abbrev S4x16x64x64 : Shape := ⟨4, ![4, 16, 64, 64]⟩
abbrev S4x16x2048 : Shape := ⟨3, ![4, 16, 2048]⟩
abbrev S4x16x2048x1 : Shape := ⟨4, ![4, 16, 2048, 1]⟩
abbrev S4x8192 : Shape := ⟨2, ![4, 8192]⟩
abbrev S4 : Shape := ⟨1, ![4]⟩
abbrev S4x1 : Shape := ⟨2, ![4, 1]⟩
abbrev S4x64x2 : Shape := ⟨3, ![4, 64, 2]⟩

abbrev nBuf : Space → Nat
  | .hbm => 150
  | .vmem => 0
  | .smem => 0
  | _ => 0

abbrev hbmTy0_0 (i : Nat) : BufTy := match i % 128 with
  | 0 => ⟨S4x2048x1024, .f32⟩
  | 1 => ⟨S8192x1024, .f32⟩
  | 2 => ⟨S4x64, .i32⟩
  | 3 => ⟨S1024x1024, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S1024x1024, .f32⟩
  | 10 => ⟨S1024, .f32⟩
  | 11 => ⟨S1024, .f32⟩
  | 12 => ⟨S1024, .f32⟩
  | 13 => ⟨S_, .f32⟩
  | 14 => ⟨S_, .f32⟩
  | 15 => ⟨S4x2048, .f32⟩
  | 16 => ⟨S4x2048x1, .f32⟩
  | 17 => ⟨S_, .f32⟩
  | 18 => ⟨S4x2048x1, .f32⟩
  | 19 => ⟨S4x2048x1, .f32⟩
  | 20 => ⟨S4x2048x1024, .f32⟩
  | 21 => ⟨S4x2048x1024, .f32⟩
  | 22 => ⟨S4x2048x1024, .f32⟩
  | 23 => ⟨S_, .f32⟩
  | 24 => ⟨S4x2048, .f32⟩
  | 25 => ⟨S4x2048x1, .f32⟩
  | 26 => ⟨S_, .f32⟩
  | 27 => ⟨S4x2048x1, .f32⟩
  | 28 => ⟨S4x2048x1, .f32⟩
  | 29 => ⟨S4x2048x1024, .f32⟩
  | 30 => ⟨S4x2048x1024, .f32⟩
  | 31 => ⟨S_, .f32⟩
  | 32 => ⟨S4x2048x1, .f32⟩
  | 33 => ⟨S4x2048x1, .f32⟩
  | 34 => ⟨S4x2048x1, .f32⟩
  | 35 => ⟨S4x2048x1024, .f32⟩
  | 36 => ⟨S4x2048x1024, .f32⟩
  | 37 => ⟨S1x1x1024, .f32⟩
  | 38 => ⟨S4x2048x1024, .f32⟩
  | 39 => ⟨S4x2048x1024, .f32⟩
  | 40 => ⟨S1x1x1024, .f32⟩
  | 41 => ⟨S4x2048x1024, .f32⟩
  | 42 => ⟨S4x2048x1024, .f32⟩
  | 43 => ⟨S_, .i32⟩
  | 44 => ⟨S4x64, .i32⟩
  | 45 => ⟨S4x64, .i1⟩
  | 46 => ⟨S_, .i32⟩
  | 47 => ⟨S4x64, .i32⟩
  | 48 => ⟨S4x64, .i32⟩
  | 49 => ⟨S4x64, .i32⟩
  | 50 => ⟨S4x64x1, .i32⟩
  | 51 => ⟨S1, .i32⟩
  | 52 => ⟨S_, .i32⟩
  | 53 => ⟨S4x64x1, .i32⟩
  | 54 => ⟨S4x64x1, .i1⟩
  | 55 => ⟨S1x1x1, .i32⟩
  | 56 => ⟨S4x64x1, .i32⟩
  | 57 => ⟨S4x64x1, .i1⟩
  | 58 => ⟨S4x64x1, .i1⟩
  | 59 => ⟨S_, .i1⟩
  | 60 => ⟨S4x64, .i1⟩
  | 61 => ⟨S4x64x1024, .f32⟩
  | 62 => ⟨S4x64x1024, .i1⟩
  | 63 => ⟨S_, .f32⟩
  | 64 => ⟨S4x64x1024, .f32⟩
  | 65 => ⟨S4x64x1024, .f32⟩
  | 66 => ⟨S1024x1024, .f32⟩
  | 67 => ⟨S4x2048x1024, .f32⟩
  | 68 => ⟨S1x1x1024, .f32⟩
  | 69 => ⟨S4x2048x1024, .f32⟩
  | 70 => ⟨S4x2048x1024, .f32⟩
  | 71 => ⟨S4x2048x16x64, .f32⟩
  | 72 => ⟨S4x16x2048x64, .f32⟩
  | 73 => ⟨S1024x1024, .f32⟩
  | 74 => ⟨S4x64x1024, .f32⟩
  | 75 => ⟨S1x1x1024, .f32⟩
  | 76 => ⟨S4x64x1024, .f32⟩
  | 77 => ⟨S4x64x1024, .f32⟩
  | 78 => ⟨S4x64x16x64, .f32⟩
  | 79 => ⟨S4x16x64x64, .f32⟩
  | 80 => ⟨S1024x1024, .f32⟩
  | 81 => ⟨S4x64x1024, .f32⟩
  | 82 => ⟨S1x1x1024, .f32⟩
  | 83 => ⟨S4x64x1024, .f32⟩
  | 84 => ⟨S4x64x1024, .f32⟩
  | 85 => ⟨S4x64x16x64, .f32⟩
  | 86 => ⟨S4x16x64x64, .f32⟩
  | 87 => ⟨S4x16x2048x64, .f32⟩
  | 88 => ⟨S_, .f32⟩
  | 89 => ⟨S4x16x2048x64, .f32⟩
  | 90 => ⟨S4x16x2048x64, .f32⟩
  | 91 => ⟨S_, .f32⟩
  | 92 => ⟨S4x16x2048, .f32⟩
  | 93 => ⟨S_, .f32⟩
  | 94 => ⟨S4x16x2048, .f32⟩
  | 95 => ⟨S4x16x2048, .f32⟩
  | 96 => ⟨S4x16x2048x1, .f32⟩
  | 97 => ⟨S4x16x2048x64, .f32⟩
  | 98 => ⟨S4x16x2048x64, .f32⟩
  | 99 => ⟨S4x16x2048x64, .f32⟩
  | 100 => ⟨S_, .f32⟩
  | 101 => ⟨S4x16x2048, .f32⟩
  | 102 => ⟨S4x16x2048x1, .f32⟩
  | 103 => ⟨S4x16x2048x64, .f32⟩
  | 104 => ⟨S4x16x2048x64, .f32⟩
  | 105 => ⟨S4x16x2048x64, .f32⟩
  | 106 => ⟨S4x2048x16x64, .f32⟩
  | 107 => ⟨S4x2048x1024, .f32⟩
  | 108 => ⟨S1024x1024, .f32⟩
  | 109 => ⟨S4x2048x1024, .f32⟩
  | 110 => ⟨S1x1x1024, .f32⟩
  | 111 => ⟨S4x2048x1024, .f32⟩
  | 112 => ⟨S4x2048x1024, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S4x2048x1024, .f32⟩
  | 120 => ⟨S4x2048x1024, .f32⟩
  | 121 => ⟨S4x2048x1024, .f32⟩
  | 122 => ⟨S_, .f32⟩
  | 123 => ⟨S4x64, .f32⟩
  | 124 => ⟨S_, .f32⟩
  | 125 => ⟨S4x64, .f32⟩
  | 126 => ⟨S4x64, .f32⟩
  | 127 => ⟨S_, .f32⟩
  | _ => ⟨S4x2048x1024, .f32⟩

abbrev hbmTy0_1 (i : Nat) : BufTy := match i % 128 with
  | 0 => ⟨S4x8192, .f32⟩
  | 1 => ⟨S4, .i32⟩
  | 2 => ⟨S4x1, .i32⟩
  | 3 => ⟨S_, .i32⟩
  | 4 => ⟨S4x1, .i32⟩
  | 5 => ⟨S4x1, .i1⟩
  | 6 => ⟨S_, .i32⟩
  | 7 => ⟨S4x1, .i32⟩
  | 8 => ⟨S4x1, .i32⟩
  | 9 => ⟨S4x1, .i32⟩
  | 10 => ⟨S_, .i32⟩
  | 11 => ⟨S4x64, .i32⟩
  | 12 => ⟨S4x64, .i1⟩
  | 13 => ⟨S_, .i32⟩
  | 14 => ⟨S4x64, .i32⟩
  | 15 => ⟨S4x64, .i32⟩
  | 16 => ⟨S4x64, .i32⟩
  | 17 => ⟨S4x64, .i32⟩
  | 18 => ⟨S4x64x1, .i32⟩
  | 19 => ⟨S4x64x1, .i32⟩
  | 20 => ⟨S4x64x2, .i32⟩
  | 21 => ⟨S4x8192, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call0_c : Ref sig .tc := ⟨.hbm, 43, rfl⟩
abbrev main_call0_v0 : Ref sig .tc := ⟨.hbm, 44, rfl⟩
abbrev main_call0_v1 : Ref sig .tc := ⟨.hbm, 45, rfl⟩
abbrev main_call0_c_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_c_1 : Ref sig .tc := ⟨.hbm, 51, rfl⟩
abbrev main_call0_c_2 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_c_3 : Ref sig .tc := ⟨.hbm, 59, rfl⟩
abbrev main_call0_v12 : Ref sig .tc := ⟨.hbm, 60, rfl⟩
abbrev main_call0_v13 : Ref sig .tc := ⟨.hbm, 61, rfl⟩
abbrev main_call0_v14 : Ref sig .tc := ⟨.hbm, 62, rfl⟩
abbrev main_call0_cst : Ref sig .tc := ⟨.hbm, 63, rfl⟩
abbrev main_call0_v15 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_cst_4 : Ref sig .tc := ⟨.hbm, 88, rfl⟩
abbrev main_v47 : Ref sig .tc := ⟨.hbm, 89, rfl⟩
abbrev main_v48 : Ref sig .tc := ⟨.hbm, 90, rfl⟩
abbrev main_cst_5 : Ref sig .tc := ⟨.hbm, 91, rfl⟩
abbrev main_v49 : Ref sig .tc := ⟨.hbm, 92, rfl⟩
abbrev main_cst_6 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst_7 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_cst_8 : Ref sig .tc := ⟨.hbm, 115, rfl⟩
abbrev main_v70 : Ref sig .tc := ⟨.hbm, 116, rfl⟩
abbrev main_cst_9 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_cst_10 : Ref sig .tc := ⟨.hbm, 122, rfl⟩
abbrev main_v75 : Ref sig .tc := ⟨.hbm, 123, rfl⟩
abbrev main_cst_11 : Ref sig .tc := ⟨.hbm, 124, rfl⟩
abbrev main_v76 : Ref sig .tc := ⟨.hbm, 125, rfl⟩
abbrev main_v77 : Ref sig .tc := ⟨.hbm, 126, rfl⟩
abbrev main_cst_12 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_c : Ref sig .tc := ⟨.hbm, 131, rfl⟩
abbrev main_v81 : Ref sig .tc := ⟨.hbm, 132, rfl⟩
abbrev main_v82 : Ref sig .tc := ⟨.hbm, 133, rfl⟩
abbrev main_c_13 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_c_14 : Ref sig .tc := ⟨.hbm, 138, rfl⟩
abbrev main_v86 : Ref sig .tc := ⟨.hbm, 139, rfl⟩
abbrev main_v87 : Ref sig .tc := ⟨.hbm, 140, rfl⟩
abbrev main_c_15 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩

abbrev nD : Nat := 1
abbrev τ : Topo := Topo.v7x

variable {F : FTy → Type} [FloatOps F]
-- ==== Selection.lean ====
abbrev S4x2048x1024 : Shape := ⟨3, ![4, 2048, 1024]⟩
abbrev S8192x1024 : Shape := ⟨2, ![8192, 1024]⟩
abbrev S4x8192 : Shape := ⟨2, ![4, 8192]⟩
abbrev S1024 : Shape := ⟨1, ![1024]⟩
abbrev S1024x1024 : Shape := ⟨2, ![1024, 1024]⟩
abbrev S_ : Shape := ⟨0, ![]⟩
abbrev S1x1024 : Shape := ⟨2, ![1, 1024]⟩
abbrev S1x1 : Shape := ⟨2, ![1, 1]⟩
abbrev S4x1x1024 : Shape := ⟨3, ![4, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S4x1024 : Shape := ⟨2, ![4, 1024]⟩
abbrev S4x64 : Shape := ⟨2, ![4, 64]⟩
abbrev S4 : Shape := ⟨1, ![4]⟩
abbrev S4x1 : Shape := ⟨2, ![4, 1]⟩

abbrev nBuf : Space → Nat
  | .hbm => 15
  | .vmem => 13
  | .smem => 1
  | _ => 0

abbrev bufTy : (tb : Table) → Fin (tcTables nBuf tb) → BufTy
  | .hbm, ⟨0, _⟩ => ⟨S4x2048x1024, .f32⟩
  | .hbm, ⟨1, _⟩ => ⟨S8192x1024, .f32⟩
  | .hbm, ⟨2, _⟩ => ⟨S4x8192, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1, .f32⟩
  | .hbm, ⟨12, _⟩ => ⟨S4x1x1024, .f32⟩
  | .hbm, ⟨13, _⟩ => ⟨S4x1024, .f32⟩
  | .hbm, ⟨14, _⟩ => ⟨S4x64, .i32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024, .f32⟩
  | .local _ .vmem, ⟨4, _⟩ => ⟨S1x1x1024, .f32⟩
  | .local _ .vmem, ⟨5, _⟩ => ⟨S1x1x1024, .f32⟩
  | .local _ .vmem, ⟨6, _⟩ => ⟨S4x1024, .f32⟩
  | .local _ .vmem, ⟨7, _⟩ => ⟨S1024x1024, .f32⟩
  | .local _ .vmem, ⟨8, _⟩ => ⟨S1x1024, .f32⟩
  | .local _ .vmem, ⟨9, _⟩ => ⟨S4x8192, .f32⟩
  | .local _ .vmem, ⟨10, _⟩ => ⟨S8192x1024, .f32⟩
  | .local _ .vmem, ⟨11, _⟩ => ⟨S4x64, .i32⟩
  | .local _ .vmem, ⟨12, _⟩ => ⟨S4x8192, .f32⟩
  | .local _ .smem, ⟨0, _⟩ => ⟨S1x1, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_scratch0 : Ref sig .tc := ⟨.vmem, 12, rfl⟩
abbrev cc1_stg4_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := .none

@[reducible] def k1_t1_loop : Scf.Loop 32 :=
  let c0_i32_16 : BitVec 32 := 0#32
  let c64_i32 : BitVec 32 := 64#32
  let v33 : BitVec 32 := Scalar.addi c0_i32_16 c64_i32
  let c1_i32 : BitVec 32 := 1#32
  ⟨c0_i32_16, v33, c1_i32⟩
abbrev stage1_0 : Fin 1 → Memref sig .tc .vmem S4x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S4x8192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .smem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S8192x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S4x64 .i32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
-- ==== SelectionReferenceIdeal.lean ====
abbrev S4x2048x1024 : Shape := ⟨3, ![4, 2048, 1024]⟩
abbrev S8192x1024 : Shape := ⟨2, ![8192, 1024]⟩
abbrev S4x8192 : Shape := ⟨2, ![4, 8192]⟩
abbrev S1024 : Shape := ⟨1, ![1024]⟩
abbrev S1024x1024 : Shape := ⟨2, ![1024, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1024 : Shape := ⟨2, ![4, 1024]⟩
abbrev S1x1024 : Shape := ⟨2, ![1, 1024]⟩
abbrev S1024x8192 : Shape := ⟨2, ![1024, 8192]⟩
abbrev S4x64 : Shape := ⟨2, ![4, 64]⟩

abbrev nBuf : Space → Nat
  | .hbm => 54
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S8192x1024, .f32⟩
  | .hbm, ⟨2, _⟩ => ⟨S4x8192, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S_, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x1024, .f32⟩
  | .hbm, ⟨24, _⟩ => ⟨S4x2048x1024, .f32⟩
  | .hbm, ⟨25, _⟩ => ⟨S_, .f32⟩
  | .hbm, ⟨26, _⟩ => ⟨S4x2048x1, .f32⟩
  | .hbm, ⟨27, _⟩ => ⟨S4x2048x1, .f32⟩
  | .hbm, ⟨28, _⟩ => ⟨S4x2048x1, .f32⟩
  | .hbm, ⟨29, _⟩ => ⟨S4x2048x1024, .f32⟩
  | .hbm, ⟨30, _⟩ => ⟨S4x2048x1024, .f32⟩
  | .hbm, ⟨31, _⟩ => ⟨S1x1x1024, .f32⟩
  | .hbm, ⟨32, _⟩ => ⟨S4x2048x1024, .f32⟩
  | .hbm, ⟨33, _⟩ => ⟨S4x2048x1024, .f32⟩
  | .hbm, ⟨34, _⟩ => ⟨S1x1x1024, .f32⟩
  | .hbm, ⟨35, _⟩ => ⟨S4x2048x1024, .f32⟩
  | .hbm, ⟨36, _⟩ => ⟨S4x2048x1024, .f32⟩
  | .hbm, ⟨37, _⟩ => ⟨S_, .f32⟩
  | .hbm, ⟨38, _⟩ => ⟨S4x1024, .f32⟩
  | .hbm, ⟨39, _⟩ => ⟨S_, .f32⟩
  | .hbm, ⟨40, _⟩ => ⟨S4x1024, .f32⟩
  | .hbm, ⟨41, _⟩ => ⟨S4x1024, .f32⟩
  | .hbm, ⟨42, _⟩ => ⟨S1024x1024, .f32⟩
  | .hbm, ⟨43, _⟩ => ⟨S4x1024, .f32⟩
  | .hbm, ⟨44, _⟩ => ⟨S1x1024, .f32⟩
  | .hbm, ⟨45, _⟩ => ⟨S4x1024, .f32⟩
  | .hbm, ⟨46, _⟩ => ⟨S4x1024, .f32⟩
  | .hbm, ⟨47, _⟩ => ⟨S1024x8192, .f32⟩
  | .hbm, ⟨48, _⟩ => ⟨S4x8192, .f32⟩
  | .hbm, ⟨49, _⟩ => ⟨S4x8192, .f32⟩
  | .hbm, ⟨50, _⟩ => ⟨S4x8192, .f32⟩
  | .hbm, ⟨51, _⟩ => ⟨S4x8192, .f32⟩
  | .hbm, ⟨52, _⟩ => ⟨S4x64, .f32⟩
  | .hbm, ⟨53, _⟩ => ⟨S4x64, .i32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_values : Ref sig .tc := ⟨.hbm, 52, rfl⟩
abbrev main_indices : Ref sig .tc := ⟨.hbm, 53, rfl⟩

abbrev nD : Nat := 1
abbrev τ : Topo := Topo.v7x

variable {F : FTy → Type} [FloatOps F]
-- ==== Proof.Twin.lean ====
/-
  The kernel and its idealization are the same program: no constant of it is taken for a real number, so the printed
  texts agree, and a run of the one is a run of the other.  Stated piece by piece over the floats.
-/
module

public import proofs.«01_k».proof.Defs
public import proofs.«01_k».proof.Proof.Gen.Kernel
public import proofs.«01_k».proof.Proof.Gen.KernelIdeal
public import proofs.«01_k».proof.Proof.Gen.Kernel.Skeleton
public import proofs.«01_k».proof.Proof.Gen.KernelIdeal.Skeleton

@[expose] public section

set_option maxHeartbeats 0

noncomputable section

namespace Cert.Proof.Twin

open Idealize.ShloMosaic Idealize.SL.Sem

/-- A run under equal definitions and threads. -/
theorem run_of_eq {nD : Nat} {τ : Topo} {sig : RefSig} {Val : EltTy → Type} {Λ : Labels} {D D' : Defs nD τ sig Val Λ}
    {P P' : (c : Thread nD τ) → Prog (TpuEff nD τ sig Val Λ c.2) PUnit} (hD : D = D') (hP : P = P') (s : MemSt nD τ sig Val) (Q) (h : θ_run D' P' s Q) : θ_run D P s Q := by
  subst hD; subst hP; exact h

/-- The bodies. -/
theorem defs₀_eq : (@Cert.Kernel.defs₀ Bits _ Cert.Kernel.Gen.facts : Defs Cert.KernelIdeal.nD Cert.KernelIdeal.τ Cert.KernelIdeal.sig (Elt Bits) (@Cert.KernelIdeal.Λ₀ Cert.KernelIdeal.Gen.facts))
    = @Cert.KernelIdeal.defs₀ Bits _ Cert.KernelIdeal.Gen.facts := by
  funext p ℓ a
  change Fin 4 at ℓ
  cases p with
  | tc => fin_cases ℓ <;> rfl
  | scScalar c => fin_cases ℓ <;> rfl
  | scVector c s => fin_cases ℓ <;> rfl

/-- Every definition. -/
theorem defs_eq : @Cert.Kernel.defs Bits _ Cert.Kernel.Gen.facts = @Cert.KernelIdeal.defs Bits _ Cert.KernelIdeal.Gen.facts :=
  congrArg (fun d => (@Cert.KernelIdeal.sc Bits Cert.KernelIdeal.Gen.facts).defs (Pipeline.defs (@Cert.KernelIdeal.pcfgs Bits Cert.KernelIdeal.Gen.facts) d)) defs₀_eq

end Cert.Proof.Twin
end
-- ==== Proof.Shares.lean ====
/-
  Shares of a buffer for thirty-two readers: the full share halved five times, and the two numberings of the readers, by
  a single number below 32 and by a SparseCore and one of its sixteen subcores.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Shares

open Idealize.ShloMosaic
open Idealize.SL Idealize.SL.RA Idealize.SL.BI
open scoped Idealize.SL.BI
open Idealize.SL.BI.BIBase Idealize.SL.BI.Laws

/-- The share a reader gets after `n` halvings: the bits of the number `k`, lowest first, say which half is taken. -/
def part : ℕ → PosShare TreeShare → ℕ → PosShare TreeShare
  | 0, q, _ => q
  | n + 1, q, k => part n (if k % 2 = 0 then q.left else q.right) (k / 2)

/-- A number below `2 ^ (n + 1)` is its lowest bit and a number below `2 ^ n`. -/
def bitSplit (n : ℕ) : Fin (2 ^ n) ⊕ Fin (2 ^ n) ≃ Fin (2 ^ (n + 1)) where
  toFun
    | .inl k => ⟨2 * k.val, by have := k.isLt; rw [pow_succ]; omega⟩
    | .inr k => ⟨2 * k.val + 1, by have := k.isLt; rw [pow_succ]; omega⟩
  invFun k := if k.val % 2 = 0 then .inl ⟨k.val / 2, by have h1 := k.isLt; have h2 : 2 ^ (n + 1) = 2 ^ n * 2 := pow_succ 2 n; omega⟩
    else .inr ⟨k.val / 2, by have h1 := k.isLt; have h2 : 2 ^ (n + 1) = 2 ^ n * 2 := pow_succ 2 n; omega⟩
  left_inv s := by
    match s with
    | .inl k => simp
    | .inr k =>
      have h : ¬ (2 * k.val + 1) % 2 = 0 := by omega
      have h' : (2 * k.val + 1) / 2 = k.val := by omega
      simp only [h, if_false, h']
  right_inv k := by
    by_cases h : k.val % 2 = 0
    · simp only [h, if_true]; exact Fin.ext (by show 2 * (k.val / 2) = k.val; omega)
    · simp only [h, if_false]; exact Fin.ext (by show 2 * (k.val / 2) + 1 = k.val; omega)

section

variable {nD : ℕ} {τ : Topo} {sig : RefSig} {Val : EltTy → Type} {Ix Name U Lvl : Type} [DecidableEq Ix] [DecidableEq Name] [URA U] [Preorder Lvl]

local notation "𝕄" => MT nD τ sig Ix Val Name U Lvl

/-- A buffer's elements at a share are the same elements at every reader's part of it, at once. -/
theorem pointsTo_parts {ℓ : Loc nD τ sig} (I : Finset (Idx ℓ)) (f : Buf Val ℓ) :
    ∀ (n : ℕ) (q : PosShare TreeShare), (ℓ ↦[I]{q} f : sProp 𝕄) = bigSep Finset.univ fun k : Fin (2 ^ n) => ℓ ↦[I]{part n q k.val} f := by
  intro n
  induction n with
  | zero => intro q; exact (bigSep_univ_of_subsingleton (0 : Fin 1) (Φ := fun k : Fin (2 ^ 0) => (ℓ ↦[I]{part 0 q k.val} f : sProp 𝕄))).symm
  | succ n ih =>
    intro q
    have hsh := pointsTo_share (ℓ := ℓ) (I := I) (f := f) (Val := Val) (Ix := Ix) (Name := Name) (U := U) (Lvl := Lvl) (PosShare.mem_left_op_right q)
    rw [BI.Entails.antisymm hsh.1 hsh.2, ih q.left, ih q.right,
      bigSep_univ_equiv (bitSplit n) (fun k : Fin (2 ^ (n + 1)) => (ℓ ↦[I]{part (n + 1) q k.val} f : sProp 𝕄)), bigSep_univ_sum]
    congr 1 <;> refine bigSep_congr fun k _ => ?_
    · show _ = (ℓ ↦[I]{part n (if (2 * k.val) % 2 = 0 then q.left else q.right) (2 * k.val / 2)} f : sProp 𝕄)
      rw [if_pos (by omega), show 2 * k.val / 2 = k.val by omega]
    · show _ = (ℓ ↦[I]{part n (if (2 * k.val + 1) % 2 = 0 then q.left else q.right) ((2 * k.val + 1) / 2)} f : sProp 𝕄)
      rw [if_neg (by omega), show (2 * k.val + 1) / 2 = k.val by omega]

end

/-- Reader `2 i + c` is subcore `i` of SparseCore `c`. -/
def workers : Fin 2 × Fin 16 ≃ Fin 32 where
  toFun p := ⟨2 * p.2.val + p.1.val, by have := p.1.isLt; have := p.2.isLt; omega⟩
  invFun k := (⟨k.val % 2, by omega⟩, ⟨k.val / 2, by have := k.isLt; omega⟩)
  left_inv p := by
    have h1 := p.1.isLt
    refine Prod.ext (Fin.ext ?_) (Fin.ext ?_)
    · show (2 * p.2.val + p.1.val) % 2 = p.1.val; omega
    · show (2 * p.2.val + p.1.val) / 2 = p.2.val; omega
  right_inv k := Fin.ext (by show 2 * (k.val / 2) + k.val % 2 = k.val; omega)

end Cert.Proof.Shares

end
-- ==== Proof.Tile.lean ====
/-
  One vector subcore's part of the row gather. The subcore fetches its eight entries of the list of row numbers into its
  own memory, then, for each of the eight slabs of 128 columns, moves the eight named rows of the table's slab into the
  same columns of its row buffer, and writes the row buffer out to its block of eight rows of the result. Proved here: if
  every entry of the list names a row of the table, the block ends holding the named rows of the table, the table and
  the list are unchanged, and every semaphore ends at zero.
-/
module

public import proofs.«01_k».proof.Defs
public import proofs.«01_k».proof.Proof.Shares
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Kit

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's configuration and ghost state -/

abbrev ΛP : Labels := Pipeline.Sig Λ₀ (Fin 3) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-- The pipelines' ghost state: the middle factor. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

/-! ## The buffers -/

abbrev xLoc (d : Dev nD) : Loc nD τ sig := (SparseCore.T d).loc main_arg1
abbrev lLoc (d : Dev nD) : Loc nD τ sig := (SparseCore.T d).loc main_v20
abbrev oLoc (d : Dev nD) : Loc nD τ sig := (SparseCore.T d).loc main_v21

local notation "xV" => (Memref.whole Cert.KernelIdeal.main_arg1_scv : Memref Cert.KernelIdeal.sig Kind.scVector Space.hbm Cert.KernelIdeal.S8192x1024 EltTy.f32)
local notation "lV" => (Memref.whole Cert.KernelIdeal.main_v20_scv : Memref Cert.KernelIdeal.sig Kind.scVector Space.hbm Cert.KernelIdeal.S256 EltTy.i32)
local notation "oV" => (Memref.whole Cert.KernelIdeal.main_v21_scv : Memref Cert.KernelIdeal.sig Kind.scVector Space.hbm Cert.KernelIdeal.S256x1024 EltTy.f32)
local notation "sV" => (Memref.whole Cert.KernelIdeal.cc0_scratch0 : Memref Cert.KernelIdeal.sig Kind.scVector Space.vmem Cert.KernelIdeal.S8 EltTy.i32)
local notation "rV" => (Memref.whole Cert.KernelIdeal.cc0_scratch1 : Memref Cert.KernelIdeal.sig Kind.scVector Space.vmem Cert.KernelIdeal.S8x1024 EltTy.f32)

theorem ldiv : 32 ∣ S256.size 0 := ⟨8, rfl⟩
theorem odiv : 32 ∣ S256x1024.size 0 := ⟨8, rfl⟩
/-- Reader `w`'s eight entries of the list, and its block of eight rows of the result. -/
abbrev lRow (w : Fin 32) : Rect S256 := Rect.part (s := S256) (a₀ := 0) ldiv w
abbrev oRow (w : Fin 32) : Rect S256x1024 := Rect.part (s := S256x1024) (a₀ := 0) odiv w
abbrev lSet (w : Fin 32) : Finset S256.Idx := ((lV).view.slice (lRow w)).set
abbrev oSet (w : Fin 32) : Finset S256x1024.Idx := ((oV).view.slice (oRow w)).set
/-- Reader `w`'s share of the table. -/
abbrev xq (w : Fin 32) : PosShare TreeShare := Shares.part 5 fullShare w.val

/-! ## The result -/

/-- An index of the table from its row and its column. -/
def xIx (r : Fin 8192) (c : Fin 1024) : S8192x1024.Idx := fun | 0 => r | 1 => c | ⟨_ + 2, h⟩ => absurd h (Nat.not_lt.2 (Nat.le_add_left _ _))
/-- An index of the list. -/
def lIx (k : Fin 256) : S256.Idx := fun | 0 => k | ⟨_ + 1, h⟩ => absurd h (Nat.not_lt.2 (Nat.le_add_left _ _))

/-- An index of a subcore's eight entries. -/
def sIx (k : Fin 8) : S8.Idx := fun | 0 => k | ⟨_ + 1, h⟩ => absurd h (Nat.not_lt.2 (Nat.le_add_left _ _))

/-- The row a word names, the last row for a word past it. -/
def rowOf (v : BitVec 32) : Fin 8192 := ⟨min v.toNat 8191, by omega⟩

/-- The gathered rows: row `k` is the table's row that entry `k` of the list names. -/
def gathered (X : S8192x1024.Idx → Elt F .f32) (L : S256.Idx → Elt F .i32) : S256x1024.Idx → Elt F .f32 :=
  fun j => X (xIx (rowOf (L (lIx (j 0)))) (j 1))

variable (X : Dev nD → S8192x1024.Idx → Elt F .f32) (I : Dev nD → S256.Idx → Elt F .i32) (O₀ : Dev nD → S256x1024.Idx → Elt F .f32)

abbrev lRowPts (d : Dev nD) (w : Fin 32) : sProp 𝕄 := lLoc d ↦[lSet w]{fullShare} I d
abbrev xShPts (d : Dev nD) (w : Fin 32) : sProp 𝕄 := xLoc d ↦{xq w} X d
abbrev oRowPts (d : Dev nD) (w : Fin 32) (f : S256x1024.Idx → Elt F .f32) : sProp 𝕄 := oLoc d ↦[oSet w]{fullShare} f

/-- Every entry of the list names a row of the table. -/
def InRange : Prop := ∀ (d : Dev nD) (j : S256.Idx), (I d j).toNat < 8192

section Body

variable (d : Dev nD) (L : grid0.Coords)

abbrev cV (L : grid0.Coords) : Fin τ.nSC := (L 0).castLE hcore0
abbrev jV (L : grid0.Coords) : Fin τ.nSub := (L 1).castLE hsub0
/-- The reader's number at coordinates `L`. -/
abbrev wL (L : grid0.Coords) : Fin 32 := Shares.workers (Fin.cast (show grid0.bound 0 = 2 from rfl) (L 0), Fin.cast (show grid0.bound 1 = 16 from rfl) (L 1))
theorem wL_val : (wL L).val = 2 * (L 1).val + (L 0).val := rfl

abbrev lRowK (L : grid0.Coords) : Rect S256 := Rect.unit (s := S256) (k0_off1 L) S8.size (k0_off1_inb L)
abbrev oRowK (L : grid0.Coords) : Rect S256x1024 := Rect.unit (s := S256x1024) (k0_off2 L) S8x1024.size (k0_off2_inb L)
abbrev lWin (L : grid0.Coords) : Memref sig .scVector .hbm S8 .i32 := (lV).slice (lRowK L) (fun _ => rfl)
abbrev oWin (L : grid0.Coords) : Memref sig .scVector .hbm S8x1024 .f32 := (oV).slice (oRowK L) (fun _ => rfl)

theorem lRowK_eq : lRowK L = lRow (wL L) := by
  unfold lRowK lRow Rect.part Rect.block
  congr 1 <;> funext a
  · rw [k0_off1_eq]
    match a with
    | 0 => simp [Shape.partIx, Shape.partSize, wL_val]; omega
  · match a with
    | 0 => simp [Shape.partSize]
theorem oRowK_eq : oRowK L = oRow (wL L) := by
  unfold oRowK oRow Rect.part Rect.block
  congr 1 <;> funext a
  · rw [k0_off2_eq]
    match a with
    | 0 => simp [Shape.partIx, Shape.partSize, wL_val]; omega
    | 1 => simp [Shape.partIx, Shape.partSize]
  · match a with
    | 0 => simp [Shape.partSize]
    | 1 => simp [Shape.partSize]

theorem set_lWin : (lWin L).view.set = lSet (wL L) := by
  show ((lV).view.slice (lRowK L)).set = ((lV).view.slice (lRow (wL L))).set
  exact lRowK_eq L ▸ rfl
theorem set_oWin : (oWin L).view.set = oSet (wL L) := by
  show ((oV).view.slice (oRowK L)).set = ((oV).view.slice (oRow (wL L))).set
  exact oRowK_eq L ▸ rfl

theorem pts_lWin (f : Buf (Elt F) (lLoc d)) :
    ((lWin L).view.loc (V d (cV L) (jV L)) ↦[(lWin L).view.set]{fullShare} f : sProp 𝕄) = lLoc d ↦[lSet (wL L)]{fullShare} f := by
  rw [set_lWin]
theorem pts_oWin (f : Buf (Elt F) (oLoc d)) :
    ((oWin L).view.loc (V d (cV L) (jV L)) ↦[(oWin L).view.set]{fullShare} f : sProp 𝕄) = oLoc d ↦[oSet (wL L)]{fullShare} f := by
  rw [set_oWin]
theorem pts_xV (q : PosShare TreeShare) (f : Buf (Elt F) (xLoc d)) :
    ((xV).view.loc (V d (cV L) (jV L)) ↦{q} f : sProp 𝕄) = xLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The three semaphores of the subcore: the gathers', the fetch's and the write-out's. -/
abbrev cell (d : Dev nD) (c : Fin τ.nSC) (i : Fin τ.nSub) (s : DmaSem sig) : GSem nD τ sig := (V d c i, .dma s)

theorem ownSems0_V :
    (ownSems0 (V d (cV L) (jV L)) : sProp 𝕄)
      = iprop(semVal (cell d (cV L) (jV L) cc0_scratch2.sem) 0 ∗ semVal (cell d (cV L) (jV L) cc0_scoped0.sem) 0 ∗ semVal (cell d (cV L) (jV L) cc0_scoped1.sem) 0
          ∗ bigSep ((((ownCells (V d (cV L) (jV L))).erase (cell d (cV L) (jV L) cc0_scratch2.sem)).erase (cell d (cV L) (jV L) cc0_scoped0.sem)).erase
              (cell d (cV L) (jV L) cc0_scoped1.sem)) fun g => semVal g 0) := by
  have hmem : ∀ s : DmaSem sig, (SemLoc.dma s : SemLoc sig).isScoped .scVector = true → cell d (cV L) (jV L) s ∈ ownCells (V d (cV L) (jV L)) :=
    fun s hs => mem_ownCells.mpr ⟨rfl, hs⟩
  have hne : ∀ s t : DmaSem sig, s ≠ t → cell d (cV L) (jV L) s ≠ cell d (cV L) (jV L) t := fun s t hst e => hst (by
    have := congrArg Prod.snd e
    exact SemLoc.dma.inj this)
  unfold SparseCore.Cfg.ownSems0
  rw [SparseCore.bigSep_erase' (hmem cc0_scratch2.sem (by decide)),
    SparseCore.bigSep_erase' (Finset.mem_erase.mpr ⟨hne _ _ (by decide), hmem cc0_scoped0.sem (by decide)⟩),
    SparseCore.bigSep_erase' (Finset.mem_erase.mpr ⟨hne _ _ (by decide), Finset.mem_erase.mpr ⟨hne _ _ (by decide), hmem cc0_scoped1.sem (by decide)⟩⟩)]

/-- The list's and the rows' buffers are among the subcore's own, with the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  have hm : ∀ r : Ref sig .scVector, ((Proc.scVector (cV L) (jV L)).devRef r).owner = Owner.proc (Proc.scVector (cV L) (jV L)) → (Proc.scVector (cV L) (jV L)).devRef r ∈ ownRefs (τ := τ) (.scVector (cV L) (jV L)) :=
    fun r h => SparseCore.Cfg.mem_ownRefs_of_owner (p := Proc.scVector (cV L) (jV L)) h
  refine (SparseCore.bigSep_erase' (hm cc0_scratch0 rfl)).trans ?_
  rw [SparseCore.bigSep_erase' (Finset.mem_erase.mpr ⟨fun e => absurd (Proc.devRef_injective _ e) (show (cc0_scratch1 : Ref sig .scVector) ≠ cc0_scratch0 by decide),
    hm cc0_scratch1 rfl⟩)]

variable [FloatOps F]

/-- The fetched entries, over whatever the buffer held, are in range. -/
theorem fetched_in_range (h : InRange I) (f : Buf (Elt F) ((V d (cV L) (jV L)).loc cc0_scratch0)) :
    ∀ x, ((sV).view.read (Elt F) (View.write (Elt F) (sV).view f ((lWin L).view.read (Elt F) (I d)) Finset.univ) x).toNat < S8192x128.size gathers_S8192x128_S8x128.axis := by
  intro x
  rw [View.write_whole_univ]
  simp only [Memref.view_whole, View.read_whole]
  rw [show ∀ j, (lWin L).view.read (Elt F) (I d) j = I d ((lWin L).view.emb j) from fun j => (View.read_apply _ _).trans (cast_eq _ _)]
  exact h d _

/-- What the write-out sends: the eight rows of the block, each the table's row that its entry of the list names. -/
def block : S8x1024.Idx → Elt F .f32 := fun x => gathered (X d) (I d) ((oRowK L).emb x)

/-- Entry `k` of the fetched list is entry `8 w + k` of the list. -/
theorem fetched_apply (f : Buf (Elt F) ((V d (cV L) (jV L)).loc cc0_scratch0)) (x : S8.Idx) :
    (sV).view.read (Elt F) (View.write (Elt F) (sV).view f ((lWin L).view.read (Elt F) (I d)) Finset.univ) x = I d ((lRowK L).emb x) := by
  rw [View.write_whole_univ]
  simp only [Memref.view_whole, View.read_whole]
  exact (View.read_apply _ _).trans (cast_eq _ _)

/-- One slab of 128 columns from column `o` on: the moved slab is the block's slab. -/
theorem slab (hin : InRange I) (o : ℕ) (inbX : ∀ a, (![0, o] : Fin 2 → ℕ) a + S8192x128.size a ≤ S8192x1024.size a)
    (inbR : ∀ a, (![0, o] : Fin 2 → ℕ) a + S8x128.size a ≤ S8x1024.size a) (f : Buf (Elt F) ((V d (cV L) (jV L)).loc cc0_scratch0))
    (hn : S8.numel = S8x128.size gathers_S8192x128_S8x128.axis') (h) (x : S8x128.Idx) :
    SparseCore.gatherPayload (F := F) (e := .f32) gathers_S8192x128_S8x128
        ((((xV).slice (Rect.unit (s := S8192x1024) ![0, o] S8192x128.size inbX) (fun _ => rfl)).slice
          (Rect.unit (s := S8192x128) ![0, 0] S8192x128.size inb_S8192x128_S8192x128_0_0) (fun _ => rfl)).view.read (Elt F) (X d))
        (SparseCore.rows ((sV).view.read (Elt F) (View.write (Elt F) (sV).view f ((lWin L).view.read (Elt F) (I d)) Finset.univ)) hn h) x
      = block X I d L ((Rect.unit (s := S8x1024) ![0, o] S8x128.size inbR).emb x) := by
  unfold SparseCore.gatherPayload block gathered
  refine ((View.read_apply _ _).trans (cast_eq _ _)).trans (congrArg (X d) (funext fun b => Fin.ext ?_))
  have hrow : ∀ k : Fin (S8x128.size gathers_S8192x128_S8x128.axis'), S8.rowMajor.symm (k.cast hn.symm) = sIx ⟨k.val, k.isLt⟩ := fun k => by
    rw [Equiv.symm_apply_eq]
    exact Fin.ext (Shape.rowMajor_val_one (d := ![8]) (sIx ⟨k.val, k.isLt⟩)).symm
  match b with
  | 0 =>
    have e := Shape.Gathers.idx_axis gathers_S8192x128_S8x128 (SparseCore.rows ((sV).view.read (Elt F) (View.write (Elt F) (sV).view f ((lWin L).view.read (Elt F) (I d)) Finset.univ)) hn h) x
    show 0 + 1 * (0 + 1 * (gathers_S8192x128_S8x128.idx _ x gathers_S8192x128_S8x128.axis).val) = min (I d _).toNat 8191
    have hk : (lRowK L).emb (sIx ⟨(x gathers_S8192x128_S8x128.axis').val, (x gathers_S8192x128_S8x128.axis').isLt⟩)
        = lIx ((oRowK L).emb ((Rect.unit (s := S8x1024) ![0, o] S8x128.size inbR).emb x) 0) := by
      funext a
      match a with
      | 0 =>
        refine Fin.ext ?_
        show k0_off1 L 0 + 1 * (x 0).val = k0_off2 L 0 + 1 * (0 + 1 * (x 0).val)
        rw [k0_off1_eq, k0_off2_eq]
        simp
    have er : (SparseCore.rows ((sV).view.read (Elt F) (View.write (Elt F) (sV).view f ((lWin L).view.read (Elt F) (I d)) Finset.univ)) hn h
        (x gathers_S8192x128_S8x128.axis')).val = (I d (lIx ((oRowK L).emb ((Rect.unit (s := S8x1024) ![0, o] S8x128.size inbR).emb x) 0))).toNat := by
      have ev := (congrArg ((sV).view.read (Elt F) (View.write (Elt F) (sV).view f ((lWin L).view.read (Elt F) (I d)) Finset.univ))
        (hrow (x gathers_S8192x128_S8x128.axis'))).trans ((fetched_apply I d L f _).trans (congrArg (I d) hk))
      have et := congrArg (fun v : BitVec 32 => v.toNat) ev
      exact Eq.trans (by rfl) et
    rw [e, er]
    have := hin d (lIx ((oRowK L).emb ((Rect.unit (s := S8x1024) ![0, o] S8x128.size inbR).emb x) 0))
    omega
  | 1 =>
    have e := Shape.Gathers.idx_of_ne gathers_S8192x128_S8x128 (SparseCore.rows ((sV).view.read (Elt F) (View.write (Elt F) (sV).view f ((lWin L).view.read (Elt F) (I d)) Finset.univ)) hn h) x 1 (by decide)
    show o + 1 * (0 + 1 * (gathers_S8192x128_S8x128.idx _ x 1).val) = k0_off2 L 1 + 1 * (o + 1 * (x 1).val)
    rw [e, k0_off2_eq]
    show o + 1 * (0 + 1 * (x 1).val) = 0 + 1 * (o + 1 * (x 1).val)
    omega

/-- The block of the result after the write-out of a row buffer holding the block's rows. -/
theorem written_block (w : S8x1024.Idx → Elt F .f32) (hw : w = block X I d L) :
    ∀ j ∈ (oWin L).view.set, (oWin L).view.writes (Elt F) (O₀ d) [⟨Rect.whole S8x1024, w⟩] j = gathered (X d) (I d) j := by
  intro j hj
  subst hw
  obtain ⟨x, -, rfl⟩ := Finset.mem_map.mp hj
  have h := congrFun (View.read_writes_whole (oWin L).view (O₀ d) (block X I d L)) x
  exact ((cast_eq _ _).symm.trans ((View.read_apply _ _).symm.trans h)).trans rfl

set_option maxHeartbeats 4000000 in
theorem tile_body (hF : (K (F := F)).Facts) (hin : InRange I) (O : CellTallies nD τ sig (HIx 1)) (W : Waits sig (HIx 1)) (hO : ∀ g, O g none = 0) :
    iprop(levAts (K (F := F)).L (K (F := F)).lev ∗ emp
        ∗ (lRowPts I d (wL L) ∗ xShPts X d (wL L) ∗ oRowPts d (wL L) (O₀ d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gk L xV (Memref.isWhole_whole _) lV (Memref.isWhole_whole _) oV (Memref.isWhole_whole _)
            sV (Memref.isWhole_whole _) rV (Memref.isWhole_whole _) cc0_scratch2 cc0_scoped0 cc0_scoped1)
          fun _ => iprop((lRowPts I d (wL L) ∗ xShPts X d (wL L) ∗ oRowPts d (wL L) (gathered (X d) (I d)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gk_eq_skeleton]; unfold cc0_gk_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_lWin (F := F) d L _).symm) $$ Hi
  ihave Ho' := (Entails.of_eq (pts_oWin (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  have hin' := fetched_in_range I d L hin
  sl_exec
  have hbuf : tile_body.sl.dma0_1 X I d L fs fr hin' = block X I d L := by
    unfold tile_body.sl.dma0_1
    refine funext fun x => View.read_writes_apply_of_pieces (rV).view fr (block X I d L) _ ?_ x ?_
    · simp only [List.forall_mem_cons]
      refine ⟨?_, ?_, ?_, ?_, ?_, ?_, ?_, ?_, fun _ h => absurd h List.not_mem_nil⟩
      all_goals intro y
      · exact slab X I d L hin 896 _ _ _ _ _ y
      · exact slab X I d L hin 768 _ _ _ _ _ y
      · exact slab X I d L hin 640 _ _ _ _ _ y
      · exact slab X I d L hin 512 _ _ _ _ _ y
      · exact slab X I d L hin 384 _ _ _ _ _ y
      · exact slab X I d L hin 256 _ _ _ _ _ y
      · exact slab X I d L hin 128 _ _ _ _ _ y
      · exact slab X I d L hin 0 _ _ _ _ _ y
    · have hx0 : (x 0).val < 8 := (x 0).isLt
      have hx1 : (x 1).val < 1024 := (x 1).isLt
      have hm : ∀ (o : ℕ) (inb : ∀ a, (![0, o] : Fin 2 → ℕ) a + S8x128.size a ≤ S8x1024.size a), o ≤ (x 1).val → (x 1).val < o + 128 →
          x ∈ (Rect.unit (s := S8x1024) ![0, o] S8x128.size inb).set := fun o inb h1 h2 => by
        refine Rect.mem_set_unit.mpr fun a => ?_
        match a with
        | 0 => exact ⟨Nat.zero_le _, by show (x 0).val < 0 + 8; omega⟩
        | 1 => exact ⟨h1, h2⟩
      by_cases h896 : 896 ≤ (x 1).val; · exact ⟨_, .head _, hm 896 inb_S8x1024_S8x128_0_896 h896 (by omega)⟩
      by_cases h768 : 768 ≤ (x 1).val; · exact ⟨_, .tail _ (.head _), hm 768 inb_S8x1024_S8x128_0_768 h768 (by omega)⟩
      by_cases h640 : 640 ≤ (x 1).val; · exact ⟨_, .tail _ (.tail _ (.head _)), hm 640 inb_S8x1024_S8x128_0_640 h640 (by omega)⟩
      by_cases h512 : 512 ≤ (x 1).val; · exact ⟨_, .tail _ (.tail _ (.tail _ (.head _))), hm 512 inb_S8x1024_S8x128_0_512 h512 (by omega)⟩
      by_cases h384 : 384 ≤ (x 1).val; · exact ⟨_, .tail _ (.tail _ (.tail _ (.tail _ (.head _)))), hm 384 inb_S8x1024_S8x128_0_384 h384 (by omega)⟩
      by_cases h256 : 256 ≤ (x 1).val; · exact ⟨_, .tail _ (.tail _ (.tail _ (.tail _ (.tail _ (.head _))))), hm 256 inb_S8x1024_S8x128_0_256 h256 (by omega)⟩
      by_cases h128 : 128 ≤ (x 1).val; · exact ⟨_, .tail _ (.tail _ (.tail _ (.tail _ (.tail _ (.tail _ (.head _)))))), hm 128 inb_S8x1024_S8x128_0_128 h128 (by omega)⟩
      exact ⟨_, .tail _ (.tail _ (.tail _ (.tail _ (.tail _ (.tail _ (.tail _ (.head _))))))), hm 0 inb_S8x1024_S8x128_0_0 (Nat.zero_le _) (by omega)⟩
  sl_step
  isplitl [Hi' Hx' Ho']
  · isplitl [Hi']; · iapply (Entails.of_eq (pts_lWin (F := F) d L _)); iexact Hi'
    isplitl [Hx']; · iexact Hx'
    iapply (Entails.of_eq (pts_oWin (F := F) d L (gathered (X d) (I d))))
    iapply (Entails.of_eq (pointsTo_congr (written_block X I O₀ d L _ hbuf)))
    iexact Ho'
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  simp only [Finset.mem_insert] at hp
  rcases hp with hp | hp | hp | hp | hp | hp | hp | hp | hp | hp | hp
  all_goals first | exact .inl hp | exact .inr (hp ▸ rfl)

end Body

end Cert.Proof.Tile

end
-- ==== Proof.Call.lean ====
/-
  The row gather's launch: what the TensorCore hands the two SparseCores and gets back, each subcore's obligation from
  its own part (`Tile.tile_body`), and the split of the table, the list and the result into the thirty-two parts.
-/
module

public import proofs.«01_k».proof.Proof.Tile

@[expose] public section

noncomputable section

namespace Cert.Proof.Call

open Cert.KernelIdeal Cert.KernelIdeal.Gen Cert.Proof.Tile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "lV" => (Memref.whole Cert.KernelIdeal.main_v20_scv : Memref Cert.KernelIdeal.sig Kind.scVector Space.hbm Cert.KernelIdeal.S256 EltTy.i32)
local notation "xV" => (Memref.whole Cert.KernelIdeal.main_arg1_scv : Memref Cert.KernelIdeal.sig Kind.scVector Space.hbm Cert.KernelIdeal.S8192x1024 EltTy.f32)
local notation "oV" => (Memref.whole Cert.KernelIdeal.main_v21_scv : Memref Cert.KernelIdeal.sig Kind.scVector Space.hbm Cert.KernelIdeal.S256x1024 EltTy.f32)
local notation "sV" => (Memref.whole Cert.KernelIdeal.cc0_scratch0 : Memref Cert.KernelIdeal.sig Kind.scVector Space.vmem Cert.KernelIdeal.S8 EltTy.i32)
local notation "rV" => (Memref.whole Cert.KernelIdeal.cc0_scratch1 : Memref Cert.KernelIdeal.sig Kind.scVector Space.vmem Cert.KernelIdeal.S8x1024 EltTy.f32)

theorem nSub_zero : (K (F := F)).nSub 0 = 16 := rfl
theorem nCore_zero : (K (F := F)).nCore 0 = 2 := rfl

variable (X : Dev nD → S8192x1024.Idx → Elt F .f32) (I : Dev nD → S256.Idx → Elt F .i32) (O₀ : Dev nD → S256x1024.Idx → Elt F .f32)

/-! ## What is handed over -/

/-- What reader `w` is handed: its entries of the list, its share of the table, its block of the result. -/
abbrev handed (d : Dev nD) (w : Fin 32) : sProp 𝕄 := iprop(lRowPts I d w ∗ xShPts X d w ∗ oRowPts d w (O₀ d))
/-- What it hands back: the same, its block now the gathered rows. -/
abbrev returned (d : Dev nD) (w : Fin 32) : sProp 𝕄 := iprop(lRowPts I d w ∗ xShPts X d w ∗ oRowPts d w (gathered (X d) (I d)))

/-- Each SparseCore is handed its sixteen readers' parts, and each reader its own. -/
def P : (K (F := F)).Pay (nD := nD) (Val := Elt F) (Name := ℕ) (U := UU) where
  st := fun q d c => match q with | 0 => bigSep Finset.univ fun i : Fin 16 => handed X I O₀ d (Shares.workers (Fin.cast nCore_zero c, i))
  dn := fun q d c => match q with | 0 => bigSep Finset.univ fun i : Fin 16 => returned X I d (Shares.workers (Fin.cast nCore_zero c, i))
  go := fun q d c i => match q with | 0 => handed X I O₀ d (Shares.workers (Fin.cast nCore_zero c, Fin.cast nSub_zero i))
  td := fun q d c i => match q with | 0 => returned X I d (Shares.workers (Fin.cast nCore_zero c, Fin.cast nSub_zero i))
  x := fun _ _ => iprop(emp)

instance P_storable : (P (F := F) X I O₀).IsStorable where
  st q d c := match q with
    | 0 => (inferInstance : BI.Storable (upEmb : UEmb _ 𝕄) (bigSep Finset.univ fun i : Fin 16 => handed X I O₀ d (Shares.workers (Fin.cast nCore_zero c, i))))
  dn q d c := match q with
    | 0 => (inferInstance : BI.Storable (upEmb : UEmb _ 𝕄) (bigSep Finset.univ fun i : Fin 16 => returned X I d (Shares.workers (Fin.cast nCore_zero c, i))))
  go q d c i := match q with
    | 0 => (inferInstance : BI.Storable (upEmb : UEmb _ 𝕄) (handed X I O₀ d (Shares.workers (Fin.cast nCore_zero c, Fin.cast nSub_zero i))))
  td q d c i := match q with
    | 0 => (inferInstance : BI.Storable (upEmb : UEmb _ 𝕄) (returned X I d (Shares.workers (Fin.cast nCore_zero c, Fin.cast nSub_zero i))))

/-! ## Each subcore's obligation -/

/-- The coordinates of subcore `s` of SparseCore `c`. -/
def coords (c : Fin (grid0.bound 0)) (s : Fin (grid0.bound 1)) : grid0.Coords :=
  fun | 0 => c | 1 => s | ⟨_ + 2, h⟩ => absurd h (Nat.not_lt.2 (Nat.le_add_left _ _))

theorem weaken_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable [FloatOps F]

theorem body_at (c : Fin τ.nSC) (s : Fin τ.nSub) :
    defs₀ (F := F) (.scVector c s) 0 ()
      = SparseCore.onTile hcore0 hsub0 (fun c s => cc0_gk (coords c s)
          xV (Memref.isWhole_whole _) lV (Memref.isWhole_whole _) oV (Memref.isWhole_whole _)
          sV (Memref.isWhole_whole _) rV (Memref.isWhole_whole _) cc0_scratch2 cc0_scoped0 cc0_scoped1) ⟨⟩ c s := rfl

set_option maxRecDepth 16384 in
theorem tileObl (hF : (K (F := F)).Facts) (hin : InRange I) : (K (F := F)).TileObl (D (F := F)) 𝒱 (P X I O₀) v₀ 0 := by
  intro d c i O W hO _ _
  simp only [show (P X I O₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [body_at]; simp only [SparseCore.onTile, hci, and_self, ↓reduceDIte]
  exact (tile_body X I O₀ d (coords ⟨_, hci.1⟩ ⟨_, hci.2⟩) hF hin O W hO).trans (wp_mono frame _ _ fun _ => weaken_waits)

/-! ## The split into thirty-two parts -/

theorem lSet_eq (w : Fin 32) : lSet w = (lRow w).set := by
  show ((View.whole (main_v20_scv : Ref sig .scVector)).slice (lRow w)).set = _
  rw [View.set_slice]; exact Finset.map_refl
theorem oSet_eq (w : Fin 32) : oSet w = (oRow w).set := by
  show ((View.whole (main_v21_scv : Ref sig .scVector)).slice (oRow w)).set = _
  rw [View.set_slice]; exact Finset.map_refl

theorem list_parts (d : Dev nD) (f : Buf (Elt F) (lLoc d)) :
    (lLoc d ↦{fullShare} f : sProp 𝕄) = bigSep Finset.univ fun w : Fin 32 => lLoc d ↦[lSet w]{fullShare} f := by
  rw [← pointsTo_biUnion Finset.univ (ℓ := lLoc d) lSet fun i _ j _ h => by rw [lSet_eq, lSet_eq]; exact Rect.part_disjoint ldiv h,
    (Finset.biUnion_congr rfl fun i _ => lSet_eq i).trans (Rect.biUnion_part ldiv)]; try rfl
theorem result_parts (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet fun i _ j _ h => by rw [oSet_eq, oSet_eq]; exact Rect.part_disjoint odiv h,
    (Finset.biUnion_congr rfl fun i _ => oSet_eq i).trans (Rect.biUnion_part odiv)]; try rfl
theorem table_shares (d : Dev nD) (f : Buf (Elt F) (xLoc d)) :
    (xLoc d ↦{fullShare} f : sProp 𝕄) = bigSep Finset.univ fun w : Fin 32 => xLoc d ↦{xq w} f :=
  Shares.pointsTo_parts Finset.univ f 5 fullShare

/-- The three arrays whole are the thirty-two readers' parts, by SparseCore and subcore. -/
theorem whole_parts (d : Dev nD) (f : S256x1024.Idx → Elt F .f32) :
    (iprop((lLoc d ↦{fullShare} I d) ∗ (xLoc d ↦{fullShare} X d) ∗ oLoc d ↦{fullShare} f) : sProp 𝕄)
      = bigSep Finset.univ fun c : Fin 2 => bigSep Finset.univ fun i : Fin 16 =>
          iprop(lRowPts I d (Shares.workers (c, i)) ∗ xShPts X d (Shares.workers (c, i)) ∗ oRowPts d (Shares.workers (c, i)) f) := by
  rw [list_parts, table_shares, result_parts, ← bigSep_sep', ← bigSep_sep', bigSep_univ_equiv Shares.workers, bigSep_univ_prod]

theorem st_eq (d : Dev nD) : (bigSep Finset.univ fun c : Fin ((K (F := F)).nCore 0) => (P X I O₀).st 0 d c)
    = iprop((lLoc d ↦{fullShare} I d) ∗ (xLoc d ↦{fullShare} X d) ∗ oLoc d ↦{fullShare} O₀ d) := (whole_parts X I d (O₀ d)).symm
theorem dn_eq (d : Dev nD) : (bigSep Finset.univ fun c : Fin ((K (F := F)).nCore 0) => (P X I O₀).dn 0 d c)
    = iprop((lLoc d ↦{fullShare} I d) ∗ (xLoc d ↦{fullShare} X d) ∗ oLoc d ↦{fullShare} gathered (X d) (I d)) := (whole_parts X I d (gathered (X d) (I d))).symm

theorem vecSplit : (K (F := F)).VecSplit' (P X I O₀) 0 := by
  intro d c
  show (bigSep Finset.univ fun i : Fin 16 => handed X I O₀ d (Shares.workers (Fin.cast nCore_zero c, i))) ⊢ |={Set.univ}=> iprop(
      (bigSep Finset.univ fun i : Fin 16 => handed X I O₀ d (Shares.workers (Fin.cast nCore_zero c, i)))
      ∗ ((bigSep Finset.univ fun i : Fin 16 => returned X I d (Shares.workers (Fin.cast nCore_zero c, i)))
          -∗ bigSep Finset.univ fun i : Fin 16 => returned X I d (Shares.workers (Fin.cast nCore_zero c, i))))
  iintro H; imodintro
  isplitl [H]; · iexact H
  iintro H; iexact H

/-! ## The ghost state at the launch -/

/-- No window of the three pipelines reads a prefetched table. -/
abbrev adm (q : Fin 3) : (pcfgs (F := F) q).Adm := (cfgs q).toPCfg_adm
/-- The three pipelines' configurations, as the regions' rule spells them. -/
abbrev pins : Fin 3 → Pipeline.Cfg sig Λ₀ := Pipeline.pin (pcfgs (F := F)) adm
theorem pins_inj : Function.Injective (Pipeline.cellOf (nD := nD) (τ := τ) (pins (F := F))) := cellOf_inj

/-- The launch's ghost state: the handshakes', the pipelines' and nothing for the tile copies. -/
def u₀ : UU := (initOf (K (F := F)).hsCells (K (F := F)).hsToks,
  (initOf (Pipeline.cells (pins (F := F)) pins_inj) (Pipeline.launchToks (pins (F := F)) pins_inj), 1))

theorem emps {J : Type} (s : Finset J) : (bigSep s fun _ => iprop(emp)) = (iprop(emp) : sProp 𝕄) := bigSep_emp_const s

/-- What device `d` is given for its three pipelines. -/
abbrev G (d : Dev nD) : sProp 𝕄 := iprop((bigSep Finset.univ fun p : Fin 3 => Pipeline.cellsGhost (pins (F := F)) EP p d)
  ∗ bigSep Finset.univ fun p : Fin 3 => Pipeline.toksInit (pins (F := F)) EP p d)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P X I O₀).x q thr) := by
  unfold u₀
  iintro Hu
  ihave H := (ownU_pair (initOf (K (F := F)).hsCells (K (F := F)).hsToks)
    ((initOf (Pipeline.cells (pins (F := F)) pins_inj) (Pipeline.launchToks (pins (F := F)) pins_inj), 1) : UP × Counters)) $$ Hu
  icases H with ⟨HH, HR⟩
  ihave H := (own_pair_emb (embR : Emb (UP × Counters) 𝕄)
    (initOf (Pipeline.cells (pins (F := F)) pins_inj) (Pipeline.launchToks (pins (F := F)) pins_inj)) (1 : Counters)) $$ HR
  icases H with ⟨HP, -⟩
  ihave HP := (Entails.of_eq (show BI.own (((Emb.inl : Emb UP (UP × Counters)).trans (embR : Emb (UP × Counters) 𝕄)) (initOf (Pipeline.cells (pins (F := F)) pins_inj) (Pipeline.launchToks (pins (F := F)) pins_inj)))
    = (BI.own (EP (initOf (Pipeline.cells (pins (F := F)) pins_inj) (Pipeline.launchToks (pins (F := F)) pins_inj))) : sProp 𝕄) from rfl)) $$ HP
  ihave H := (Pipeline.fund_ghost (pins (F := F)) EP pins_inj (Val := Elt F) (Ix := HIx 1) (Name := ℕ) (U := UU) (Lvl := ℕ)) $$ HP
  imod H with ⟨Hg, Ht⟩
  imodintro
  isplitl [HH]; · iexact HH
  isplitl [Hg Ht]
  · rw [bigSep_sep']
    isplitl [Hg] <;> iassumption
  rw [show (bigSep Finset.univ fun thr : Thread nD τ => bigSep Finset.univ fun q : Fin 1 => (P (F := F) X I O₀).x q thr) = bigSep Finset.univ fun _ => iprop(emp) from
    bigSep_congr fun _ _ => bigSep_univ_of_subsingleton (0 : Fin 1), emps]
  iempintro

end Cert.Proof.Call

end
-- ==== Proof.KvBody.lean ====
/-
  The second kernel's body, run on whole buffers: from the 256 gathered rows, the two projections' weights and biases and
  the mask, it leaves in each of its two results four blocks, one per batch row, each the batch row's 64 projected rows
  repeated sixteen times and masked.
-/
module

public import proofs.«01_k».proof.Proof.Tile
public import Idealize.ShloMosaic.Lib.Pipeline.FrameBody
public import Idealize.ShloMosaic.Lib.Pipeline.Value

@[expose] public section

noncomputable section

namespace Cert.Proof.KvBody

open Cert.KernelIdeal Cert.KernelIdeal.Gen Cert.Proof.Tile

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- Buffer `M`, whole, at contents `f`. -/
abbrev pt (c : Dev nD) {sp : Space} {s : Shape} {e : EltTy} (M : Memref sig .tc sp s e) (f : Buf (Elt F) (M.view.loc (c : Thread nD τ))) : sProp 𝕄 :=
  M.view.loc (c : Thread nD τ) ↦{fullShare} f
/-- Contents of buffer `M`. -/
abbrev Bf (c : Dev nD) {sp : Space} {s : Shape} {e : EltTy} (M : Memref sig .tc sp s e) : Type := Buf (Elt F) (M.view.loc (c : Thread nD τ))

theorem hz2 : (![0, 0] : Fin 2 → Nat) = fun _ => 0 := funext fun a => by fin_cases a <;> rfl
theorem hz3 : (![0, 0, 0] : Fin 3 → Nat) = fun _ => 0 := funext fun a => by fin_cases a <;> rfl

variable [∀ e, Nonempty (Elt F e)]

/-- Block `b` of a result. -/
abbrev blk0 : Rect S4x1024x1024 := Rect.unit (s := S4x1024x1024) ![0, 0, 0] S1x1024x1024.size inb_S4x1024x1024_S1x1024x1024_0_0_0
abbrev blk1 : Rect S4x1024x1024 := Rect.unit (s := S4x1024x1024) ![1, 0, 0] S1x1024x1024.size inb_S4x1024x1024_S1x1024x1024_1_0_0
abbrev blk2 : Rect S4x1024x1024 := Rect.unit (s := S4x1024x1024) ![2, 0, 0] S1x1024x1024.size inb_S4x1024x1024_S1x1024x1024_2_0_0
abbrev blk3 : Rect S4x1024x1024 := Rect.unit (s := S4x1024x1024) ![3, 0, 0] S1x1024x1024.size inb_S4x1024x1024_S1x1024x1024_3_0_0

/-- The four blocks, last written first. -/
abbrev four (p0 p1 p2 p3 : Vec F S1x1024x1024 .bf16) : List (View.Piece (Elt F) S4x1024x1024 .bf16) :=
  [⟨blk3, p3⟩, ⟨blk2, p2⟩, ⟨blk1, p1⟩, ⟨blk0, p0⟩]

theorem four_cover (p0 p1 p2 p3 : Vec F S1x1024x1024 .bf16) (y : S4x1024x1024.Idx) : ∃ p ∈ four (F := F) p0 p1 p2 p3, y ∈ p.1.set := by
  have h0 : (y 0 : Nat) < 4 := (y 0).isLt
  have h1 : (y 1 : Nat) < 1024 := (y 1).isLt
  have h2 : (y 2 : Nat) < 1024 := (y 2).isLt
  have key : ∀ (b : Nat) (hb : ∀ a, (![b, 0, 0] : Fin 3 → Nat) a + S1x1024x1024.size a ≤ S4x1024x1024.size a), (y 0 : Nat) = b →
      y ∈ (Rect.unit (s := S4x1024x1024) ![b, 0, 0] S1x1024x1024.size hb).set := by
    intro b hb hy
    rw [Rect.mem_set_unit]
    intro a
    match a with
    | ⟨0, _⟩ => show b ≤ (y 0 : Nat) ∧ (y 0 : Nat) < b + 1; omega
    | ⟨1, _⟩ => show 0 ≤ (y 1 : Nat) ∧ (y 1 : Nat) < 0 + 1024; omega
    | ⟨2, _⟩ => show 0 ≤ (y 2 : Nat) ∧ (y 2 : Nat) < 0 + 1024; omega
  rcases (by omega : (y 0 : Nat) = 0 ∨ (y 0 : Nat) = 1 ∨ (y 0 : Nat) = 2 ∨ (y 0 : Nat) = 3) with h | h | h | h
  · exact ⟨⟨blk0, p0⟩, by simp, key 0 inb_S4x1024x1024_S1x1024x1024_0_0_0 h⟩
  · exact ⟨⟨blk1, p1⟩, by simp, key 1 inb_S4x1024x1024_S1x1024x1024_1_0_0 h⟩
  · exact ⟨⟨blk2, p2⟩, by simp, key 2 inb_S4x1024x1024_S1x1024x1024_2_0_0 h⟩
  · exact ⟨⟨blk3, p3⟩, by simp, key 3 inb_S4x1024x1024_S1x1024x1024_3_0_0 h⟩

/-- The first result: the keys' four blocks. -/
def kOut (X0 : Vec F S256x1024 .f32) (X1 : Vec F S1024x1024 .bf16) (X2 : Vec F S1x1024 .f32) (X5 : Vec F S1024x1024 .bf16) : Vec F S4x1024x1024 .bf16 :=
  View.canon (four (k1_pay7 X0 X1 X2 X5) (k1_pay9 (k1_pay4 X0 X1 X2) (k1_pay6 X5)) (k1_pay11 (k1_pay4 X0 X1 X2) (k1_pay6 X5))
    (k1_pay1 (k1_pay6 X5) (k1_pay13 (k1_pay4 X0 X1 X2))))

/-- The second: the values'. -/
def vOut (X0 : Vec F S256x1024 .f32) (X3 : Vec F S1024x1024 .bf16) (X4 : Vec F S1x1024 .f32) (X5 : Vec F S1024x1024 .bf16) : Vec F S4x1024x1024 .bf16 :=
  View.canon (four (k1_pay8 X0 X3 X4 X5) (k1_pay10 (k1_pay5 X0 X3 X4) (k1_pay6 X5)) (k1_pay12 (k1_pay5 X0 X3 X4) (k1_pay6 X5))
    (k1_pay2 (k1_pay6 X5) (k1_pay14 (k1_pay5 X0 X3 X4))))

/-- What a list of writes leaves, by its canonical contents. -/
theorem close (c : Dev nD) {sp : Space} {s : Shape} {e : EltTy} (M : Memref sig .tc sp s e) (h : M.IsWhole) (L : List (View.Piece (Elt F) s e)) :
    (M.view.loc (c : Thread nD τ) ↦{fullShare} M.view.writes (Elt F) M.view.junk L : sProp 𝕄) = pt c M (h.unread (View.canon L)) := by
  unfold pt
  rw [h.eq_unread (View.read_writes_junk_eq_canon M.view L)]

set_option maxHeartbeats 400000 in
theorem run (c : Dev nD) (a0 : Memref sig .tc .vmem S256x1024 .f32) (h0 : a0.IsWhole) (a1 : Memref sig .tc .vmem S1024x1024 .bf16) (h1 : a1.IsWhole)
    (a2 : Memref sig .tc .vmem S1x1024 .f32) (h2 : a2.IsWhole) (a3 : Memref sig .tc .vmem S1024x1024 .bf16) (h3 : a3.IsWhole)
    (a4 : Memref sig .tc .vmem S1x1024 .f32) (h4 : a4.IsWhole) (a5 : Memref sig .tc .vmem S1024x1024 .bf16) (h5 : a5.IsWhole)
    (a6 : Memref sig .tc .vmem S4x1024x1024 .bf16) (h6 : a6.IsWhole) (a7 : Memref sig .tc .vmem S4x1024x1024 .bf16) (h7 : a7.IsWhole)
    (X0 : Vec F S256x1024 .f32) (X1 : Vec F S1024x1024 .bf16) (X2 : Vec F S1x1024 .f32) (X3 : Vec F S1024x1024 .bf16) (X4 : Vec F S1x1024 .f32)
    (X5 : Vec F S1024x1024 .bf16) (f6 : Bf (F := F) c a6) (f7 : Bf (F := F) c a7) (E : Set ℕ) (Q : PUnit → sProp 𝕄) :
    iprop(pt c a0 (h0.unread X0) ∗ pt c a1 (h1.unread X1) ∗ pt c a2 (h2.unread X2) ∗ pt c a3 (h3.unread X3) ∗ pt c a4 (h4.unread X4)
        ∗ pt c a5 (h5.unread X5) ∗ pt c a6 f6 ∗ pt c a7 f7
        ∗ ((pt c a0 (h0.unread X0) ∗ pt c a1 (h1.unread X1) ∗ pt c a2 (h2.unread X2) ∗ pt c a3 (h3.unread X3) ∗ pt c a4 (h4.unread X4)
          ∗ pt c a5 (h5.unread X5) ∗ pt c a6 (h6.unread (kOut X0 X1 X2 X5)) ∗ pt c a7 (h7.unread (vOut X0 X3 X4 X5))) -∗ Q ⟨⟩))
      ⊢ wp frame (wpE defs₀ Variants.none (c : Thread nD τ) none) E (cc1__kv_pack_body a0 h0 a1 h1 a2 h2 a3 h3 a4 h4 a5 h5 a6 h6 a7 h7) Q := by
  rw [cc1__kv_pack_body_eq_skeleton]; unfold cc1__kv_pack_body_skel
  rw [k1_part1_eq_skeleton, k1_part2_eq_skeleton]; unfold k1_part1_skel k1_part2_skel
  iintro ⟨H0, H1, H2, H3, H4, H5, H6, H7, Hk⟩
  sl_exec!
  sl_step
  ihave H6 := (Entails.of_eq (close c a6 h6 _)) $$ H6
  ihave H7 := (Entails.of_eq (close c a7 h7 _)) $$ H7
  sl_unfold_words
  simp only [View.readAt_eq_ld, h0.read_unread, h1.read_unread, h2.read_unread, h3.read_unread, h4.read_unread, h5.read_unread,
    View.ld_unit_zero (S := S256x1024) hz2, View.ld_unit_zero (S := S1024x1024) hz2, View.ld_unit_zero (S := S1x1024) hz2]
  iapply Hk
  isplitl [H0]; · iexact H0
  isplitl [H1]; · iexact H1
  isplitl [H2]; · iexact H2
  isplitl [H3]; · iexact H3
  isplitl [H4]; · iexact H4
  isplitl [H5]; · iexact H5
  unfold kOut vOut four
  isplitl [H6]; · iexact H6
  iexact H7

end Cert.Proof.KvBody

end
-- ==== Proof.AttnBody.lean ====
/-
  The third kernel's body, run on whole buffers: from a tile of the activations, the batch row's keys and values, the mask,
  the weights and the gate it leaves the tile of the updated activations, and adds the tile's attention weight per
  selected row to its second result, which the first tile of a batch row starts from zero.
-/
module

public import proofs.«01_k».proof.Proof.KvBody

@[expose] public section

noncomputable section

namespace Cert.Proof.AttnBody

open Cert.KernelIdeal Cert.KernelIdeal.Gen Cert.Proof.Tile Cert.Proof.KvBody

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [∀ e, Nonempty (Elt F e)]

local notation "𝕄" => MT nD τ sig (HIx 1) (Elt F) ℕ UU ℕ

/-- The tile's queries. -/
abbrev qV (X0 : Vec F S1x512x1024 .f32) (X5 : Vec F S1024x1024 .bf16) (X6 X9 X10 : Vec F S1x1024 .f32) : FVec F S512x1024 .bf16 :=
  k2_pay5 X0 X9 X10 X5 X6
/-- The tile's attention weight per selected row, over its positions and heads. -/
abbrev massV (X0 : Vec F S1x512x1024 .f32) (X1 : Vec F S1x1024x1024 .bf16) (X3 : Vec F S1024x1024 .bf16) (X4 : Vec F S1x512 .bf16)
    (X5 : Vec F S1024x1024 .bf16) (X6 X9 X10 : Vec F S1x1024 .f32) : FVec F S1x64 .f32 :=
  k2_pay7 (qV X0 X5 X6 X9 X10) X1 X3 X4
/-- The tile of updated activations. -/
abbrev outV (X0 : Vec F S1x512x1024 .f32) (X1 X2 : Vec F S1x1024x1024 .bf16) (X3 X5 : Vec F S1024x1024 .bf16) (X6 : Vec F S1x1024 .f32)
    (X7 : Vec F S1024x1024 .bf16) (X8 X9 X10 : Vec F S1x1024 .f32) (X11 : Vec F S1x1 .f32) : FVec F S1x512x1024 .f32 :=
  k2_pay1 (k2_pay4 X0) (k2_pay8 (qV X0 X5 X6 X9 X10) X1 X3 X2) X7 X8 (View.ld X11 (Rect.unit ![0, 0] ![1, 1] inb_S1x1_S1x1_0_0) (Shape.Idx.first (s := S1x1) (by decide)))

/-- The body starts the sum from zero exactly at the first tile of a batch row. -/
theorem resets_iff (i : grid2.Coords) : Scalar.cmpi .ne (Scalar.extui (Scalar.cmpi .eq (BitVec.ofNat 32 (i 1).val) 0#32) : BitVec 32) 0#32 = 1#1 ↔ (i 1).val = 0 := by
  have h : (i 1).val < 4 := (i 1).isLt
  rcases (by omega : (i 1).val = 0 ∨ (i 1).val = 1 ∨ (i 1).val = 2 ∨ (i 1).val = 3) with h | h | h | h <;> rw [h] <;> decide

set_option maxHeartbeats 600000 in
/-- At the first tile of a batch row. -/
theorem run_first (c : Dev nD) (i : grid2.Coords)
    (a2 : Memref sig .tc .vmem S1x512x1024 .f32) (h2 : a2.IsWhole)
    (a3 : Memref sig .tc .vmem S1x1024x1024 .bf16) (h3 : a3.IsWhole)
    (a4 : Memref sig .tc .vmem S1x1024x1024 .bf16) (h4 : a4.IsWhole)
    (a5 : Memref sig .tc .vmem S1024x1024 .bf16) (h5 : a5.IsWhole)
    (a6 : Memref sig .tc .vmem S1x512 .bf16) (h6 : a6.IsWhole)
    (a7 : Memref sig .tc .vmem S1024x1024 .bf16) (h7 : a7.IsWhole)
    (a8 : Memref sig .tc .vmem S1x1024 .f32) (h8 : a8.IsWhole)
    (a9 : Memref sig .tc .vmem S1024x1024 .bf16) (h9 : a9.IsWhole)
    (a10 : Memref sig .tc .vmem S1x1024 .f32) (h10 : a10.IsWhole)
    (a11 : Memref sig .tc .vmem S1x1024 .f32) (h11 : a11.IsWhole)
    (a12 : Memref sig .tc .vmem S1x1024 .f32) (h12 : a12.IsWhole)
    (a13 : Memref sig .tc .smem S1x1 .f32) (h13 : a13.IsWhole)
    (a14 : Memref sig .tc .vmem S1x512x1024 .f32) (h14 : a14.IsWhole)
    (a15 : Memref sig .tc .vmem S1x1x64 .f32) (h15 : a15.IsWhole)
    (X0 : Vec F S1x512x1024 .f32)
    (X1 : Vec F S1x1024x1024 .bf16)
    (X2 : Vec F S1x1024x1024 .bf16)
    (X3 : Vec F S1024x1024 .bf16)
    (X4 : Vec F S1x512 .bf16)
    (X5 : Vec F S1024x1024 .bf16)
    (X6 : Vec F S1x1024 .f32)
    (X7 : Vec F S1024x1024 .bf16)
    (X8 : Vec F S1x1024 .f32)
    (X9 : Vec F S1x1024 .f32)
    (X10 : Vec F S1x1024 .f32)
    (X11 : Vec F S1x1 .f32)
    (f15 : Bf (F := F) c a15) (f14 : Bf (F := F) c a14) (E : Set ℕ) (Q : PUnit → sProp 𝕄) (hi : (i 1).val = 0) :
    iprop(pt c a2 (h2.unread X0) ∗ pt c a3 (h3.unread X1) ∗ pt c a4 (h4.unread X2) ∗ pt c a5 (h5.unread X3) ∗ pt c a6 (h6.unread X4) ∗ pt c a7 (h7.unread X5) ∗ pt c a8 (h8.unread X6) ∗ pt c a9 (h9.unread X7) ∗ pt c a10 (h10.unread X8) ∗ pt c a11 (h11.unread X9) ∗ pt c a12 (h12.unread X10) ∗ pt c a13 (h13.unread X11) ∗ pt c a14 f14 ∗ pt c a15 f15
        ∗ ((pt c a2 (h2.unread X0) ∗ pt c a3 (h3.unread X1) ∗ pt c a4 (h4.unread X2) ∗ pt c a5 (h5.unread X3) ∗ pt c a6 (h6.unread X4) ∗ pt c a7 (h7.unread X5) ∗ pt c a8 (h8.unread X6) ∗ pt c a9 (h9.unread X7) ∗ pt c a10 (h10.unread X8) ∗ pt c a11 (h11.unread X9) ∗ pt c a12 (h12.unread X10) ∗ pt c a13 (h13.unread X11)
          ∗ pt c a14 (h14.unread (outV X0 X1 X2 X3 X5 X6 X7 X8 X9 X10 X11)) ∗ pt c a15 (h15.unread (k2_pay3 (massV X0 X1 X3 X4 X5 X6 X9 X10) k2_pay2))) -∗ Q ⟨⟩))
      ⊢ wp frame (wpE defs₀ Variants.none (c : Thread nD τ) none) E (cc2__attn_body i a2 h2 a3 h3 a4 h4 a5 h5 a6 h6 a7 h7 a8 h8 a9 h9 a10 h10 a11 h11 a12 h12 a13 h13 a14 h14 a15 h15) Q := by
  rw [cc2__attn_body_eq_skeleton]; unfold cc2__attn_body_skel
  rw [k2_part1_eq_skeleton, k2_part2_eq_skeleton]; unfold k2_part1_skel k2_part2_skel
  have hC := (resets_iff i).mpr hi
  iintro ⟨H2, H3, H4, H5, H6, H7, H8, H9, H10, H11, H12, H13, H14, H15, Hk⟩
  sl_exec!
  sl_step
  ihave H14 := (Entails.of_eq (close c a14 h14 _)) $$ H14
  ihave H15 := (Entails.of_eq (close c a15 h15 _)) $$ H15
  sl_unfold_words
  simp only [View.readAt_eq_ld, h15.read_unread, h2.read_unread, h3.read_unread, h4.read_unread, h5.read_unread, h6.read_unread, h7.read_unread, h8.read_unread, h9.read_unread, h10.read_unread, h11.read_unread, h12.read_unread, h13.read_unread,
    View.ld_unit_zero (S := S1024x1024) hz2, View.ld_unit_zero (S := S1x1024) hz2, View.ld_unit_zero (S := S1x1024x1024) hz3, View.ld_unit_zero (S := S1x512) hz2, View.ld_unit_zero (S := S1x512x1024) hz3,
    View.ld_unit_zero (S := S1x1) hz2, View.ld_unit_zero (S := S1x1x64) hz3, View.canon_cons_unit_zero (S := S1x512x1024) hz3,
    View.canon_cons_unit_zero (S := S1x1x64) hz3, View.readCov_unit_zero (S := S1x1x64) _ hz3]

  iapply Hk
  unfold outV massV qV
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

set_option maxHeartbeats 600000 in
/-- At a later tile. -/
theorem run_later (c : Dev nD) (i : grid2.Coords)
    (a2 : Memref sig .tc .vmem S1x512x1024 .f32) (h2 : a2.IsWhole)
    (a3 : Memref sig .tc .vmem S1x1024x1024 .bf16) (h3 : a3.IsWhole)
    (a4 : Memref sig .tc .vmem S1x1024x1024 .bf16) (h4 : a4.IsWhole)
    (a5 : Memref sig .tc .vmem S1024x1024 .bf16) (h5 : a5.IsWhole)
    (a6 : Memref sig .tc .vmem S1x512 .bf16) (h6 : a6.IsWhole)
    (a7 : Memref sig .tc .vmem S1024x1024 .bf16) (h7 : a7.IsWhole)
    (a8 : Memref sig .tc .vmem S1x1024 .f32) (h8 : a8.IsWhole)
    (a9 : Memref sig .tc .vmem S1024x1024 .bf16) (h9 : a9.IsWhole)
    (a10 : Memref sig .tc .vmem S1x1024 .f32) (h10 : a10.IsWhole)
    (a11 : Memref sig .tc .vmem S1x1024 .f32) (h11 : a11.IsWhole)
    (a12 : Memref sig .tc .vmem S1x1024 .f32) (h12 : a12.IsWhole)
    (a13 : Memref sig .tc .smem S1x1 .f32) (h13 : a13.IsWhole)
    (a14 : Memref sig .tc .vmem S1x512x1024 .f32) (h14 : a14.IsWhole)
    (a15 : Memref sig .tc .vmem S1x1x64 .f32) (h15 : a15.IsWhole)
    (X0 : Vec F S1x512x1024 .f32)
    (X1 : Vec F S1x1024x1024 .bf16)
    (X2 : Vec F S1x1024x1024 .bf16)
    (X3 : Vec F S1024x1024 .bf16)
    (X4 : Vec F S1x512 .bf16)
    (X5 : Vec F S1024x1024 .bf16)
    (X6 : Vec F S1x1024 .f32)
    (X7 : Vec F S1024x1024 .bf16)
    (X8 : Vec F S1x1024 .f32)
    (X9 : Vec F S1x1024 .f32)
    (X10 : Vec F S1x1024 .f32)
    (X11 : Vec F S1x1 .f32)
    (A : Vec F S1x1x64 .f32) (f14 : Bf (F := F) c a14) (E : Set ℕ) (Q : PUnit → sProp 𝕄) (hi : ¬ (i 1).val = 0) :
    iprop(pt c a2 (h2.unread X0) ∗ pt c a3 (h3.unread X1) ∗ pt c a4 (h4.unread X2) ∗ pt c a5 (h5.unread X3) ∗ pt c a6 (h6.unread X4) ∗ pt c a7 (h7.unread X5) ∗ pt c a8 (h8.unread X6) ∗ pt c a9 (h9.unread X7) ∗ pt c a10 (h10.unread X8) ∗ pt c a11 (h11.unread X9) ∗ pt c a12 (h12.unread X10) ∗ pt c a13 (h13.unread X11) ∗ pt c a14 f14 ∗ pt c a15 (h15.unread A)
        ∗ ((pt c a2 (h2.unread X0) ∗ pt c a3 (h3.unread X1) ∗ pt c a4 (h4.unread X2) ∗ pt c a5 (h5.unread X3) ∗ pt c a6 (h6.unread X4) ∗ pt c a7 (h7.unread X5) ∗ pt c a8 (h8.unread X6) ∗ pt c a9 (h9.unread X7) ∗ pt c a10 (h10.unread X8) ∗ pt c a11 (h11.unread X9) ∗ pt c a12 (h12.unread X10) ∗ pt c a13 (h13.unread X11)
          ∗ pt c a14 (h14.unread (outV X0 X1 X2 X3 X5 X6 X7 X8 X9 X10 X11)) ∗ pt c a15 (h15.unread (k2_pay3 (massV X0 X1 X3 X4 X5 X6 X9 X10) A))) -∗ Q ⟨⟩))
      ⊢ wp frame (wpE defs₀ Variants.none (c : Thread nD τ) none) E (cc2__attn_body i a2 h2 a3 h3 a4 h4 a5 h5 a6 h6 a7 h7 a8 h8 a9 h9 a10 h10 a11 h11 a12 h12 a13 h13 a14 h14 a15 h15) Q := by
  rw [cc2__attn_body_eq_skeleton]; unfold cc2__attn_body_skel
  rw [k2_part1_eq_skeleton, k2_part2_eq_skeleton]; unfold k2_part1_skel k2_part2_skel
  have hC := (resets_iff i).not.mpr hi
  iintro ⟨H2, H3, H4, H5, H6, H7, H8, H9, H10, H11, H12, H13, H14, H15, Hk⟩
  sl_exec!
  sl_step
  ihave H14 := (Entails.of_eq (close c a14 h14 _)) $$ H14
  ihave H15 := (Entails.of_eq (close c a15 h15 _)) $$ H15
  sl_unfold_words
  simp only [View.readAt_eq_ld, h15.read_unread, h2.read_unread, h3.read_unread, h4.read_unread, h5.read_unread, h6.read_unread, h7.read_unread, h8.read_unread, h9.read_unread, h10.read_unread, h11.read_unread, h12.read_unread, h13.read_unread,
    View.ld_unit_zero (S := S1024x1024) hz2, View.ld_unit_zero (S := S1x1024) hz2, View.ld_unit_zero (S := S1x1024x1024) hz3, View.ld_unit_zero (S := S1x512) hz2, View.ld_unit_zero (S := S1x512x1024) hz3,
    View.ld_unit_zero (S := S1x1) hz2, View.ld_unit_zero (S := S1x1x64) hz3, View.canon_cons_unit_zero (S := S1x512x1024) hz3,
    View.canon_cons_unit_zero (S := S1x1x64) hz3, View.readCov_unit_zero (S := S1x1x64) _ hz3]

  iapply Hk
  unfold outV massV qV
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

end Cert.Proof.AttnBody

end
-- ==== Proof.ScatterBody.lean ====
/-
  The fourth kernel's body, run on whole buffers: at a batch row it leaves, in a row of 8192 entries, the sum over the
  row's 64 indices of the index's weight (scaled) at the index's entry and zero elsewhere.
-/
module

public import proofs.«01_k».proof.Proof.KvBody

@[expose] public section

noncomputable section

namespace Cert.Proof.ScatterBody

open Cert.KernelIdeal Cert.KernelIdeal.Gen Cert.Proof.Tile Cert.Proof.KvBody

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [∀ e, Nonempty (Elt F e)]

local notation "𝕄" => MT nD τ sig (HIx 1) (Elt F) ℕ UU ℕ

/-- Entry `k` of row `b` of a four by sixty-four array. -/
def cell (b k : Nat) : S4x64.Idx := fun
  | 0 => (⟨b % 4, Nat.mod_lt _ (by decide)⟩ : Fin 4) | 1 => (⟨k % 64, Nat.mod_lt _ (by decide)⟩ : Fin 64)
  | ⟨_ + 2, h⟩ => absurd h (Nat.not_lt.2 (Nat.le_add_left _ _))

theorem pick_inb (i : grid3.Coords) {k : Nat} (hk : k < 64) :
    ∀ a, (![BitVec.toNat (Scalar.indexCast (BitVec.ofNat 32 (i 0).val)), k] : Fin 2 → Nat) a + S1x1.size a ≤ S4x64.size a := by
  have hr : BitVec.toNat (Scalar.indexCast (BitVec.ofNat 32 (i 0).val)) = (i 0).val := by
    have h : (i 0).val < 4 := (i 0).isLt
    rcases (by omega : (i 0).val = 0 ∨ (i 0).val = 1 ∨ (i 0).val = 2 ∨ (i 0).val = 3) with h | h | h | h <;> rw [h] <;> decide
  have h : (i 0).val < 4 := (i 0).isLt
  intro a
  match a with
  | 0 => show BitVec.toNat (Scalar.indexCast (BitVec.ofNat 32 (i 0).val)) + 1 ≤ 4; omega
  | 1 => show k + 1 ≤ 64; omega

/-- The word read at entry `k` of the batch row's row. -/
def pick {e : EltTy} (X : Vec F S4x64 e) (i : grid3.Coords) (k : Nat) : Elt F e :=
  if hk : k < 64 then
    View.ld X (Rect.unit (s := S4x64) ![BitVec.toNat (Scalar.indexCast (BitVec.ofNat 32 (i 0).val)), k] S1x1.size (pick_inb i hk))
      (Shape.Idx.first (s := S1x1) (show 0 < S1x1.numel by decide))
  else X (cell 0 0)

/-- Index `k`'s row: its scaled weight at the index's entry, zero elsewhere. -/
def term (X1 : Vec F S4x64 .i32) (X2 : Vec F S4x64 .f32) (i : grid3.Coords) (k : Nat) : FVec F S1x8192 .f32 :=
  select (cmpi .eq (iota .tc S1x8192 32 [1] iota_S1x8192_d1_w32) (broadcast S1x8192 (pick X1 i k)))
    (broadcast S1x8192 (Scalar.mulf (pick X2 i k) (Scalar.ofBits .f32 0x38000000#32))) (broadcast S1x8192 (Scalar.ofBits .f32 0x00000000#32))

/-- The first `n` of them added up. -/
def upTo (X1 : Vec F S4x64 .i32) (X2 : Vec F S4x64 .f32) (b : grid3.Coords) : Nat → FVec F S1x8192 .f32
  | 0 => broadcast S1x8192 (Scalar.ofBits .f32 0x00000000#32)
  | n + 1 => addf (upTo X1 X2 b n) (term X1 X2 b n)

/-- What the body leaves at batch row `b`. -/
def out (X1 : Vec F S4x64 .i32) (X2 : Vec F S4x64 .f32) (b : grid3.Coords) : FVec F S1x1x8192 .f32 :=
  shapeCast S1x1x8192 (upTo X1 X2 b 64) shapeCasts_S1x8192_S1x1x8192

/-- That word is the entry. -/
theorem pick_eq {e : EltTy} (X : Vec F S4x64 e) (i : grid3.Coords) {k : Nat} (hk : k < 64) : pick X i k = X (cell (i 0).val k) := by
  have hr : BitVec.toNat (Scalar.indexCast (BitVec.ofNat 32 (i 0).val)) = (i 0).val % 4 := by
    have h : (i 0).val < 4 := (i 0).isLt
    rcases (by omega : (i 0).val = 0 ∨ (i 0).val = 1 ∨ (i 0).val = 2 ∨ (i 0).val = 3) with h | h | h | h <;> rw [h] <;> decide
  rw [pick, dif_pos hk]
  refine congrArg X (funext fun a => ?_)
  match a with
  | 0 =>
    apply Fin.ext
    show BitVec.toNat (Scalar.indexCast (BitVec.ofNat 32 (i 0).val)) + 1 * 0 = (i 0).val % 4
    omega
  | 1 =>
    apply Fin.ext
    show k + 1 * 0 = k % 64
    omega

set_option maxHeartbeats 1000000 in
set_option pp.maxSteps 300 in
set_option maxRecDepth 65536 in
theorem run (c : Dev nD) (i : grid3.Coords) (a1 : Memref sig .tc .smem S4x64 .i32) (h1 : a1.IsWhole) (a2 : Memref sig .tc .smem S4x64 .f32) (h2 : a2.IsWhole)
    (a3 : Memref sig .tc .vmem S1x1x8192 .f32) (h3 : a3.IsWhole) (X1 : Vec F S4x64 .i32) (X2 : Vec F S4x64 .f32) (f3 : Bf (F := F) c a3)
    (E : Set ℕ) (Q : PUnit → sProp 𝕄) :
    iprop(pt c a1 (h1.unread X1) ∗ pt c a2 (h2.unread X2) ∗ pt c a3 f3
        ∗ ((pt c a1 (h1.unread X1) ∗ pt c a2 (h2.unread X2) ∗ pt c a3 (h3.unread (out X1 X2 i))) -∗ Q ⟨⟩))
      ⊢ wp frame (wpE defs₀ Variants.none (c : Thread nD τ) none) E (cc3__scatter_body i a1 h1 a2 h2 a3 h3) Q := by
  rw [cc3__scatter_body_eq_skeleton]; unfold cc3__scatter_body_skel
  iintro ⟨H1, H2, H3, Hk⟩
  sl_exec_parts!
  sl_step
  ihave H3 := (Entails.of_eq (close c a3 h3 _)) $$ H3
  sl_unfold_words
  simp only [View.readAt_eq_ld, h1.read_unread, h2.read_unread, View.canon_cons_unit_zero (S := S1x1x8192) hz3]
  iapply Hk
  isplitl [H1]; · iexact H1
  isplitl [H2]; · iexact H2
  iexact H3

end Cert.Proof.ScatterBody

end
-- ==== Proof.Dats.lean ====
/-
  The three pipelined kernels' proof data over one valuation of the buffers: each input window holds its array's block,
  and what the body leaves in each output window's buffer is the body's value at the blocks. For each, the body's
  obligation at every grid point, from the bodies' own runs.
-/
module

public import proofs.«01_k».proof.Proof.Call
public import proofs.«01_k».proof.Proof.KvBody
public import proofs.«01_k».proof.Proof.AttnBody
public import proofs.«01_k».proof.Proof.ScatterBody

@[expose] public section

noncomputable section

namespace Cert.Proof.Dats

open Cert.KernelIdeal Cert.KernelIdeal.Gen Cert.Proof.Tile Cert.Proof.Call Cert.Proof.KvBody

open Idealize.ShloMosaic Idealize.ShloMosaic.TcCoe
open Idealize.ShloMosaic.SparseCore (S V T)
open Idealize.ShloMosaic.SparseCore.Cfg (HIx)
open Idealize.ShloMosaic.Pipeline (Dat BodyObligation arrRef)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [∀ e, Nonempty (Elt F e)]

local notation "𝕄" => MT nD τ sig (HIx 1) (Elt F) ℕ UU ℕ

/-! ## Whole buffers owned at contents -/

theorem owns_in (c : Dev nD) {sp : Space} {s : Shape} {e : EltTy} {M : Memref sig .tc sp s e} (h : M.IsWhole) (X : s.Idx → Elt F e) :
    (owns (c : Thread nD τ) M fullShare X : sProp 𝕄) ⊢ pt c M (h.unread X) := by
  unfold owns
  rw [h.set_eq_univ]
  iintro ⟨%f, %hf, H⟩
  rw [← h.eq_unread hf]
  iexact H

theorem owns_out (c : Dev nD) {sp : Space} {s : Shape} {e : EltTy} {M : Memref sig .tc sp s e} (h : M.IsWhole) (X : s.Idx → Elt F e) :
    pt c M (h.unread X) ⊢ (owns (c : Thread nD τ) M fullShare X : sProp 𝕄) := by
  unfold owns
  rw [h.set_eq_univ]
  iintro H
  iexists (h.unread X)
  isplitr; · ipureintro; exact h.read_unread X
  iexact H

/-! ## The proof data -/

variable (bd : ℕ) (V : Dev nD → Valuation τ sig (Elt F))

/-- The block of window `w`'s array that grid point `t` reads or writes, at the valuation. -/
abbrev blk (V : Dev nD → Valuation τ sig (Elt F)) {Λ' : Labels} (cfg : Pipeline.Cfg sig Λ') (c : Dev nD) (w : Fin cfg.W) (t : Fin cfg.N) :=
  ((cfg.win w).blk t).view.read (Elt F) (V c (Proc.devRef .tc (arrRef cfg.spec w)))

/-- The waits recorded before and during a region: none above the bound. -/
def below (c : Dev nD) : Set (SemLoc sig × HIx 1) := {p | (K (F := F)).lev (T c, p.1) p.2 ≤ bd}

/-- The key and value blocks' data. -/
def dat1 (c : Dev nD) : Dat τ (Elt F) (HIx 1) ℕ UU ℕ cfg1 c where
  A w := V c (Proc.devRef .tc (arrRef cfg1.spec w))
  after w t := match w with
    | ⟨0, _⟩ => blk V cfg1 c 0 t
    | ⟨1, _⟩ => blk V cfg1 c 1 t
    | ⟨2, _⟩ => blk V cfg1 c 2 t
    | ⟨3, _⟩ => blk V cfg1 c 3 t
    | ⟨4, _⟩ => blk V cfg1 c 4 t
    | ⟨5, _⟩ => blk V cfg1 c 5 t
    | ⟨6, _⟩ => kOut (blk V cfg1 c 0 t) (blk V cfg1 c 1 t) (blk V cfg1 c 2 t) (blk V cfg1 c 5 t)
    | ⟨7, _⟩ => vOut (blk V cfg1 c 0 t) (blk V cfg1 c 3 t) (blk V cfg1 c 4 t) (blk V cfg1 c 5 t)
    | ⟨n + 8, h⟩ => absurd h (Nat.not_lt.2 (Nat.le_add_left _ _))
  Φ _ := Pipeline.scopedRest spec1 c
  q _ := fullShare
  owed _ := 0
  recorded _ := below (F := F) bd c

/-- The mass a tile of queries adds. -/
abbrev massAt (c : Dev nD) (t : Fin cfg2.N) : Vec F S1x64 .f32 := AttnBody.massV (blk V cfg2 c 0 t) (blk V cfg2 c 1 t) (blk V cfg2 c 3 t) (blk V cfg2 c 4 t) (blk V cfg2 c 5 t) (blk V cfg2 c 6 t) (blk V cfg2 c 9 t) (blk V cfg2 c 10 t)

/-- The mass collected after grid point `n`: afresh at a batch row's first tile, added to the last point's after. -/
def collected (c : Dev nD) : (n : ℕ) → n < cfg2.N → Vec F S1x1x64 .f32
  | 0, h => k2_pay3 (massAt V c ⟨0, h⟩) k2_pay2
  | n + 1, h => if (n + 1) % 4 = 0 then k2_pay3 (massAt V c ⟨n + 1, h⟩) k2_pay2
      else k2_pay3 (massAt V c ⟨n + 1, h⟩) (collected c n (Nat.lt_of_succ_lt h))

theorem collected_first (c : Dev nD) (t : Fin cfg2.N) (h : t.val % 4 = 0) : collected V c t.val t.isLt = k2_pay3 (massAt V c t) k2_pay2 := by
  obtain ⟨n, hn⟩ := t
  cases n with
  | zero => rfl
  | succ n => exact if_pos h

theorem collected_later (c : Dev nD) (t : Fin cfg2.N) (h : ¬ t.val % 4 = 0) :
    collected V c t.val t.isLt = k2_pay3 (massAt V c t) (collected V c (t.val - 1) (Nat.lt_of_le_of_lt (Nat.sub_le _ _) t.isLt)) := by
  obtain ⟨n, hn⟩ := t
  cases n with
  | zero => exact absurd rfl h
  | succ n => exact if_neg h

/-- The attention's data. -/
def dat2 (c : Dev nD) : Dat τ (Elt F) (HIx 1) ℕ UU ℕ cfg2 c where
  A w := V c (Proc.devRef .tc (arrRef cfg2.spec w))
  after w t := match w with
    | ⟨0, _⟩ => blk V cfg2 c 0 t
    | ⟨1, _⟩ => blk V cfg2 c 1 t
    | ⟨2, _⟩ => blk V cfg2 c 2 t
    | ⟨3, _⟩ => blk V cfg2 c 3 t
    | ⟨4, _⟩ => blk V cfg2 c 4 t
    | ⟨5, _⟩ => blk V cfg2 c 5 t
    | ⟨6, _⟩ => blk V cfg2 c 6 t
    | ⟨7, _⟩ => blk V cfg2 c 7 t
    | ⟨8, _⟩ => blk V cfg2 c 8 t
    | ⟨9, _⟩ => blk V cfg2 c 9 t
    | ⟨10, _⟩ => blk V cfg2 c 10 t
    | ⟨11, _⟩ => blk V cfg2 c 11 t
    | ⟨12, _⟩ => AttnBody.outV (blk V cfg2 c 0 t) (blk V cfg2 c 1 t) (blk V cfg2 c 2 t) (blk V cfg2 c 3 t) (blk V cfg2 c 5 t) (blk V cfg2 c 6 t) (blk V cfg2 c 7 t) (blk V cfg2 c 8 t) (blk V cfg2 c 9 t) (blk V cfg2 c 10 t) (blk V cfg2 c 11 t)
    | ⟨13, _⟩ => collected V c t.val t.isLt
    | ⟨n + 14, h⟩ => absurd h (Nat.not_lt.2 (Nat.le_add_left _ _))
  Φ _ := Pipeline.scopedRest spec2 c
  q _ := fullShare
  owed _ := 0
  recorded _ := below (F := F) bd c

/-- The scatter's data. -/
def dat3 (c : Dev nD) : Dat τ (Elt F) (HIx 1) ℕ UU ℕ cfg3 c where
  A w := V c (Proc.devRef .tc (arrRef cfg3.spec w))
  after w t := match w with
    | ⟨0, _⟩ => blk V cfg3 c 0 t
    | ⟨1, _⟩ => blk V cfg3 c 1 t
    | ⟨2, _⟩ => ScatterBody.out (blk V cfg3 c 0 t) (blk V cfg3 c 1 t) (grid3.coords t)
    | ⟨n + 3, h⟩ => absurd h (Nat.not_lt.2 (Nat.le_add_left _ _))
  Φ _ := Pipeline.scopedRest spec3 c
  q _ := fullShare
  owed _ := 0
  recorded _ := below (F := F) bd c

/-! ## What the bodies find -/

theorem found1_0 (c : Dev nD) (t : Fin cfg1.N) (d) : (dat1 bd V c).before 0 t d = blk V cfg1 c 0 t :=
  ((dat1 bd V c).before_in_eq_fetched 0 rfl (fun _ => rfl) (fun _ _ _ => rfl) (fun _ => rfl) t d).trans rfl
theorem found1_1 (c : Dev nD) (t : Fin cfg1.N) (d) : (dat1 bd V c).before 1 t d = blk V cfg1 c 1 t :=
  ((dat1 bd V c).before_in_eq_fetched 1 rfl (fun _ => rfl) (fun _ _ _ => rfl) (fun _ => rfl) t d).trans rfl
theorem found1_2 (c : Dev nD) (t : Fin cfg1.N) (d) : (dat1 bd V c).before 2 t d = blk V cfg1 c 2 t :=
  ((dat1 bd V c).before_in_eq_fetched 2 rfl (fun _ => rfl) (fun _ _ _ => rfl) (fun _ => rfl) t d).trans rfl
theorem found1_3 (c : Dev nD) (t : Fin cfg1.N) (d) : (dat1 bd V c).before 3 t d = blk V cfg1 c 3 t :=
  ((dat1 bd V c).before_in_eq_fetched 3 rfl (fun _ => rfl) (fun _ _ _ => rfl) (fun _ => rfl) t d).trans rfl
theorem found1_4 (c : Dev nD) (t : Fin cfg1.N) (d) : (dat1 bd V c).before 4 t d = blk V cfg1 c 4 t :=
  ((dat1 bd V c).before_in_eq_fetched 4 rfl (fun _ => rfl) (fun _ _ _ => rfl) (fun _ => rfl) t d).trans rfl
theorem found1_5 (c : Dev nD) (t : Fin cfg1.N) (d) : (dat1 bd V c).before 5 t d = blk V cfg1 c 5 t :=
  ((dat1 bd V c).before_in_eq_fetched 5 rfl (fun _ => rfl) (fun _ _ _ => rfl) (fun _ => rfl) t d).trans rfl
theorem found2_0 (c : Dev nD) (t : Fin cfg2.N) (d) : (dat2 bd V c).before 0 t d = blk V cfg2 c 0 t :=
  ((dat2 bd V c).before_in_eq_fetched 0 rfl (fun _ => rfl) (fun _ _ _ => rfl) (fun _ => rfl) t d).trans rfl
theorem found2_1 (c : Dev nD) (t : Fin cfg2.N) (d) : (dat2 bd V c).before 1 t d = blk V cfg2 c 1 t :=
  ((dat2 bd V c).before_in_eq_fetched 1 rfl (fun _ => rfl) (fun _ _ _ => rfl) (fun _ => rfl) t d).trans rfl
theorem found2_2 (c : Dev nD) (t : Fin cfg2.N) (d) : (dat2 bd V c).before 2 t d = blk V cfg2 c 2 t :=
  ((dat2 bd V c).before_in_eq_fetched 2 rfl (fun _ => rfl) (fun _ _ _ => rfl) (fun _ => rfl) t d).trans rfl
theorem found2_3 (c : Dev nD) (t : Fin cfg2.N) (d) : (dat2 bd V c).before 3 t d = blk V cfg2 c 3 t :=
  ((dat2 bd V c).before_in_eq_fetched 3 rfl (fun _ => rfl) (fun _ _ _ => rfl) (fun _ => rfl) t d).trans rfl
theorem found2_4 (c : Dev nD) (t : Fin cfg2.N) (d) : (dat2 bd V c).before 4 t d = blk V cfg2 c 4 t :=
  ((dat2 bd V c).before_in_eq_fetched 4 rfl (fun _ => rfl) (fun _ _ _ => rfl) (fun _ => rfl) t d).trans rfl
theorem found2_5 (c : Dev nD) (t : Fin cfg2.N) (d) : (dat2 bd V c).before 5 t d = blk V cfg2 c 5 t :=
  ((dat2 bd V c).before_in_eq_fetched 5 rfl (fun _ => rfl) (fun _ _ _ => rfl) (fun _ => rfl) t d).trans rfl
theorem found2_6 (c : Dev nD) (t : Fin cfg2.N) (d) : (dat2 bd V c).before 6 t d = blk V cfg2 c 6 t :=
  ((dat2 bd V c).before_in_eq_fetched 6 rfl (fun _ => rfl) (fun _ _ _ => rfl) (fun _ => rfl) t d).trans rfl
theorem found2_7 (c : Dev nD) (t : Fin cfg2.N) (d) : (dat2 bd V c).before 7 t d = blk V cfg2 c 7 t :=
  ((dat2 bd V c).before_in_eq_fetched 7 rfl (fun _ => rfl) (fun _ _ _ => rfl) (fun _ => rfl) t d).trans rfl
theorem found2_8 (c : Dev nD) (t : Fin cfg2.N) (d) : (dat2 bd V c).before 8 t d = blk V cfg2 c 8 t :=
  ((dat2 bd V c).before_in_eq_fetched 8 rfl (fun _ => rfl) (fun _ _ _ => rfl) (fun _ => rfl) t d).trans rfl
theorem found2_9 (c : Dev nD) (t : Fin cfg2.N) (d) : (dat2 bd V c).before 9 t d = blk V cfg2 c 9 t :=
  ((dat2 bd V c).before_in_eq_fetched 9 rfl (fun _ => rfl) (fun _ _ _ => rfl) (fun _ => rfl) t d).trans rfl
theorem found2_10 (c : Dev nD) (t : Fin cfg2.N) (d) : (dat2 bd V c).before 10 t d = blk V cfg2 c 10 t :=
  ((dat2 bd V c).before_in_eq_fetched 10 rfl (fun _ => rfl) (fun _ _ _ => rfl) (fun _ => rfl) t d).trans rfl
theorem found2_11 (c : Dev nD) (t : Fin cfg2.N) (d) : (dat2 bd V c).before 11 t d = blk V cfg2 c 11 t :=
  ((dat2 bd V c).before_in_eq_fetched 11 rfl (fun _ => rfl) (fun _ _ _ => rfl) (fun _ => rfl) t d).trans rfl
theorem found3_0 (c : Dev nD) (t : Fin cfg3.N) (d) : (dat3 bd V c).before 0 t d = blk V cfg3 c 0 t :=
  ((dat3 bd V c).before_in_eq_fetched 0 rfl (fun _ => rfl) (fun _ _ _ => rfl) (fun _ => rfl) t d).trans rfl
theorem found3_1 (c : Dev nD) (t : Fin cfg3.N) (d) : (dat3 bd V c).before 1 t d = blk V cfg3 c 1 t :=
  ((dat3 bd V c).before_in_eq_fetched 1 rfl (fun _ => rfl) (fun _ _ _ => rfl) (fun _ => rfl) t d).trans rfl

/-- At a later tile of a batch row the collected mass is the last point's. -/
theorem found2_13 (c : Dev nD) (t : Fin cfg2.N) (h : ¬ t.val % 4 = 0) (d) :
    (dat2 bd V c).before 13 t d = collected V c (t.val - 1) (Nat.lt_of_le_of_lt (Nat.sub_le _ _) t.isLt) := by
  have h0 : t.val ≠ 0 := fun e => h (by rw [e])
  unfold Dat.before
  rw [if_neg (by rw [Pipeline.Window.fetch_out _ rfl]; decide), if_neg h0]
  dsimp only
  rw [if_neg fun hf => by have := (flush2_13 _).mp hf; dsimp only at this; omega]
  rfl

theorem coord_tile : ∀ t : Fin cfg2.N, (grid2.coords t 1).val = t.val % 4 :=
  (by decide +kernel : ∀ t : Fin grid2.N, (grid2.coords t 1).val = t.val % 4)

theorem after1_6 (c : Dev nD) (t : Fin cfg1.N) :
    (dat1 bd V c).after 6 t = kOut (blk V cfg1 c 0 t) (blk V cfg1 c 1 t) (blk V cfg1 c 2 t) (blk V cfg1 c 5 t) := by dsimp only [dat1]
theorem after1_7 (c : Dev nD) (t : Fin cfg1.N) :
    (dat1 bd V c).after 7 t = vOut (blk V cfg1 c 0 t) (blk V cfg1 c 3 t) (blk V cfg1 c 4 t) (blk V cfg1 c 5 t) := by dsimp only [dat1]

/-! ## The bodies' obligations -/

set_option maxHeartbeats 1000000 in
theorem obligation1 (c : Dev nD) : BodyObligation (dat1 bd V c) (defs₀ (F := F)) 𝒱₀ none Set.univ := fun t => by
  obtain rfl := fin_N1 t
  rw [bigSep_W1, bigSep_W1]
  rw [show (dat1 bd V c).Φ (t1_0 : Fin cfg1.N).succ = (dat1 bd V c).Φ (t1_0 : Fin cfg1.N).castSucc from rfl]
  rw [after1_6, after1_7]
  rw [show (dat1 bd V c).owesAt none (t1_0 : Fin cfg1.N).succ = (dat1 bd V c).owesAt none (t1_0 : Fin cfg1.N).castSucc from rfl]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩⟩
  simp only [found1_0, found1_1, found1_2, found1_3, found1_4, found1_5]
  ihave H0 := (owns_in c (stage_whole1 0 (cfg1.slots t1_0 0)) _) $$ H0
  ihave H1 := (owns_in c (stage_whole1 1 (cfg1.slots t1_0 1)) _) $$ H1
  ihave H2 := (owns_in c (stage_whole1 2 (cfg1.slots t1_0 2)) _) $$ H2
  ihave H3 := (owns_in c (stage_whole1 3 (cfg1.slots t1_0 3)) _) $$ H3
  ihave H4 := (owns_in c (stage_whole1 4 (cfg1.slots t1_0 4)) _) $$ H4
  ihave H5 := (owns_in c (stage_whole1 5 (cfg1.slots t1_0 5)) _) $$ H5
  ihave H6 := (owns_in c (stage_whole1 6 (cfg1.slots t1_0 6)) _) $$ H6
  ihave H7 := (owns_in c (stage_whole1 7 (cfg1.slots t1_0 7)) _) $$ H7
  iapply (KvBody.run c _ (stage_whole1 0 (cfg1.slots t1_0 0)) _ (stage_whole1 1 (cfg1.slots t1_0 1)) _ (stage_whole1 2 (cfg1.slots t1_0 2)) _ (stage_whole1 3 (cfg1.slots t1_0 3)) _ (stage_whole1 4 (cfg1.slots t1_0 4)) _ (stage_whole1 5 (cfg1.slots t1_0 5)) _ (stage_whole1 6 (cfg1.slots t1_0 6)) _ (stage_whole1 7 (cfg1.slots t1_0 7)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [HO]; · iexact HO
  isplitl [H0]
  · ihave H := (owns_out c (stage_whole1 0 (cfg1.slots t1_0 0)) _) $$ H0
    iexact H
  isplitl [H1]
  · ihave H := (owns_out c (stage_whole1 1 (cfg1.slots t1_0 1)) _) $$ H1
    iexact H
  isplitl [H2]
  · ihave H := (owns_out c (stage_whole1 2 (cfg1.slots t1_0 2)) _) $$ H2
    iexact H
  isplitl [H3]
  · ihave H := (owns_out c (stage_whole1 3 (cfg1.slots t1_0 3)) _) $$ H3
    iexact H
  isplitl [H4]
  · ihave H := (owns_out c (stage_whole1 4 (cfg1.slots t1_0 4)) _) $$ H4
    iexact H
  isplitl [H5]
  · ihave H := (owns_out c (stage_whole1 5 (cfg1.slots t1_0 5)) _) $$ H5
    iexact H
  isplitl [H6]
  · ihave H := (owns_out c (stage_whole1 6 (cfg1.slots t1_0 6)) _) $$ H6
    iexact H
  ihave H := (owns_out c (stage_whole1 7 (cfg1.slots t1_0 7)) _) $$ H7
  iexact H

set_option maxHeartbeats 1000000 in
theorem obligation3 (c : Dev nD) : BodyObligation (dat3 bd V c) (defs₀ (F := F)) 𝒱₀ none Set.univ := fun t => by
  rw [bigSep_W3, bigSep_W3]
  rw [show (dat3 bd V c).Φ t.succ = (dat3 bd V c).Φ t.castSucc from rfl]
  rw [show (dat3 bd V c).owesAt none t.succ = (dat3 bd V c).owesAt none t.castSucc from rfl]
  iintro ⟨HΦ, HO, ⟨%d0, H0⟩, ⟨%d1, H1⟩, ⟨%d2, H2⟩⟩
  simp only [found3_0, found3_1]
  ihave H0 := (owns_in c (stage_whole3 0 (cfg3.slots t 0)) _) $$ H0
  ihave H1 := (owns_in c (stage_whole3 1 (cfg3.slots t 1)) _) $$ H1
  ihave H2 := (owns_in c (stage_whole3 2 (cfg3.slots t 2)) _) $$ H2
  iapply (ScatterBody.run c (grid3.coords t) _ (stage_whole3 0 (cfg3.slots t 0)) _ (stage_whole3 1 (cfg3.slots t 1)) _ (stage_whole3 2 (cfg3.slots t 2)))
  isplitl [H0]; · iexact H0
  isplitl [H1]; · iexact H1
  isplitl [H2]; · iexact H2
  iintro ⟨H0, H1, H2⟩
  isplitl [HΦ]; · iexact HΦ
  isplitl [HO]; · iexact HO
  isplitl [H0]
  · ihave H := (owns_out c (stage_whole3 0 (cfg3.slots t 0)) _) $$ H0
    iexact H
  isplitl [H1]
  · ihave H := (owns_out c (stage_whole3 1 (cfg3.slots t 1)) _) $$ H1
    iexact H
  ihave H := (owns_out c (stage_whole3 2 (cfg3.slots t 2)) _) $$ H2
  iexact H

set_option maxHeartbeats 1000000 in
theorem obligation2 (c : Dev nD) : BodyObligation (dat2 bd V c) (defs₀ (F := F)) 𝒱₀ none Set.univ := fun t => by
  rw [bigSep_W2, bigSep_W2]
  rw [show (dat2 bd V c).Φ t.succ = (dat2 bd V c).Φ t.castSucc from rfl]
  rw [show (dat2 bd V c).owesAt none t.succ = (dat2 bd V c).owesAt none t.castSucc from rfl]
  by_cases ht : t.val % 4 = 0
  · rw [show (dat2 bd V c).after 13 t = k2_pay3 (massAt V c t) k2_pay2 from collected_first V c t ht]
    iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    simp only [found2_0, found2_1, found2_2, found2_3, found2_4, found2_5, found2_6, found2_7, found2_8, found2_9, found2_10, found2_11]
    ihave H0 := (owns_in c (stage_whole2 0 (cfg2.slots t 0)) _) $$ H0
    ihave H1 := (owns_in c (stage_whole2 1 (cfg2.slots t 1)) _) $$ H1
    ihave H2 := (owns_in c (stage_whole2 2 (cfg2.slots t 2)) _) $$ H2
    ihave H3 := (owns_in c (stage_whole2 3 (cfg2.slots t 3)) _) $$ H3
    ihave H4 := (owns_in c (stage_whole2 4 (cfg2.slots t 4)) _) $$ H4
    ihave H5 := (owns_in c (stage_whole2 5 (cfg2.slots t 5)) _) $$ H5
    ihave H6 := (owns_in c (stage_whole2 6 (cfg2.slots t 6)) _) $$ H6
    ihave H7 := (owns_in c (stage_whole2 7 (cfg2.slots t 7)) _) $$ H7
    ihave H8 := (owns_in c (stage_whole2 8 (cfg2.slots t 8)) _) $$ H8
    ihave H9 := (owns_in c (stage_whole2 9 (cfg2.slots t 9)) _) $$ H9
    ihave H10 := (owns_in c (stage_whole2 10 (cfg2.slots t 10)) _) $$ H10
    ihave H11 := (owns_in c (stage_whole2 11 (cfg2.slots t 11)) _) $$ H11
    ihave H12 := (owns_in c (stage_whole2 12 (cfg2.slots t 12)) _) $$ H12
    ihave H13 := (owns_in c (stage_whole2 13 (cfg2.slots t 13)) _) $$ H13
    iapply (AttnBody.run_first c (grid2.coords t) _ (stage_whole2 0 (cfg2.slots t 0)) _ (stage_whole2 1 (cfg2.slots t 1)) _ (stage_whole2 2 (cfg2.slots t 2)) _ (stage_whole2 3 (cfg2.slots t 3)) _ (stage_whole2 4 (cfg2.slots t 4)) _ (stage_whole2 5 (cfg2.slots t 5)) _ (stage_whole2 6 (cfg2.slots t 6)) _ (stage_whole2 7 (cfg2.slots t 7)) _ (stage_whole2 8 (cfg2.slots t 8)) _ (stage_whole2 9 (cfg2.slots t 9)) _ (stage_whole2 10 (cfg2.slots t 10)) _ (stage_whole2 11 (cfg2.slots t 11)) _ (stage_whole2 12 (cfg2.slots t 12)) _ (stage_whole2 13 (cfg2.slots t 13)) _ _ _ _ _ _ _ _ _ _ _ _ _ _ _ _ ((coord_tile t).trans ht))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iintro ⟨H0, H1, H2, H3, H4, H5, H6, H7, H8, H9, H10, H11, H12, H13⟩
    isplitl [HΦ]; · iexact HΦ
    isplitl [HO]; · iexact HO
    isplitl [H0]
    · ihave H := (owns_out c (stage_whole2 0 (cfg2.slots t 0)) _) $$ H0
      iexact H
    isplitl [H1]
    · ihave H := (owns_out c (stage_whole2 1 (cfg2.slots t 1)) _) $$ H1
      iexact H
    isplitl [H2]
    · ihave H := (owns_out c (stage_whole2 2 (cfg2.slots t 2)) _) $$ H2
      iexact H
    isplitl [H3]
    · ihave H := (owns_out c (stage_whole2 3 (cfg2.slots t 3)) _) $$ H3
      iexact H
    isplitl [H4]
    · ihave H := (owns_out c (stage_whole2 4 (cfg2.slots t 4)) _) $$ H4
      iexact H
    isplitl [H5]
    · ihave H := (owns_out c (stage_whole2 5 (cfg2.slots t 5)) _) $$ H5
      iexact H
    isplitl [H6]
    · ihave H := (owns_out c (stage_whole2 6 (cfg2.slots t 6)) _) $$ H6
      iexact H
    isplitl [H7]
    · ihave H := (owns_out c (stage_whole2 7 (cfg2.slots t 7)) _) $$ H7
      iexact H
    isplitl [H8]
    · ihave H := (owns_out c (stage_whole2 8 (cfg2.slots t 8)) _) $$ H8
      iexact H
    isplitl [H9]
    · ihave H := (owns_out c (stage_whole2 9 (cfg2.slots t 9)) _) $$ H9
      iexact H
    isplitl [H10]
    · ihave H := (owns_out c (stage_whole2 10 (cfg2.slots t 10)) _) $$ H10
      iexact H
    isplitl [H11]
    · ihave H := (owns_out c (stage_whole2 11 (cfg2.slots t 11)) _) $$ H11
      iexact H
    isplitl [H12]
    · ihave H := (owns_out c (stage_whole2 12 (cfg2.slots t 12)) _) $$ H12
      iexact H
    ihave H := (owns_out c (stage_whole2 13 (cfg2.slots t 13)) _) $$ H13
    iexact H
  · rw [show (dat2 bd V c).after 13 t = k2_pay3 (massAt V c t) (collected V c (t.val - 1) (Nat.lt_of_le_of_lt (Nat.sub_le _ _) t.isLt)) from collected_later V c t ht]
    iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    simp only [found2_13 bd V c t ht, found2_0, found2_1, found2_2, found2_3, found2_4, found2_5, found2_6, found2_7, found2_8, found2_9, found2_10, found2_11]
    ihave H0 := (owns_in c (stage_whole2 0 (cfg2.slots t 0)) _) $$ H0
    ihave H1 := (owns_in c (stage_whole2 1 (cfg2.slots t 1)) _) $$ H1
    ihave H2 := (owns_in c (stage_whole2 2 (cfg2.slots t 2)) _) $$ H2
    ihave H3 := (owns_in c (stage_whole2 3 (cfg2.slots t 3)) _) $$ H3
    ihave H4 := (owns_in c (stage_whole2 4 (cfg2.slots t 4)) _) $$ H4
    ihave H5 := (owns_in c (stage_whole2 5 (cfg2.slots t 5)) _) $$ H5
    ihave H6 := (owns_in c (stage_whole2 6 (cfg2.slots t 6)) _) $$ H6
    ihave H7 := (owns_in c (stage_whole2 7 (cfg2.slots t 7)) _) $$ H7
    ihave H8 := (owns_in c (stage_whole2 8 (cfg2.slots t 8)) _) $$ H8
    ihave H9 := (owns_in c (stage_whole2 9 (cfg2.slots t 9)) _) $$ H9
    ihave H10 := (owns_in c (stage_whole2 10 (cfg2.slots t 10)) _) $$ H10
    ihave H11 := (owns_in c (stage_whole2 11 (cfg2.slots t 11)) _) $$ H11
    ihave H12 := (owns_in c (stage_whole2 12 (cfg2.slots t 12)) _) $$ H12
    ihave H13 := (owns_in c (stage_whole2 13 (cfg2.slots t 13)) _) $$ H13
    iapply (AttnBody.run_later c (grid2.coords t) _ (stage_whole2 0 (cfg2.slots t 0)) _ (stage_whole2 1 (cfg2.slots t 1)) _ (stage_whole2 2 (cfg2.slots t 2)) _ (stage_whole2 3 (cfg2.slots t 3)) _ (stage_whole2 4 (cfg2.slots t 4)) _ (stage_whole2 5 (cfg2.slots t 5)) _ (stage_whole2 6 (cfg2.slots t 6)) _ (stage_whole2 7 (cfg2.slots t 7)) _ (stage_whole2 8 (cfg2.slots t 8)) _ (stage_whole2 9 (cfg2.slots t 9)) _ (stage_whole2 10 (cfg2.slots t 10)) _ (stage_whole2 11 (cfg2.slots t 11)) _ (stage_whole2 12 (cfg2.slots t 12)) _ (stage_whole2 13 (cfg2.slots t 13)) _ _ _ _ _ _ _ _ _ _ _ _ _ _ _ _ (fun e => ht ((coord_tile t).symm.trans e)))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iintro ⟨H0, H1, H2, H3, H4, H5, H6, H7, H8, H9, H10, H11, H12, H13⟩
    isplitl [HΦ]; · iexact HΦ
    isplitl [HO]; · iexact HO
    isplitl [H0]
    · ihave H := (owns_out c (stage_whole2 0 (cfg2.slots t 0)) _) $$ H0
      iexact H
    isplitl [H1]
    · ihave H := (owns_out c (stage_whole2 1 (cfg2.slots t 1)) _) $$ H1
      iexact H
    isplitl [H2]
    · ihave H := (owns_out c (stage_whole2 2 (cfg2.slots t 2)) _) $$ H2
      iexact H
    isplitl [H3]
    · ihave H := (owns_out c (stage_whole2 3 (cfg2.slots t 3)) _) $$ H3
      iexact H
    isplitl [H4]
    · ihave H := (owns_out c (stage_whole2 4 (cfg2.slots t 4)) _) $$ H4
      iexact H
    isplitl [H5]
    · ihave H := (owns_out c (stage_whole2 5 (cfg2.slots t 5)) _) $$ H5
      iexact H
    isplitl [H6]
    · ihave H := (owns_out c (stage_whole2 6 (cfg2.slots t 6)) _) $$ H6
      iexact H
    isplitl [H7]
    · ihave H := (owns_out c (stage_whole2 7 (cfg2.slots t 7)) _) $$ H7
      iexact H
    isplitl [H8]
    · ihave H := (owns_out c (stage_whole2 8 (cfg2.slots t 8)) _) $$ H8
      iexact H
    isplitl [H9]
    · ihave H := (owns_out c (stage_whole2 9 (cfg2.slots t 9)) _) $$ H9
      iexact H
    isplitl [H10]
    · ihave H := (owns_out c (stage_whole2 10 (cfg2.slots t 10)) _) $$ H10
      iexact H
    isplitl [H11]
    · ihave H := (owns_out c (stage_whole2 11 (cfg2.slots t 11)) _) $$ H11
      iexact H
    isplitl [H12]
    · ihave H := (owns_out c (stage_whole2 12 (cfg2.slots t 12)) _) $$ H12
      iexact H
    ihave H := (owns_out c (stage_whole2 13 (cfg2.slots t 13)) _) $$ H13
    iexact H

end Cert.Proof.Dats

end
-- ==== Proof.Region.lean ====
/-
  A pipelined kernel entered between the row gather and the end: from every unscoped buffer held at a valuation, the
  core owing nothing and its recorded waits bounded, the call runs to the buffers held at what the pipeline leaves.
-/
module

public import proofs.«01_k».proof.Proof.Dats
public import Idealize.ShloMosaic.Lib.Pipeline.RegionArraysS

@[expose] public section

noncomputable section

namespace Cert.Proof.Region

open Cert.KernelIdeal Cert.KernelIdeal.Gen Cert.Proof.Tile Cert.Proof.Call Cert.Proof.Dats

open Idealize.ShloMosaic Idealize.ShloMosaic.TcCoe
open Idealize.ShloMosaic.SparseCore (S V T)
open Idealize.ShloMosaic.SparseCore.Cfg (HIx)
open Idealize.ShloMosaic.Pipeline (Dat BodyObligation arrRef arrRefs RegionSeg ucRefs)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [∀ e, Nonempty (Elt F e)]

local notation "𝕄" => MT nD τ sig (HIx 1) (Elt F) ℕ UU ℕ

variable (bd : ℕ) (V : Dev nD → Valuation τ sig (Elt F))

/-- The three pipelines' proof data over one valuation. -/
def dats : (p : Fin 3) → (c : Dev nD) → Dat τ (Elt F) (HIx 1) ℕ UU ℕ (pins (F := F) p) c
  | ⟨0, _⟩, c => dat1 bd V c
  | ⟨1, _⟩, c => dat2 bd V c
  | ⟨2, _⟩, c => dat3 bd V c
  | ⟨n + 3, h⟩, _ => absurd h (Nat.not_lt.2 (Nat.le_add_left _ _))

theorem obligation : ∀ (p : Fin 3) (c : Dev nD), Pipeline.BodyObligationLoose (dats bd V p c) (defs₀ (F := F)) 𝒱₀ none Set.univ
  | ⟨0, _⟩, c => (obligation1 bd V c).loose
  | ⟨1, _⟩, c => (obligation2 bd V c).loose
  | ⟨2, _⟩, c => (obligation3 bd V c).loose
  | ⟨n + 3, h⟩, _ => absurd h (Nat.not_lt.2 (Nat.le_add_left _ _))

theorem kit : ∀ p : Fin 3, Pipeline.PLaunchFacts (nD := nD) (τ := τ) (pcfgs (F := F)) p
  | ⟨0, _⟩ => launch1.toP
  | ⟨1, _⟩ => launch2.toP
  | ⟨2, _⟩ => launch3.toP
  | ⟨n + 3, h⟩ => absurd h (Nat.not_lt.2 (Nat.le_add_left _ _))

theorem owed_eq : ∀ (p : Fin 3) (c : Dev nD) (t), (dats bd V p c).owed t = 0
  | ⟨0, _⟩, _, _ => rfl
  | ⟨1, _⟩, _, _ => rfl
  | ⟨2, _⟩, _, _ => rfl
  | ⟨n + 3, h⟩, _, _ => absurd h (Nat.not_lt.2 (Nat.le_add_left _ _))

theorem recorded_eq : ∀ (p : Fin 3) (c : Dev nD) (t), (dats bd V p c).recorded t = below (F := F) bd c
  | ⟨0, _⟩, _, _ => rfl
  | ⟨1, _⟩, _, _ => rfl
  | ⟨2, _⟩, _, _ => rfl
  | ⟨n + 3, h⟩, _, _ => absurd h (Nat.not_lt.2 (Nat.le_add_left _ _))

theorem inv1_eq (c : Dev nD) (t : Fin (cfg1.N + 1)) : (dat1 bd V c).Φ t = Pipeline.scopedRest spec1 c := rfl
theorem inv2_eq (c : Dev nD) (t : Fin (cfg2.N + 1)) : (dat2 bd V c).Φ t = Pipeline.scopedRest spec2 c := rfl
theorem inv3_eq (c : Dev nD) (t : Fin (cfg3.N + 1)) : (dat3 bd V c).Φ t = Pipeline.scopedRest spec3 c := rfl

theorem inv_eq (p : Fin 3) (c : Dev nD) (t : Fin ((pins (F := F) p).N + 1)) : (dats bd V p c).Φ t = Pipeline.scopedRest (pins (F := F) p).spec c := by
  match p with
  | ⟨0, _⟩ => exact inv1_eq bd V c t
  | ⟨1, _⟩ => exact inv2_eq bd V c t
  | ⟨2, _⟩ => exact inv3_eq bd V c t
  | ⟨n + 3, h⟩ => exact absurd h (Nat.not_lt.2 (Nat.le_add_left _ _))

theorem share_eq : ∀ (p : Fin 3) (c : Dev nD) (w), (dats bd V p c).share w = fullShare
  | ⟨0, _⟩, c, w => by unfold Dat.share; exact ite_self _
  | ⟨1, _⟩, c, w => by unfold Dat.share; exact ite_self _
  | ⟨2, _⟩, c, w => by unfold Dat.share; exact ite_self _
  | ⟨n + 3, h⟩, _, _ => absurd h (Nat.not_lt.2 (Nat.le_add_left _ _))

theorem start_eq : ∀ (p : Fin 3) (c : Dev nD) (w), (dats bd V p c).arrAt w 0 = V c (Proc.devRef .tc (arrRef (pins (F := F) p).spec w))
  | ⟨0, _⟩, _, _ => rfl
  | ⟨1, _⟩, _, _ => rfl
  | ⟨2, _⟩, _, _ => rfl
  | ⟨n + 3, h⟩, _, _ => absurd h (Nat.not_lt.2 (Nat.le_add_left _ _))

theorem no_table : ∀ p : Fin 3, (pcfgs (F := F) p).pre.K = 0 := fun _ => rfl

/-- The core owing nothing, no recorded wait above the bound. -/
abbrev calm (c : Dev nD) : sProp 𝕄 := iprop(∃ W, ⌜(K (F := F)).WBelow (T c) W bd⌝ ∗ owes (T c) (0 : CellTallies nD τ sig (HIx 1)) W)

/-- The region's record: its arrays held at the valuation, the core calm. -/
def seg (p : Fin 3) : RegionSeg (pcfgs (F := F)) adm (dats bd V) none defs₀ 𝒱₀ (K (F := F)).L (K (F := F)).lev p where
  win := (kit (F := F) p).win.to₀
  block_pos := (kit (F := F) p).block_pos
  stage_whole := (kit (F := F) p).stage_whole
  K := PEmpty
  osem k := k.elim
  ho := Pipeline.OwnSemFacts.none _
  hbody := obligation bd V p
  hwaits c := (show (levAts (K (F := F)).L (K (F := F)).lev : sProp 𝕄) ⊢ BI.emp from by iintro -; iempintro).trans
    (Pipeline.cellsWaits_of_owed_zero (pins (F := F)) (dats bd V) none p c (owed_eq bd V p c))
  pre c := iprop(held (T c) (arrRefs (pcfgs (F := F) p).spec) (V c) ∗ calm bd c)
  post c := iprop(held (T c) (arrRefs (pcfgs (F := F) p).spec) (Pipeline.afterRegion (dats bd V p c) (V c)) ∗ calm bd c)
  X _ := iprop(emp)
  Y _ := iprop(emp)
  Z _ := iprop(emp)
  hentry c := by
    rw [Pipeline.ownSems0_none, Pipeline.prefHeld_of_none _ (no_table p),
      ← Pipeline.arrays_held (pcfgs (F := F)) adm (dats bd V) p (kit p) c (share_eq bd V p c) ((dats bd V p c).arrAt · 0) (V c) (start_eq bd V p c)]
    iintro ⟨⟨Ha, %W, %hW, HO⟩, -, -⟩
    imodintro
    isplitl [Ha]; · iexact Ha
    isplitr; · iempintro
    isplitl [HO]
    · unfold Dat.owesAt Pipeline.owesWithin Dat.bound
      rw [owed_eq bd V p c 0, recorded_eq bd V p c 0]
      iexists W; isplitr; · ipureintro; exact fun q hq => Or.inl (hW q hq)
      iexact HO
    isplitr <;> iempintro
  hin c := by
    rw [inv_eq]
    iintro ⟨-, -, H⟩
    iexact H
  hout c := by
    rw [inv_eq, Pipeline.ownSems0_none]
    iintro H
    isplitr; · iempintro
    isplitr; · iempintro
    iexact H
  hexit c := by
    rw [← Pipeline.arrays_held (pcfgs (F := F)) adm (dats bd V) p (kit p) c (share_eq bd V p c) ((dats bd V p c).arrAt · (pins (F := F) p).N)
      (Pipeline.afterRegion (dats bd V p c) (V c)) (fun w => (Pipeline.afterRegion_arr (dats bd V p c) (V c) (kit (F := F) p).win.arr_inj w).symm)]
    iintro ⟨Ha, HO, -, -⟩
    imodintro
    isplitl [Ha]; · iexact Ha
    unfold Dat.owesAt Pipeline.owesWithin Dat.bound
    rw [owed_eq bd V p c, recorded_eq bd V p c]
    icases HO with ⟨%W, %hW, HO⟩
    iexists W
    isplitr
    · ipureintro
      intro q hq
      rcases hW hq with h | ⟨w, s, rfl⟩
      · exact h
      · exact Nat.zero_le _
    iexact HO

theorem arrays_unscoped : ∀ p : Fin 3, arrRefs (τ := τ) (pcfgs (F := F) p).spec ⊆ ucRefs τ sig
  | ⟨0, _⟩ => Pipeline.arrRefs_sub_ucRefs spec1 winFacts1.arr_unscoped
  | ⟨1, _⟩ => Pipeline.arrRefs_sub_ucRefs spec2 winFacts2.arr_unscoped
  | ⟨2, _⟩ => Pipeline.arrRefs_sub_ucRefs spec3 winFacts3.arr_unscoped
  | ⟨n + 3, h⟩ => absurd h (Nat.not_lt.2 (Nat.le_add_left _ _))

/-- The pipeline's call, inside the program that also starts the SparseCores. -/
theorem run (p : Fin 3) (c : Dev nD) (Q : PUnit → sProp 𝕄) :
    iprop((iprop(boundary (T c) ∗ held (T c) (ucRefs τ sig) (Pipeline.afterRegion (dats bd V p c) (V c)) ∗ calm bd c) -∗ Q ⟨⟩)
        ∗ boundary (T c) ∗ held (T c) (ucRefs τ sig) (V c) ∗ calm bd c ∗ levAts (K (F := F)).L (K (F := F)).lev
        ∗ Pipeline.cellsGhost (pins (F := F)) EP p c ∗ Pipeline.toksInit (pins (F := F)) EP p c)
      ⊢ wp frame (wpE ((K (F := F)).defs (D (F := F))) 𝒱 (T c) none) Set.univ
          (Prog.lift (.customCall (SparseCore.inner (Pipeline.entry p)) ())) Q := by
  refine BI.Entails.trans ?_ ((K (F := F)).wp_liftProg (D (F := F)) 𝒱 (T c) Set.univ none (.op (.customCall (Pipeline.entry p) ()) .ret) Q)
  refine BI.Entails.trans ?_ (RegionSeg.wp (pcfgs (F := F)) adm (dats bd V) none pins_inj EP defs₀ 𝒱₀ (K (F := F)).L (K (F := F)).lev (seg bd V p) c none
    (fun u hu => absurd hu (by simp)) .ret Q)
  rw [StableHlo.held_sub_split (T c) (arrays_unscoped (F := F) p) (V c),
    StableHlo.held_sub_split (T c) (arrays_unscoped (F := F) p) (Pipeline.afterRegion (dats bd V p c) (V c)),
    StableHlo.held_congr (T c) (S := ucRefs τ sig \ arrRefs (pcfgs (F := F) p).spec) (V := Pipeline.afterRegion (dats bd V p c) (V c)) (V' := V c)
      (Pipeline.afterRegion_off (dats bd V p c) (V c) (ucRefs τ sig))]
  rw [show (seg bd V p).pre c = iprop(held (T c) (arrRefs (pcfgs (F := F) p).spec) (V c) ∗ calm bd c) from rfl,
    show (seg bd V p).post c = iprop(held (T c) (arrRefs (pcfgs (F := F) p).spec) (Pipeline.afterRegion (dats bd V p c) (V c)) ∗ calm bd c) from rfl]
  show (_ : sProp 𝕄) ⊢ (_ : sProp 𝕄)
  iintro ⟨Hk, Hb, ⟨Ha, Hu⟩, Hc, Hlev, Hg, Ht⟩
  isplitl [Hk Hu]
  · iintro ⟨Hb, Ha, Hc⟩
    sl_step
    iapply Hk
    isplitl [Hb]; · iexact Hb
    isplitl [Ha Hu]
    · isplitl [Ha]; · iexact Ha
      iexact Hu
    iexact Hc
  isplitl [Hb]; · iexact Hb
  isplitl [Ha Hc]
  · isplitl [Ha]; · iexact Ha
    iexact Hc
  isplitl [Hlev]; · iexact Hlev
  isplitl [Hg]; · iexact Hg
  iexact Ht

end Cert.Proof.Region

end
-- ==== Proof.Host.lean ====
/-
  The host's part of the program: the operations before the gather, and the program as that line, the gather, the three
  pipelined kernels and the two reshapes between and after them.
-/
module

public import proofs.«01_k».proof.Proof.Region
public import Idealize.ShloMosaic.Lib.StableHlo.RunRead

@[expose] public section

noncomputable section

namespace Cert.Proof.Host

open Cert.KernelIdeal Cert.KernelIdeal.Gen Cert.Proof.Tile Cert.Proof.Call

open Idealize.ShloMosaic Idealize.ShloMosaic.TcCoe
open Idealize.SL.Sem

variable {F : FTy → Type} [FloatOps F]

/-- The host's operations before the gather: the rows and matrices in the kernels' shapes, the head mask, the ones, the list. -/
abbrev entering : List (HloOp τ sig (Elt F)) :=
  [StableHlo.reshape main_arg11 main_v0 (rfl : (.f32 : EltTy) = .f32) shapeCasts_S1024_S1x1024,
   StableHlo.reshape main_arg12 main_v1 (rfl : (.f32 : EltTy) = .f32) shapeCasts_S1024_S1x1024,
   StableHlo.reshape main_arg4 main_v2 (rfl : (.f32 : EltTy) = .f32) shapeCasts_S1024_S1x1024,
   StableHlo.reshape main_arg10 main_v3 (rfl : (.f32 : EltTy) = .f32) shapeCasts_S1024_S1x1024,
   StableHlo.reshape main_arg6 main_v4 (rfl : (.f32 : EltTy) = .f32) shapeCasts_S1024_S1x1024,
   StableHlo.reshape main_arg8 main_v5 (rfl : (.f32 : EltTy) = .f32) shapeCasts_S1024_S1x1024,
   StableHlo.reshape main_arg13 main_v6 (rfl : (.f32 : EltTy) = .f32) shapeCasts_S_S1x1,
   StableHlo.unary main_arg3 main_v7 ((truncf .bf16 · bitsLt_bf16_f32) : (⟨S1024x1024, .f32⟩ : BufTy).Contents (Elt F) → (⟨S1024x1024, .bf16⟩ : BufTy).Contents (Elt F)),
   StableHlo.unary main_arg9 main_v8 ((truncf .bf16 · bitsLt_bf16_f32) : (⟨S1024x1024, .f32⟩ : BufTy).Contents (Elt F) → (⟨S1024x1024, .bf16⟩ : BufTy).Contents (Elt F)),
   StableHlo.unary main_arg5 main_v9 ((truncf .bf16 · bitsLt_bf16_f32) : (⟨S1024x1024, .f32⟩ : BufTy).Contents (Elt F) → (⟨S1024x1024, .bf16⟩ : BufTy).Contents (Elt F)),
   StableHlo.unary main_arg7 main_v10 ((truncf .bf16 · bitsLt_bf16_f32) : (⟨S1024x1024, .f32⟩ : BufTy).Contents (Elt F) → (⟨S1024x1024, .bf16⟩ : BufTy).Contents (Elt F)),
   StableHlo.nullary main_v11 (iotaInDim S1024 32 0),
   StableHlo.nullary main_c (constantI S_ 32 64#32),
   StableHlo.TRef.unary (.of main_c) main_call0.v0 id,
   StableHlo.TRef.unary main_call0.v0 main_call0.v1 (broadcastInDim S1024 ![] bcast_S_S1024),
   StableHlo.TRef.binary (.of main_v11) main_call0.v1 main_call0.v2 Host.divsi,
   StableHlo.TRef.unary (.of main_v11) main_call0.v3 signi,
   StableHlo.TRef.unary main_call0.v0 main_call0.v4 signi,
   StableHlo.TRef.unary main_call0.v4 main_call0.v5 (broadcastInDim S1024 ![] bcast_S_S1024),
   StableHlo.TRef.binary main_call0.v3 main_call0.v5 main_call0.v6 (cmpi .ne),
   StableHlo.TRef.unary main_call0.v0 main_call0.v7 (broadcastInDim S1024 ![] bcast_S_S1024),
   StableHlo.TRef.binary (.of main_v11) main_call0.v7 main_call0.v8 Host.remsi,
   StableHlo.TRef.nullary main_call0.c (constantI S_ 32 0#32),
   StableHlo.TRef.unary main_call0.c main_call0.v9 (broadcastInDim S1024 ![] bcast_S_S1024),
   StableHlo.TRef.binary main_call0.v8 main_call0.v9 main_call0.v10 (cmpi .ne),
   StableHlo.TRef.binary main_call0.v6 main_call0.v10 main_call0.v11 andi,
   StableHlo.TRef.nullary main_call0.c_0 (constantI S_ 32 1#32),
   StableHlo.TRef.unary main_call0.c_0 main_call0.v12 (broadcastInDim S1024 ![] bcast_S_S1024),
   StableHlo.TRef.binary main_call0.v2 main_call0.v12 main_call0.v13 subi,
   StableHlo.TRef.ternary main_call0.v11 main_call0.v13 main_call0.v2 main_call0_call0.v0 select,
   StableHlo.unary main_v12 main_v13 (broadcastInDim S1024x1 ![0] bcast_S1024_S1024x1_0 : (⟨S1024, .i32⟩ : BufTy).Contents (Elt F) → (⟨S1024x1, .i32⟩ : BufTy).Contents (Elt F)),
   StableHlo.unary main_v12 main_v14 (broadcastInDim S1x1024 ![1] bcast_S1024_S1x1024_1 : (⟨S1024, .i32⟩ : BufTy).Contents (Elt F) → (⟨S1x1024, .i32⟩ : BufTy).Contents (Elt F)),
   StableHlo.unary main_v13 main_v15 (broadcastInDim S1024x1024 ![0, 1] bcast_S1024x1_S1024x1024_0_1 : (⟨S1024x1, .i32⟩ : BufTy).Contents (Elt F) → (⟨S1024x1024, .i32⟩ : BufTy).Contents (Elt F)),
   StableHlo.unary main_v14 main_v16 (broadcastInDim S1024x1024 ![0, 1] bcast_S1x1024_S1024x1024_0_1 : (⟨S1x1024, .i32⟩ : BufTy).Contents (Elt F) → (⟨S1024x1024, .i32⟩ : BufTy).Contents (Elt F)),
   StableHlo.binary main_v15 main_v16 main_v17 (cmpi .eq : (⟨S1024x1024, .i32⟩ : BufTy).Contents (Elt F) → (⟨S1024x1024, .i32⟩ : BufTy).Contents (Elt F) → (⟨S1024x1024, .i1⟩ : BufTy).Contents (Elt F)),
   StableHlo.unary main_v17 main_v18 (uitofp .bf16 : (⟨S1024x1024, .i1⟩ : BufTy).Contents (Elt F) → (⟨S1024x1024, .bf16⟩ : BufTy).Contents (Elt F)),
   StableHlo.nullary main_cst (constant S_ .bf16 0x3F80#16),
   StableHlo.unary main_cst main_v19 (broadcastInDim S1x512 ![] bcast_S_S1x512 : (⟨S_, .bf16⟩ : BufTy).Contents (Elt F) → (⟨S1x512, .bf16⟩ : BufTy).Contents (Elt F)),
   StableHlo.reshape main_arg2 main_v20 (rfl : (.i32 : EltTy) = .i32) shapeCasts_S4x64_S256]

abbrev opMass : HloOp τ sig (Elt F) := StableHlo.reshape main_v23_1 main_v24 (rfl : (.f32 : EltTy) = .f32) shapeCasts_S4x1x64_S4x64
abbrev opLast : HloOp τ sig (Elt F) := StableHlo.reshape main_v25 main_v26 (rfl : (.f32 : EltTy) = .f32) shapeCasts_S4x1x8192_S4x8192

/-- The program after the host's first line. -/
def rest (d : Dev nD) : Prog (TpuEff nD τ sig (Elt F) (SparseCore.Sig (Pipeline.Sig Λ₀ (Fin 3) fun p => (pcfgs (F := F) p).Adm) 1) .tc) PUnit := do
  sc.run d 0
  Prog.lift (.customCall (SparseCore.inner (Pipeline.entry 0)) ())
  Prog.lift (.customCall (SparseCore.inner (Pipeline.entry 1)) ())
  hlo rfl opMass (fun _ => .ret ⟨⟩)
  Prog.lift (.customCall (SparseCore.inner (Pipeline.entry 2)) ())
  hlo rfl opLast (fun _ => .ret ⟨⟩)
  pure ⟨⟩

theorem main_eq (d : Dev nD) : main (F := F) d = (StableHlo.seq entering >>= fun _ => rest d) := by
  simp only [main, rest, fn_floor_divide.body, fn_where.body, StableHlo.seq_bind_seqK, StableHlo.seqK, bind_assoc, pure_bind]

theorem entering_fresh : ∀ op ∈ (entering : List (HloOp τ sig (Elt F))), op.fresh = ∅ := by
  rw [← List.forall_iff_forall_mem]
  simp only [entering, List.Forall]
  repeat' apply And.intro
  all_goals rfl

theorem entering_bufs : ∀ op ∈ (entering : List (HloOp τ sig (Elt F))), op.bufs ⊆ Pipeline.ucRefs τ sig := by
  rw [← List.forall_iff_forall_mem]
  simp only [entering, List.Forall]
  repeat' apply And.intro
  all_goals exact Pipeline.sub_ucRefs _ (by simp)

end Cert.Proof.Host

end
-- ==== Proof.TwinMain.lean ====
/-
  The kernel's main program, on every core, is its idealization's.
-/
module

public import proofs.«01_k».proof.Proof.Twin
public import proofs.«01_k».proof.Proof.Host

@[expose] public section

set_option maxHeartbeats 0

noncomputable section

namespace Cert.Proof.Twin

open Idealize.ShloMosaic Idealize.ShloMosaic.TcCoe Idealize.SL.Sem

section
open Cert.Kernel Cert.Kernel.Gen

/-- The kernel's program after the host's first line. -/
def rest (d : Dev nD) : Prog (TpuEff nD τ sig (Elt Bits) (SparseCore.Sig (Pipeline.Sig Λ₀ (Fin 3) fun p => (pcfgs (F := Bits) p).Adm) 1) .tc) PUnit := do
  sc.run d 0
  Prog.lift (.customCall (SparseCore.inner (Pipeline.entry 0)) ())
  Prog.lift (.customCall (SparseCore.inner (Pipeline.entry 1)) ())
  hlo rfl (Host.opMass (F := Bits)) (fun _ => .ret ⟨⟩)
  Prog.lift (.customCall (SparseCore.inner (Pipeline.entry 2)) ())
  hlo rfl (Host.opLast (F := Bits)) (fun _ => .ret ⟨⟩)
  pure ⟨⟩

theorem line_eq (d : Dev nD) : main (F := Bits) d = (StableHlo.seq (Host.entering (F := Bits)) >>= fun _ => rest d) := by
  simp only [main, rest, fn_floor_divide.body, fn_where.body, StableHlo.seq_bind_seqK, StableHlo.seqK, bind_assoc, pure_bind]
  rfl
end

theorem rest_eq (d : Dev Cert.Kernel.nD) : rest d = Host.rest (F := Bits) d := rfl

theorem main_eq : @Cert.Kernel.main Bits _ Cert.Kernel.Gen.facts = @Cert.KernelIdeal.main Bits _ Cert.KernelIdeal.Gen.facts := funext fun d => by
  refine (line_eq d).trans ?_
  refine Eq.trans ?_ (Host.main_eq d).symm
  exact congrArg (fun x => StableHlo.seq (Host.entering (F := Bits)) >>= fun _ => x) (rest_eq d)

theorem threads_eq : @Cert.Kernel.threads Bits _ Cert.Kernel.Gen.facts = @Cert.KernelIdeal.threads Bits _ Cert.KernelIdeal.Gen.facts :=
  congrArg (fun x => (@Cert.KernelIdeal.sc Bits Cert.KernelIdeal.Gen.facts).threads x) main_eq

end Cert.Proof.Twin
end
-- ==== Proof.Run.lean ====
/-
  The program's run: the host's first line, the gather, the three pipelined kernels and the two reshapes. From any memory
  whose indices name rows of the table, every execution ends with every buffer at a valuation computed from the memory,
  and every semaphore at zero.
-/
module

public import proofs.«01_k».proof.Proof.Host

@[expose] public section

noncomputable section

namespace Cert.Proof.Run

open Cert.KernelIdeal Cert.KernelIdeal.Gen Cert.Proof.Tile Cert.Proof.Call Cert.Proof.Host

open Idealize.ShloMosaic Idealize.ShloMosaic.TcCoe
open Idealize.ShloMosaic.SparseCore (S V T)
open Idealize.ShloMosaic.SparseCore.Cfg (HIx Pay)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-- The bound on the waits the core has recorded once the gather has returned. -/
abbrev bd : ℕ := 8

abbrev rX : DevRef τ sig := Proc.devRef .tc (main_arg1 : Ref sig .tc)
abbrev rL : DevRef τ sig := Proc.devRef .tc (main_v20 : Ref sig .tc)
abbrev rO : DevRef τ sig := Proc.devRef .tc (main_v21 : Ref sig .tc)

/-! ## What the buffers hold between the steps -/

def V₀ (d : Dev nD) : Valuation τ sig (Elt F) := fun b => m (d, b)
def V₁ (d : Dev nD) : Valuation τ sig (Elt F) := StableHlo.after entering (V₀ m d)
/-- The table, the list and what the gather's result held. -/
def table (d : Dev nD) : S8192x1024.Idx → Elt F .f32 := V₁ m d rX
def list (d : Dev nD) : S256.Idx → Elt F .i32 := V₁ m d rL
def old (d : Dev nD) : S256x1024.Idx → Elt F .f32 := V₁ m d rO
def V₂ (d : Dev nD) : Valuation τ sig (Elt F) := Function.update (V₁ m d) rO (gathered (table m d) (list m d))
def V₃ (d : Dev nD) : Valuation τ sig (Elt F) := Pipeline.afterRegion (Region.dats bd (V₂ m) 0 d) (V₂ m d)
def V₄ (d : Dev nD) : Valuation τ sig (Elt F) := Pipeline.afterRegion (Region.dats bd (V₃ m) 1 d) (V₃ m d)
def V₅ (d : Dev nD) : Valuation τ sig (Elt F) := (opMass (F := F)).result (V₄ m d)
def V₆ (d : Dev nD) : Valuation τ sig (Elt F) := Pipeline.afterRegion (Region.dats bd (V₅ m) 2 d) (V₅ m d)
def V₇ (d : Dev nD) : Valuation τ sig (Elt F) := (opLast (F := F)).result (V₆ m d)

/-! ## The gather's buffers out of the rest -/

abbrev S3 : Finset (DevRef τ sig) := {rL, rX, rO}

theorem S3_sub : S3 ⊆ ucRefs τ sig := by decide

theorem held_S3 (d : Dev nD) (W : Valuation τ sig (Elt F)) :
    (held (T d) S3 W : sProp 𝕄) = iprop((lLoc d ↦{fullShare} W rL) ∗ (xLoc d ↦{fullShare} W rX) ∗ oLoc d ↦{fullShare} W rO) := by
  unfold held S3
  rw [SparseCore.bigSep_insert' (by decide), SparseCore.bigSep_insert' (by decide), bigSep_singleton]

theorem held_before (d : Dev nD) : (held (T d) (ucRefs τ sig) (V₁ m d) : sProp 𝕄)
    = iprop(((lLoc d ↦{fullShare} list m d) ∗ (xLoc d ↦{fullShare} table m d) ∗ oLoc d ↦{fullShare} old m d)
        ∗ held (T d) (ucRefs τ sig \ S3) (V₁ m d)) := by
  rw [StableHlo.held_sub_split (T d) S3_sub, held_S3]; rfl

theorem held_after (d : Dev nD) : (held (T d) (ucRefs τ sig) (V₂ m d) : sProp 𝕄)
    = iprop(((lLoc d ↦{fullShare} list m d) ∗ (xLoc d ↦{fullShare} table m d) ∗ oLoc d ↦{fullShare} gathered (table m d) (list m d))
        ∗ held (T d) (ucRefs τ sig \ S3) (V₁ m d)) := by
  rw [StableHlo.held_sub_split (T d) S3_sub, held_S3]
  have hL : V₂ m d rL = list m d := Function.update_of_ne (by decide) _ _
  have hX : V₂ m d rX = table m d := Function.update_of_ne (by decide) _ _
  have hO : V₂ m d rO = gathered (table m d) (list m d) := Function.update_self _ _ _
  rw [hL, hX, hO, StableHlo.held_congr (T d) (V := V₂ m d) (V' := V₁ m d)]
  intro b hb
  refine Function.update_of_ne ?_ _ _
  rintro rfl
  exact (Finset.mem_sdiff.mp hb).2 (by decide)

/-- The core's state once the gather has returned: calm, and the rest of it. -/
theorem state_open (d : Dev nD) : ∃ R : sProp 𝕄, (K (F := F)).tcSt EH d 1 = iprop(Region.calm bd d ∗ R) := by
  unfold SparseCore.Cfg.tcSt
  rw [(K (F := F)).Otc_end d le_rfl]
  exact ⟨_, rfl⟩

/-- What @main leaves: every unscoped buffer at the last valuation. -/
abbrev FIN (d : Dev nD) : sProp 𝕄 := held (T d) (ucRefs τ sig) (V₇ m d)

theorem ghosts_split (d : Dev nD) : (G (F := F) d : sProp 𝕄) = iprop(
    (Pipeline.cellsGhost (pins (F := F)) EP 0 d ∗ Pipeline.cellsGhost (pins (F := F)) EP 1 d ∗ Pipeline.cellsGhost (pins (F := F)) EP 2 d)
      ∗ Pipeline.toksInit (pins (F := F)) EP 0 d ∗ Pipeline.toksInit (pins (F := F)) EP 1 d ∗ Pipeline.toksInit (pins (F := F)) EP 2 d) := by
  unfold G
  rw [show (Finset.univ : Finset (Fin 3)) = {0, 1, 2} by decide, SparseCore.bigSep_insert' (by decide), SparseCore.bigSep_insert' (by decide), bigSep_singleton,
    SparseCore.bigSep_insert' (by decide), SparseCore.bigSep_insert' (by decide), bigSep_singleton]

theorem hmain (κ : GSem nD τ sig → ℕ) (d : Dev nD) :
    iprop((K (F := F)).ctx EH (P (table m) (list m) (old m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := state_open (F := F) d
  unfold SparseCore.Cfg.tcRes SparseCore.Cfg.tcEnd
  rw [show (unscopedBufs d (fun b => m ((SparseCore.T d).loc b)) : sProp 𝕄) = held (T d) (ucRefs τ sig) (V₀ m d) from
    Pipeline.unscopedBufs_held d (V₀ m d), ghosts_split, main_eq, hR]
  iintro ⟨#Hctx, Hst, ⟨Hb, Hheld, Hts, -⟩, ⟨Hg0, Hg1, Hg2⟩, Ht0, Ht1, Ht2⟩
  ihave #Hlev := (SparseCore.Cfg.ctx_levAts κ) $$ Hctx
  iapply (StableHlo.wp_seq 𝒱 none Set.univ d (ucRefs τ sig) (fun _ => rest d) entering entering_bufs entering_fresh (V₀ m d)) $$ [Hb Hheld]
  · isplitl [Hb] <;> iassumption
  iintro ⟨Hb, Hheld⟩
  ihave Hh := (Entails.of_eq (show (held (d.tc : Thread nD τ) (ucRefs τ sig) (StableHlo.after entering (V₀ m d)) : sProp 𝕄) = _ from held_before (F := F) m d)) $$ Hheld
  icases Hh with ⟨⟨Hl, Hx, Ho⟩, Hrest⟩
  simp only [rest, wp_bind, wp_pure]
  iapply ((K (F := F)).wp_run (D (F := F)) 𝒱 (EH := EH) (P := P (table m) (list m) (old m)) κ d 0)
  isplitr; · iexact Hctx
  isplitl [Hst]; · iexact Hst
  isplitl [Hx Hl Ho]
  · rw [st_eq]
    isplitl [Hl]; · iexact Hl
    isplitl [Hx]; · iexact Hx
    iexact Ho
  iintro ⟨Hst, Hdn⟩
  ihave Hdn' := (Entails.of_eq (dn_eq (table m) (list m) (old m) d)) $$ Hdn
  icases Hdn' with ⟨Hl, Hx, Ho⟩
  ihave Hst' := (Entails.of_eq (show (K (F := F)).tcSt EH d ((0 : Fin 1).val + 1) = _ from hR)) $$ Hst
  icases Hst' with ⟨Hcalm, HR⟩
  ihave Hheld := (Entails.of_eq (held_after (F := F) m d).symm) $$ [Hl Hx Ho Hrest]
  · isplitr [Hrest]
    · isplitl [Hl]; · iexact Hl
      isplitl [Hx]; · iexact Hx
      iexact Ho
    iexact Hrest
  -- the keys and values
  iapply (Region.run bd (V₂ m) 0 d)
  isplitr [Hb Hheld Hcalm Hg0 Ht0]
  rotate_left
  · isplitl [Hb]; · iexact Hb
    isplitl [Hheld]; · iexact Hheld
    isplitl [Hcalm]; · iexact Hcalm
    isplitr; · iexact Hlev
    isplitl [Hg0]; · iexact Hg0
    iexact Ht0
  iintro ⟨Hb, Hheld, Hcalm⟩
  -- the attention
  iapply (Region.run bd (V₃ m) 1 d)
  isplitr [Hb Hheld Hcalm Hg1 Ht1]
  rotate_left
  · isplitl [Hb]; · iexact Hb
    isplitl [Hheld]; · iexact Hheld
    isplitl [Hcalm]; · iexact Hcalm
    isplitr; · iexact Hlev
    isplitl [Hg1]; · iexact Hg1
    iexact Ht1
  iintro ⟨Hb, Hheld, Hcalm⟩
  iapply (wp_hlo_within 𝒱 (SparseCore.T d) none Set.univ (op := opMass) (S := ucRefs τ sig) (Pipeline.sub_ucRefs _ (by simp)) (V := V₄ m d)) $$ [Hb Hheld]
  · isplitl [Hb]; · iexact Hb
    iexact Hheld
  iintro ⟨Hb, Hheld⟩
  rw [wp_ret]; imodintro
  -- the scatter
  iapply (Region.run bd (V₅ m) 2 d)
  isplitr [Hb Hheld Hcalm Hg2 Ht2]
  rotate_left
  · isplitl [Hb]; · iexact Hb
    isplitl [Hheld]; · iexact Hheld
    isplitl [Hcalm]; · iexact Hcalm
    isplitr; · iexact Hlev
    isplitl [Hg2]; · iexact Hg2
    iexact Ht2
  iintro ⟨Hb, Hheld, Hcalm⟩
  iapply (wp_hlo_within 𝒱 (SparseCore.T d) none Set.univ (op := opLast) (S := ucRefs τ sig) (Pipeline.sub_ucRefs _ (by simp)) (V := V₆ m d)) $$ [Hb Hheld]
  · isplitl [Hb]; · iexact Hb
    iexact Hheld
  iintro ⟨Hb, Hheld⟩
  rw [wp_ret]; imodintro
  imodintro
  isplitl [Hcalm HR]
  · isplitl [Hcalm] <;> iassumption
  isplitl [Hheld]; · iexact Hheld
  isplitl [Hb] <;> iassumption

/-- What a final state holds on device `d`. -/
def fq (d : Dev nD) (s' : Phys nD τ sig (Elt F)) : Prop := ∀ b ∈ ucRefs τ sig, s'.mem.mem (d, b) = V₇ m d b

theorem hfin (d : Dev nD) (s' : Phys nD τ sig (Elt F)) : iprop(FIN m d ∗ SI s') ⊢ (⌜fq m d s'⌝ : sProp 𝕄) :=
  (pointsTo_read_all (ucRefs τ sig) (fun b => (d, b)) (fun b => V₇ m d b) s').trans sep_elim_left

def QC : PUnit × MemSt nD τ sig (Elt F) → Prop := fun r =>
  (∀ c : Dev nD, ∀ b ∈ ucRefs τ sig, r.2.mem (c, b) = V₇ m c b) ∧ r.2.sem = fun _ => 0

theorem run_main (hpre : InRange (list m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (table m) (list m) (old m)) (A := ∅) Tile.facts v₀
    (fun q hq => match q with | 0 => nomatch hq)
    (fun q _ => match q with | 0 => tileObl (table m) (list m) (old m) Tile.facts hpre)
    (fun q _ => match q with | 0 => SparseCore.Cfg.VecSplit.of_plain (vecSplit (table m) (list m) (old m)))
    m ρ main G (FIN m) (u₀ (F := F)) (sep_elim_left.trans (hu₀ (table m) (list m) (old m))) (hmain m ρ) (fq m) (hfin m) (QC m) (fun _ h hz => ⟨h, hz⟩)

end Cert.Proof.Run

end
-- ==== Proof.Kept.lean ====
/-
  What the steps of the program leave as it was: each buffer a step does not write, read through the valuations of the run.
-/
module

public import proofs.«01_k».proof.Proof.Run
public import Idealize.ShloMosaic.Lib.Pipeline.RegionArraysS

@[expose] public section

noncomputable section

namespace Cert.Proof.Kept

open Cert.KernelIdeal Cert.KernelIdeal.Gen Cert.Proof.Call Cert.Proof.Host Cert.Proof.Run
open Idealize.ShloMosaic Idealize.ShloMosaic.TcCoe

variable {F : FTy → Type} [FloatOps F] [∀ e, Nonempty (Elt F e)]
variable (m : (ℓ : Loc nD τ sig) → Buf (Elt F) ℓ) (d : Dev nD)

theorem kept2 (r : Ref sig .tc) (h : r ≠ main_v21) : V₂ m d (Proc.devRef .tc r) = V₁ m d (Proc.devRef .tc r) :=
  Function.update_of_ne (fun e => h (Proc.devRef_injective _ e)) _ _

theorem kept3 (r : Ref sig .tc) (h : r ≠ main_v22_0) (h' : r ≠ main_v22_1) : V₃ m d (Proc.devRef .tc r) = V₂ m d (Proc.devRef .tc r) := by
  refine Pipeline.afterRegion_keeps _ _ (Region.kit (F := F) 0).win.arr_inj (Region.start_eq bd (V₂ m) 0 d) r fun w hw => ?_
  change Fin 8 at w
  fin_cases w
  all_goals first | rfl | exact absurd hw.symm h | exact absurd hw.symm h'

theorem kept4 (r : Ref sig .tc) (h : r ≠ main_v23_0) (h' : r ≠ main_v23_1) : V₄ m d (Proc.devRef .tc r) = V₃ m d (Proc.devRef .tc r) := by
  refine Pipeline.afterRegion_keeps _ _ (Region.kit (F := F) 1).win.arr_inj (Region.start_eq bd (V₃ m) 1 d) r fun w hw => ?_
  change Fin 14 at w
  fin_cases w
  all_goals first | rfl | exact absurd hw.symm h | exact absurd hw.symm h'

theorem kept5 (r : Ref sig .tc) (h : r ≠ main_v24) : V₅ m d (Proc.devRef .tc r) = V₄ m d (Proc.devRef .tc r) :=
  (opMass (F := F)).result_of_not_mem _ (fun e => h (Proc.devRef_injective _ (Finset.mem_singleton.mp e)))

theorem kept6 (r : Ref sig .tc) (h : r ≠ main_v25) : V₆ m d (Proc.devRef .tc r) = V₅ m d (Proc.devRef .tc r) := by
  refine Pipeline.afterRegion_keeps _ _ (Region.kit (F := F) 2).win.arr_inj (Region.start_eq bd (V₅ m) 2 d) r fun w hw => ?_
  change Fin 3 at w
  fin_cases w
  all_goals first | rfl | exact absurd hw.symm h

theorem kept7 (r : Ref sig .tc) (h : r ≠ main_v26) : V₇ m d (Proc.devRef .tc r) = V₆ m d (Proc.devRef .tc r) :=
  (opLast (F := F)).result_of_not_mem _ (fun e => h (Proc.devRef_injective _ (Finset.mem_singleton.mp e)))

/-- The buffers the steps after the host's first line write. -/
abbrev written : List (Ref sig .tc) := [main_v21, main_v22_0, main_v22_1, main_v23_0, main_v23_1, main_v24, main_v25, main_v26]

/-- Any other buffer is at the end as the host's first line left it. -/
theorem kept (r : Ref sig .tc) (h : r ∉ written) : V₇ m d (Proc.devRef .tc r) = V₁ m d (Proc.devRef .tc r) := by
  simp only [written, List.mem_cons, List.not_mem_nil, not_or, or_false] at h
  rw [kept7 m d r (by tauto), kept6 m d r (by tauto), kept5 m d r (by tauto), kept4 m d r (by tauto) (by tauto), kept3 m d r (by tauto) (by tauto), kept2 m d r (by tauto)]

/-- The buffers the host's first line writes, in order. -/
abbrev early : List (Ref sig .tc) := [main_v0, main_v1, main_v2, main_v3, main_v4, main_v5, main_v6, main_v7, main_v8, main_v9, main_v10, main_v11, main_c, main_call0.v0.ref, main_call0.v1.ref, main_call0.v2.ref, main_call0.v3.ref, main_call0.v4.ref, main_call0.v5.ref, main_call0.v6.ref, main_call0.v7.ref, main_call0.v8.ref, main_call0.c.ref, main_call0.v9.ref, main_call0.v10.ref, main_call0.v11.ref, main_call0.c_0.ref, main_call0.v12.ref, main_call0.v13.ref, main_call0_call0.v0.ref, main_v13, main_v14, main_v15, main_v16, main_v17, main_v18, main_cst, main_v19, main_v20]

theorem first (r : Ref sig .tc) (h : r ∉ early) : V₁ m d (Proc.devRef .tc r) = m ((d.tc : Thread nD τ).loc r) :=
  StableHlo.after_unwritten early rfl h (V₀ m d)

theorem same (r : Ref sig .tc) (h : r ∉ written) (h' : r ∉ early) : V₇ m d (Proc.devRef .tc r) = m ((d.tc : Thread nD τ).loc r) :=
  (kept m d r h).trans (first m d r h')

end Cert.Proof.Kept
end
-- ==== Proof.Spec.lean ====
/-
  The arithmetic the two programs share, over the extended reals, with no arrays: the layer norm by a reciprocal square
  root and by a division, the sums over all columns under the heads' mask against the sums over a head's columns, and the
  softmax with and without its largest score taken off.
-/
module

public import Idealize.ShloMosaic.Lib.Pointwise

@[expose] public section

noncomputable section

namespace Cert.Proof.Spec

open Idealize.ShloMosaic

/-! ## Reals among the extended reals -/

/-- A value that is a real number. -/
def IsReal (x : EReal) : Prop := ∃ r : ℝ, x = r

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem IsReal.sum {ι : Type*} (s : Finset ι) {f : ι → EReal} (hf : ∀ i, IsReal (f i)) : IsReal (∑ i ∈ s, f i) := by
  choose g hg using hf
  exact ⟨∑ i ∈ s, g i, by rw [← coe_sum]; exact Finset.sum_congr rfl fun i _ => hg i⟩

theorem div_real {a b : ℝ} (hb : b ≠ 0) : Ideal.div (a : EReal) (b : EReal) = ((a / b : ℝ) : EReal) := by
  rw [Ideal.div_coe hb, ← EReal.coe_mul, mul_one_div]

theorem IsReal.div {x : EReal} {b : ℝ} (hx : IsReal x) (hb : b ≠ 0) : IsReal (Ideal.div x b) := by
  obtain ⟨a, rfl⟩ := hx; exact ⟨a / b, div_real hb⟩

/-! ## The constants -/

theorem c1024 : Ideal.ofBits .f32 1149239296#32 = ((1024 : ℝ) : EReal) := by
  simp [Ideal.ofBits, Ideal.ieee]
  rw [← EReal.coe_mul, EReal.coe_eq_coe_iff]; norm_num
theorem c8 : Ideal.ofBits .f32 1090519040#32 = ((8 : ℝ) : EReal) := by
  simp [Ideal.ofBits, Ideal.ieee]
  rw [← EReal.coe_mul, EReal.coe_eq_coe_iff]; norm_num
theorem eighth : Ideal.ofBits .f32 1040187392#32 = ((8⁻¹ : ℝ) : EReal) := by
  simp [Ideal.ofBits, Ideal.ieee]
  rw [← EReal.coe_mul, EReal.coe_eq_coe_iff]; norm_num
theorem c32768 : Ideal.ofBits .f32 1191182336#32 = ((32768 : ℝ) : EReal) := by
  simp [Ideal.ofBits, Ideal.ieee]
  rw [← EReal.coe_mul, EReal.coe_eq_coe_iff]; norm_num
theorem cinv : Ideal.ofBits .f32 0x38000000#32 = ((32768⁻¹ : ℝ) : EReal) := by
  simp [Ideal.ofBits, Ideal.ieee]
  rw [← EReal.coe_mul, EReal.coe_eq_coe_iff]; norm_num
theorem ceps : ∃ e : ℝ, 0 < e ∧ Ideal.ofBits .f32 925353388#32 = (e : EReal) := by
  simp [Ideal.ofBits, Ideal.ieee]
  exact ⟨10995116 * (2 ^ 40)⁻¹, by norm_num, (EReal.coe_mul _ _).symm⟩

/-! ## The layer norm -/

/-- The centred value. -/
def cen (x : Fin 1024 → EReal) (i : Fin 1024) : EReal := x i - Ideal.div (∑ j, x j) (Ideal.ofBits .f32 1149239296#32)
/-- The variance and a little. -/
def var (x : Fin 1024 → EReal) : EReal :=
  Ideal.div (∑ j, cen x j * cen x j) (Ideal.ofBits .f32 1149239296#32) + Ideal.ofBits .f32 925353388#32
/-- The layer norm by a reciprocal square root, -/
def normK (x g b : Fin 1024 → EReal) (i : Fin 1024) : EReal := cen x i * Ideal.rsqrt (var x) * g i + b i
/-- and by a division. -/
def normR (x g b : Fin 1024 → EReal) (i : Fin 1024) : EReal := Ideal.div (cen x i) (Ideal.sqrt (var x)) * g i + b i

theorem cen_fin {x : Fin 1024 → EReal} (hx : ∀ i, IsReal (x i)) (i : Fin 1024) : IsReal (cen x i) := by
  unfold cen; rw [c1024]; exact (hx i).sub ((IsReal.sum _ hx).div (by norm_num))

theorem var_pos {x : Fin 1024 → EReal} (hx : ∀ i, IsReal (x i)) : ∃ v : ℝ, 0 < v ∧ var x = v := by
  obtain ⟨e, he, hc⟩ := ceps
  choose y hy using cen_fin hx
  refine ⟨(∑ j, y j * y j) / 1024 + e, ?_, ?_⟩
  · have : 0 ≤ ∑ j, y j * y j := Finset.sum_nonneg fun j _ => mul_self_nonneg _
    positivity
  · unfold var
    rw [hc, c1024, Finset.sum_congr rfl fun j _ => by rw [hy j, ← EReal.coe_mul], coe_sum, div_real (by norm_num), ← EReal.coe_add]

theorem norm_eq {x : Fin 1024 → EReal} (hx : ∀ i, IsReal (x i)) (g b : Fin 1024 → EReal) (i : Fin 1024) : normK x g b i = normR x g b i := by
  obtain ⟨v, hv, hvx⟩ := var_pos hx
  unfold normK normR
  rw [hvx, Ideal.rsqrt_coe, Ideal.sqrt_coe, if_neg hv.not_gt, if_neg hv.not_gt, if_neg hv.ne', Ideal.div_coe (Real.sqrt_pos.2 hv).ne', one_div]

theorem norm_fin {x g b : Fin 1024 → EReal} (hx : ∀ i, IsReal (x i)) (hg : ∀ i, IsReal (g i)) (hb : ∀ i, IsReal (b i)) (i : Fin 1024) : IsReal (normR x g b i) := by
  obtain ⟨v, hv, hvx⟩ := var_pos hx
  unfold normR
  rw [hvx, Ideal.sqrt_coe, if_neg hv.not_gt]
  exact (((cen_fin hx i).div (Real.sqrt_pos.2 hv).ne').mul (hg i)).add (hb i)

/-- A linear map's value. -/
def lin (x : Fin 1024 → EReal) (W : Fin 1024 → Fin 1024 → EReal) (b : Fin 1024 → EReal) (n : Fin 1024) : EReal := (∑ i, x i * W n i) + b n

theorem lin_fin {x : Fin 1024 → EReal} {W : Fin 1024 → Fin 1024 → EReal} {b : Fin 1024 → EReal} (hx : ∀ i, IsReal (x i)) (hW : ∀ n i, IsReal (W n i))
    (hb : ∀ i, IsReal (b i)) (n : Fin 1024) : IsReal (lin x W b n) := (IsReal.sum _ fun i => (hx i).mul (hW n i)).add (hb n)

/-! ## Sixteen heads of sixty-four -/

/-- Column `d` of head `e`. -/
def col (e : Fin 16) (d : Fin 64) : Fin 1024 := ⟨e.val * 64 + d.val, by omega⟩

theorem sum_col {M : Type*} [AddCommMonoid M] (f : Fin 1024 → M) : ∑ c, f c = ∑ e : Fin 16, ∑ d : Fin 64, f (col e d) := by
  rw [← Fintype.sum_prod_type']
  refine (Fintype.sum_equiv (finProdFinEquiv (m := 16) (n := 64)) _ _ fun p => ?_).symm
  refine congrArg f (Fin.ext ?_)
  show p.1.val * 64 + p.2.val = p.2.val + 64 * p.1.val
  omega

/-- The heads' mask. -/
def mask (r c : Fin 1024) : EReal := if r.val / 64 = c.val / 64 then 1 else 0

theorem mask_col (e e' : Fin 16) (k d : Fin 64) : mask (col e k) (col e' d) = if e = e' then 1 else 0 := by
  have h : (col e k).val / 64 = e.val := by show (e.val * 64 + k.val) / 64 = e.val; omega
  have h' : (col e' d).val / 64 = e'.val := by show (e'.val * 64 + d.val) / 64 = e'.val; omega
  unfold mask
  rw [h, h']
  exact if_congr Fin.val_inj rfl rfl

theorem sum_masked_right (e : Fin 16) (k : Fin 64) (f g : Fin 1024 → EReal) :
    ∑ c, f c * (g c * mask (col e k) c) = ∑ d, f (col e d) * g (col e d) := by
  rw [sum_col, Finset.sum_eq_single e]
  · exact Finset.sum_congr rfl fun d _ => by rw [mask_col, if_pos rfl, mul_one]
  · intro e' _ h
    exact Finset.sum_eq_zero fun d _ => by rw [mask_col, if_neg (Ne.symm h), mul_zero, mul_zero]
  · exact fun h => absurd (Finset.mem_univ _) h

theorem sum_masked_left (e : Fin 16) (d : Fin 64) (f g : Fin 1024 → EReal) :
    ∑ r, f r * (g r * mask r (col e d)) = ∑ k, f (col e k) * g (col e k) := by
  rw [sum_col, Finset.sum_eq_single e]
  · exact Finset.sum_congr rfl fun d _ => by rw [mask_col, if_pos rfl, mul_one]
  · intro e' _ h
    exact Finset.sum_eq_zero fun d _ => by rw [mask_col, if_neg h, mul_zero, mul_zero]
  · exact fun h => absurd (Finset.mem_univ _) h

theorem sum_masked (e : Fin 16) (d : Fin 64) (f : Fin 1024 → EReal) : ∑ r, f r * mask r (col e d) = ∑ k, f (col e k) := by
  have := sum_masked_left e d f fun _ => 1
  simpa only [one_mul, mul_one] using this

/-! ## The softmax -/

theorem exp_sum_pos (s : Fin 64 → ℝ) : 0 < ∑ j, Real.exp (s j) := Finset.sum_pos (fun j _ => Real.exp_pos _) ⟨0, Finset.mem_univ _⟩

/-- A softmax with a real taken off every score is the softmax. -/
theorem soft_shift (s : Fin 64 → ℝ) (m : ℝ) (k : Fin 64) :
    Ideal.div (Ideal.exp (s k)) (∑ j, Ideal.exp ((s j : ℝ) : EReal)) = Ideal.div (Ideal.exp ((s k : EReal) - m)) (∑ j, Ideal.exp ((s j : EReal) - m)) := by
  simp only [← EReal.coe_sub, Ideal.exp_coe, coe_sum]
  have hp := exp_sum_pos s
  have hq := exp_sum_pos fun j => s j - m
  rw [div_real hp.ne', div_real hq.ne', EReal.coe_eq_coe_iff]
  have : ∀ j, Real.exp (s j - m) = Real.exp (s j) * Real.exp (-m) := fun j => by rw [sub_eq_add_neg, Real.exp_add]
  simp only [this, ← Finset.sum_mul]
  rw [mul_div_mul_right _ _ (Real.exp_pos _).ne']

/-- The score of row `k` under head `e`, the queries scaled before the sum, -/
def scoreK (q : Fin 1024 → EReal) (km : Fin 1024 → EReal) : EReal := ∑ c, q c * Ideal.ofBits .f32 1040187392#32 * km c
/-- and the sum divided. -/
def scoreR (q : Fin 1024 → EReal) (kk : Fin 64 → Fin 1024 → EReal) (e : Fin 16) (k : Fin 64) : EReal :=
  Ideal.div (∑ d, q (col e d) * kk k (col e d)) (Ideal.ofBits .f32 1090519040#32)

/-- The masked keys. -/
def masked (kk : Fin 64 → Fin 1024 → EReal) (r c : Fin 1024) : EReal := kk ⟨r.val % 64, Nat.mod_lt _ (by decide)⟩ c * mask r c

theorem masked_col (kk : Fin 64 → Fin 1024 → EReal) (e : Fin 16) (k : Fin 64) (c : Fin 1024) : masked kk (col e k) c = kk k c * mask (col e k) c := by
  unfold masked
  refine congrArg (fun x => kk x c * mask (col e k) c) (Fin.ext ?_)
  show (e.val * 64 + k.val) % 64 = k.val
  omega

theorem score_eq {q : Fin 1024 → EReal} {kk : Fin 64 → Fin 1024 → EReal} (hq : ∀ c, IsReal (q c)) (hk : ∀ k c, IsReal (kk k c)) (e : Fin 16) (k : Fin 64) :
    ∃ r : ℝ, scoreK q (masked kk (col e k)) = r ∧ scoreR q kk e k = r := by
  choose q' hq' using hq
  choose k' hk' using hk
  refine ⟨(∑ d, q' (col e d) * k' k (col e d)) / 8, ?_, ?_⟩
  · unfold scoreK
    simp only [masked_col, sum_masked_right, eighth, hq', hk', ← EReal.coe_mul, coe_sum]
    rw [EReal.coe_eq_coe_iff, Finset.sum_div]
    exact Finset.sum_congr rfl fun d _ => by ring
  · unfold scoreR
    simp only [c8, hq', hk', ← EReal.coe_mul, coe_sum]
    exact div_real (by norm_num)

/-- The weights of a position, by the masked sum of the exponentials. -/
def weightK (q : Fin 1024 → EReal) (kk : Fin 64 → Fin 1024 → EReal) (r : Fin 1024) : EReal :=
  Ideal.div (Ideal.exp (scoreK q (masked kk r))) (∑ x, Ideal.exp (scoreK q (masked kk x)) * mask x r)
/-- The weights of a position and head, a number taken off the scores. -/
def weightR (q : Fin 1024 → EReal) (kk : Fin 64 → Fin 1024 → EReal) (m : EReal) (e : Fin 16) (k : Fin 64) : EReal :=
  Ideal.div (Ideal.exp (scoreR q kk e k - m)) (∑ j, Ideal.exp (scoreR q kk e j - m))

theorem weight_eq {q : Fin 1024 → EReal} {kk : Fin 64 → Fin 1024 → EReal} (hq : ∀ c, IsReal (q c)) (hk : ∀ k c, IsReal (kk k c)) {m : EReal} (hm : IsReal m)
    (e : Fin 16) (k : Fin 64) : weightK q kk (col e k) = weightR q kk m e k := by
  obtain ⟨m, rfl⟩ := hm
  choose s hs hs' using fun k => score_eq hq hk e k
  unfold weightK weightR
  rw [sum_masked]
  simp only [hs, hs']
  exact soft_shift s m k

/-- The attended values: over all rows under the mask, and over a head's. -/
theorem attended_eq (p : Fin 1024 → EReal) (vv : Fin 64 → Fin 1024 → EReal) (e : Fin 16) (d : Fin 64) :
    ∑ r, p r * masked vv r (col e d) = ∑ k, p (col e k) * vv k (col e d) := by
  unfold masked
  rw [sum_masked_left e d p fun r => vv ⟨r.val % 64, Nat.mod_lt _ (by decide)⟩ (col e d)]
  refine Finset.sum_congr rfl fun k _ => congrArg (fun x => p (col e k) * vv x (col e d)) (Fin.ext ?_)
  show (e.val * 64 + k.val) % 64 = k.val
  omega

end Cert.Proof.Spec
end
-- ==== Proof.HostValue.lean ====
/-
  What the host's first line leaves in the buffers that the gather and the kernels read: the rows in a matrix's shape, the
  matrices cast, the head mask, the ones and the list.
-/
module

public import proofs.«01_k».proof.Proof.Run
public import proofs.«01_k».proof.Proof.Spec
public import Idealize.ShloMosaic.Lib.StableHlo.ReadAt
public import Idealize.ShloMosaic.Lib.Pointwise
public import Idealize.ShloMosaic.Lib.StableHlo.Predicate

@[expose] public section

noncomputable section

namespace Cert.Proof.HostValue

open Cert.KernelIdeal Cert.KernelIdeal.Gen Cert.Proof.Host
open Idealize.ShloMosaic Idealize.ShloMosaic.TcCoe

variable (V : Valuation τ sig (Elt Ideal))

theorem row0 (i : Fin 1024) : StableHlo.after (entering (F := Ideal)) V (Proc.devRef .tc main_v0) (ix2 0 i) = V (Proc.devRef .tc main_arg11) (ix1 i) := by
  after_reads_at
theorem row1 (i : Fin 1024) : StableHlo.after (entering (F := Ideal)) V (Proc.devRef .tc main_v1) (ix2 0 i) = V (Proc.devRef .tc main_arg12) (ix1 i) := by
  after_reads_at
theorem row2 (i : Fin 1024) : StableHlo.after (entering (F := Ideal)) V (Proc.devRef .tc main_v2) (ix2 0 i) = V (Proc.devRef .tc main_arg4) (ix1 i) := by
  after_reads_at
theorem row3 (i : Fin 1024) : StableHlo.after (entering (F := Ideal)) V (Proc.devRef .tc main_v3) (ix2 0 i) = V (Proc.devRef .tc main_arg10) (ix1 i) := by
  after_reads_at
theorem row4 (i : Fin 1024) : StableHlo.after (entering (F := Ideal)) V (Proc.devRef .tc main_v4) (ix2 0 i) = V (Proc.devRef .tc main_arg6) (ix1 i) := by
  after_reads_at
theorem row5 (i : Fin 1024) : StableHlo.after (entering (F := Ideal)) V (Proc.devRef .tc main_v5) (ix2 0 i) = V (Proc.devRef .tc main_arg8) (ix1 i) := by
  after_reads_at
theorem scalar6 : StableHlo.after (entering (F := Ideal)) V (Proc.devRef .tc main_v6) (ix2 0 0) = V (Proc.devRef .tc main_arg13) ix0 := by
  after_reads_at
theorem mat7 (n i : Fin 1024) : StableHlo.after (entering (F := Ideal)) V (Proc.devRef .tc main_v7) (ix2 n i) = V (Proc.devRef .tc main_arg3) (ix2 n i) := by
  after_reads_at
theorem mat8 (n i : Fin 1024) : StableHlo.after (entering (F := Ideal)) V (Proc.devRef .tc main_v8) (ix2 n i) = V (Proc.devRef .tc main_arg9) (ix2 n i) := by
  after_reads_at
theorem mat9 (n i : Fin 1024) : StableHlo.after (entering (F := Ideal)) V (Proc.devRef .tc main_v9) (ix2 n i) = V (Proc.devRef .tc main_arg5) (ix2 n i) := by
  after_reads_at
theorem mat10 (n i : Fin 1024) : StableHlo.after (entering (F := Ideal)) V (Proc.devRef .tc main_v10) (ix2 n i) = V (Proc.devRef .tc main_arg7) (ix2 n i) := by
  after_reads_at
theorem ones (t : Fin 512) : StableHlo.after (entering (F := Ideal)) V (Proc.devRef .tc main_v19) (ix2 0 t) = (1 : EReal) := by
  after_reads_at

theorem list_at {F : FTy → Type} [FloatOps F] (V : Valuation τ sig (Elt F)) (j : Fin 256) : StableHlo.after (entering (F := F)) V (Proc.devRef .tc main_v20) (ix1 j)
    = V (Proc.devRef .tc main_arg2) (ix2 ⟨j.val / 64, by omega⟩ ⟨j.val % 64, by omega⟩) := by
  after_reads_at

/-- A word's sign. -/
def sign (x : BitVec 32) : BitVec 32 := if x = 0 then 0 else if x.msb = true then -1 else 1

/-- The floor of a word's quotient by 64, as the host's integers take it. -/
def head (x : BitVec 32) : BitVec 32 :=
  Scalar.select (IntOp.andi (IntOp.cmpi .ne (sign x) (sign 64#32))
      (IntOp.cmpi .ne (IntOp.remsi .host x 64#32) 0#32))
    (IntOp.subi (IntOp.divsi .host x 64#32) 1#32) (IntOp.divsi .host x 64#32)

theorem head_eq (n : Fin 1024) : head (BitVec.ofNat 32 n.val) = BitVec.ofNat 32 (n.val / 64) := by
  revert n
  unfold head sign
  decide +kernel

theorem mask_at (r c : Fin 1024) : StableHlo.after (entering (F := Ideal)) V (Proc.devRef .tc main_v18) (ix2 r c) = Spec.mask r c := by
  after_reads_at
  show FloatOps.uitofp (F := Ideal) FTy.bf16 (IntOp.cmpi .eq (head (BitVec.ofNat 32 r.val)) (head (BitVec.ofNat 32 c.val))) = _
  rw [head_eq, head_eq]
  unfold Spec.mask
  have key : (BitVec.ofNat 32 (r.val / 64) = BitVec.ofNat 32 (c.val / 64)) ↔ r.val / 64 = c.val / 64 := by
    constructor
    · intro e
      have e := congrArg BitVec.toNat e
      rw [BitVec.toNat_ofNat, BitVec.toNat_ofNat, Nat.mod_eq_of_lt (by omega), Nat.mod_eq_of_lt (by omega)] at e
      exact e
    · intro e; rw [e]
  by_cases h : r.val / 64 = c.val / 64
  · rw [if_pos h, StableHlo.Predicate.cmpi_eq_iff.2 (key.2 h)]
    show ((((1#1 : BitVec 1).toNat : ℝ)) : EReal) = 1
    norm_num
  · have e : IntOp.cmpi .eq (BitVec.ofNat 32 (r.val / 64)) (BitVec.ofNat 32 (c.val / 64)) = 0#1 := by
      have := fun h' => h (key.1 (StableHlo.Predicate.cmpi_eq_iff.1 h'))
      revert this
      generalize IntOp.cmpi .eq (BitVec.ofNat 32 (r.val / 64)) (BitVec.ofNat 32 (c.val / 64)) = x
      revert x; decide
    rw [if_neg h, e]
    show ((((0#1 : BitVec 1).toNat : ℝ)) : EReal) = 0
    norm_num

end Cert.Proof.HostValue
end
-- ==== Proof.Take.lean ====
/-
  The reference's take, read at an element. A host take wraps a negative
  index, masks what is out of range and gathers at the clamped index; where every index is a row's number, all three do
  nothing, and the take reads the row named.
-/
module

public import proofs.«01_k».proof.Proof.Tile
public import proofs.«01_k».proof.Proof.Gen.ReferenceIdeal.Run
public import Idealize.ShloMosaic.Lib.ValueIdxCore
public import Idealize.ShloMosaic.Lib.StableHlo.Predicate

@[expose] public section

noncomputable section

namespace Cert.Proof.Take

open Cert.ReferenceIdeal Cert.ReferenceIdeal.Gen
open Idealize.ShloMosaic Idealize.ShloMosaic.ValueIdx Idealize.ShloMosaic.StableHlo.Predicate

variable {F : FTy → Type}

/-! ## A conjunction over an array -/

theorem andi_one (a b : BitVec 1) : IntOp.andi a b = 1#1 ↔ a = 1#1 ∧ b = 1#1 := by
  revert a b; decide

theorem foldl_andi {α : Type} (f : α → BitVec 1) (l : List α) (a : BitVec 1) :
    l.foldl (fun r n => IntOp.andi r (f n)) a = 1#1 ↔ a = 1#1 ∧ ∀ n ∈ l, f n = 1#1 := by
  induction l generalizing a with
  | nil => simp
  | cons x l ih => rw [List.foldl_cons, ih, andi_one, List.forall_mem_cons]; tauto

/-- A conjunction along some axes holds at a place iff it begins true and every element folded there is true. -/
theorem reduce_andi {s t u : Shape} {axes : List (Fin s.rank)} (x : s.Idx → BitVec 1) (init : u.Idx → BitVec 1)
    (h : s.ReducesTo axes t) (hu : 0 < u.numel) (j : t.Idx) :
    Host.reduce IntOp.andi x init h hu j = 1#1 ↔ init (Shape.Idx.first hu) = 1#1 ∧ ∀ i : s.Idx, h.drop i = j → x i = 1#1 := by
  unfold Host.reduce
  rw [foldl_andi]
  refine and_congr_right fun _ => ⟨fun e i hi => ?_, fun e n hn => e _ (by simpa using hn)⟩
  have := e (s.rowMajor i) (by simp [hi])
  simpa using this

/-! ## One index -/

theorem ge_zero {v : BitVec 32} (h : v.toNat < 8192) : IntOp.cmpi .sge v 0#32 = 1#1 := by
  simp only [IntOp.cmpi, ofBool_eq_one_iff, BitVec.sle_eq_decide, decide_eq_true_eq, BitVec.toInt_eq_toNat_cond, BitVec.toNat_ofNat,
    Nat.reducePow, Nat.reduceMod]
  omega

theorem le_last {v : BitVec 32} (h : v.toNat < 8192) : IntOp.cmpi .sle v 8191#32 = 1#1 := by
  simp only [IntOp.cmpi, ofBool_eq_one_iff, BitVec.sle_eq_decide, decide_eq_true_eq, BitVec.toInt_eq_toNat_cond, BitVec.toNat_ofNat,
    Nat.reducePow, Nat.reduceMod]
  omega

theorem not_neg {v : BitVec 32} (h : v.toNat < 8192) : IntOp.cmpi .slt v 0#32 = 0#1 := by
  have : v.slt 0#32 = false := by
    rw [BitVec.slt_eq_decide, decide_eq_false_iff_not, BitVec.toInt_eq_toNat_cond]
    simp only [Nat.reducePow, BitVec.toInt_zero]
    omega
  simp only [IntOp.cmpi, this]; rfl

theorem lt_of_bounds {v : BitVec 32} (h₀ : IntOp.cmpi .sge v 0#32 = 1#1) (h₁ : IntOp.cmpi .slt v 8192#32 = 1#1) : v.toNat < 8192 := by
  simp only [IntOp.cmpi, ofBool_eq_one_iff, BitVec.sle_eq_decide, BitVec.slt_eq_decide, decide_eq_true_eq,
    BitVec.toInt_eq_toNat_cond, BitVec.toNat_ofNat, Nat.reducePow, Nat.reduceMod] at h₀ h₁
  omega

/-! ## The take -/

/-- The gather of rows: place `(b, k, c)` reads column `c` of the row that start index `(b, k)` names, clamped. -/
theorem gather_at {α : Type} (x : S8192x1024.Idx → α) (ix : IVec S4x64x1 32) (j : S4x64x1024.Idx) :
    Host.gather gather_S8192x1024_S4x64x1_S4x64x1024_2_0_n_n_0_2_11024 x ix j
      = x (ix2 ⟨min (ix (ix3 (j 0) (j 1) 0)).toInt.toNat 8191, by omega⟩ (j 2)) := by
  unfold Host.gather
  congr 1
  have hs : gather_S8192x1024_S4x64x1_S4x64x1024_2_0_n_n_0_2_11024.siIdx j ⟨0, by decide⟩ = ix3 (j 0) (j 1) 0 := by
    funext b
    match b with
    | 0 => exact Fin.ext rfl
    | 1 => exact Fin.ext rfl
    | 2 => exact Fin.ext rfl
  funext a
  match a with
  | 0 => exact Fin.ext (congrArg (fun q : S4x64x1.Idx => min (ix q).toInt.toNat 8191) hs)
  | 1 => exact Fin.ext (by
      show 0 + 0 + (j 2).val = (j 2).val
      omega)

/-- The reference's take of a table at an array of indices. -/
def take [FloatOps F] (x : FVec F S8192x1024 .f32) (idx : IVec S4x64 32) : FVec F S4x64x1024 .f32 :=
  let w : IVec S4x64x1 32 := broadcastInDim S4x64x1 ![0, 1] bcast_S4x64_S4x64x1_0_1
    (select (cmpi .slt idx (broadcastInDim S4x64 ![] bcast_S_S4x64 (constantI S_ 32 0#32)))
      (addi idx (broadcastInDim S4x64 ![] bcast_S_S4x64 (constantI S_ 32 8192#32))) idx)
  select (broadcastInDim S4x64x1024 ![0, 1] bcast_S4x64_S4x64x1024_0_1
      (Host.reduce IntOp.andi
        (andi (cmpi .sge w (broadcastInDim S4x64x1 ![] bcast_S_S4x64x1 (constantI S_ 32 0#32)))
          (cmpi .sle w (broadcastInDim S4x64x1 ![0, 1, 2] bcast_S1x1x1_S4x64x1_0_1_2 (broadcastInDim S1x1x1 ![2] bcast_S1_S1x1x1_2 (constantI S1 32 8191#32)))))
        (constantI S_ 1 1#1) reducesTo_S4x64x1_S4x64_d2 h_S_))
    (Host.gather gather_S8192x1024_S4x64x1_S4x64x1024_2_0_n_n_0_2_11024 x w)
    (broadcastInDim S4x64x1024 ![] bcast_S_S4x64x1024 (constant S_ .f32 0x7FC00000#32))

theorem take_at [FloatOps F] (x : FVec F S8192x1024 .f32) (idx : IVec S4x64 32) (h : ∀ i, (idx i).toNat < 8192) (j : S4x64x1024.Idx) :
    take x idx j = x (ix2 (Tile.rowOf (idx (ix2 (j 0) (j 1)))) (j 2)) := by
  have hw : ∀ i : S4x64x1.Idx, (broadcastInDim S4x64x1 ![0, 1] bcast_S4x64_S4x64x1_0_1
    (select (cmpi .slt idx (broadcastInDim S4x64 ![] bcast_S_S4x64 (constantI S_ 32 0#32)))
      (addi idx (broadcastInDim S4x64 ![] bcast_S_S4x64 (constantI S_ 32 8192#32))) idx) : IVec S4x64x1 32) i = idx (ix2 (i 0) (i 1)) := by
    intro i
    refine Eq.trans (b := (select (cmpi .slt idx (broadcastInDim S4x64 ![] bcast_S_S4x64 (constantI S_ 32 0#32)))
      (addi idx (broadcastInDim S4x64 ![] bcast_S_S4x64 (constantI S_ 32 8192#32))) idx : IVec S4x64 32) (ix2 (i 0) (i 1))) ?_ ?_
    · unfold broadcastInDim
      refine congrArg _ (funext fun a => ?_)
      match a with
      | 0 => exact Fin.ext rfl
      | 1 => exact Fin.ext rfl
    · show Scalar.select (IntOp.cmpi .slt (idx (ix2 (i 0) (i 1))) 0#32) _ _ = _
      rw [not_neg (h _)]
      rfl
  unfold take
  have hm : ∀ (q : IVec S4x64 1), (∀ k, q k = 1#1) → (broadcastInDim S4x64x1024 ![0, 1] bcast_S4x64_S4x64x1024_0_1 q : IVec S4x64x1024 1) j = 1#1 :=
    fun q hq => hq _
  refine Eq.trans (congrArg (fun b => Scalar.select b _ _) (hm _ fun k => (reduce_andi _ _ _ _ _).2 ⟨rfl, fun i _ => (andi_one _ _).2 ⟨?_, ?_⟩⟩)) ?_
  · show IntOp.cmpi .sge _ 0#32 = 1#1
    rw [hw]; exact ge_zero (h _)
  · show IntOp.cmpi .sle _ 8191#32 = 1#1
    rw [hw]; exact le_last (h _)
  · refine Eq.trans (gather_at _ _ _) ?_
    refine congrArg x ?_
    refine congrArg (fun r : Fin 8192 => (ix2 r (j 2) : S8192x1024.Idx)) (Fin.ext ?_)
    refine (congrArg (fun v : BitVec 32 => min v.toInt.toNat 8191) (hw _)).trans ?_
    show min (idx _).toInt.toNat 8191 = min (idx _).toNat 8191
    rw [toInt_eq_toNat_of_lt (lt_trans (h _) (by norm_num)), Int.toNat_natCast]

end Cert.Proof.Take

end
-- ==== Proof.Pre.lean ====
/-
  What the two preconditions say of the arrays: the indices name rows of the table; no row of indices names a row twice;
  the arrays whose finiteness is asked hold real numbers.
-/
module

public import proofs.«01_k».proof.Proof.Take
public import proofs.«01_k».proof.Proof.Spec
public import proofs.«01_k».proof.Proof.Gen.Pre_in_range
public import proofs.«01_k».proof.Proof.Gen.Pre_selected
public import Idealize.ShloMosaic.Lib.StableHlo.Predicate
public import Idealize.ShloMosaic.Lib.Pointwise

@[expose] public section

noncomputable section

namespace Cert.Proof.Pre

open Idealize.ShloMosaic Cert.Proof.Take

/-- A value below infinity in size is a real number. -/
theorem real_of_lt (x : EReal) (h : Ideal.cmp .olt (max x (-x)) (Ideal.ofBits .f32 0x7F800000#32) = 1#1) : Spec.IsReal x := by
  have htop : Ideal.ofBits .f32 0x7F800000#32 = (⊤ : EReal) := by simp [Ideal.ofBits, Ideal.ieee]
  rw [htop] at h
  have h' : max x (-x) < ⊤ := by
    by_contra hn
    have : Ideal.cmp .olt (max x (-x)) ⊤ = 0#1 := by
      unfold Ideal.cmp
      rw [decide_eq_false hn]; rfl
    rw [this] at h
    exact absurd h (by decide)
  induction x using EReal.rec with
  | bot => exact absurd h' (by simp)
  | top => exact absurd h' (by simp)
  | coe r => exact ⟨r, rfl⟩

theorem in_range {F : FTy → Type} [FloatOps F] (x0 x1 x2 x3 x4 x5 x6 x7 x8 x9 x10 x11 x12 x13)
    (h : Cert.Pre_in_range.fn (F := F) x0 x1 x2 x3 x4 x5 x6 x7 x8 x9 x10 x11 x12 x13 = fun _ => 1#1) (p : Fin 4) (k : Fin 64) : (x2 (ix2 p k)).toNat < 8192 := by
  have e := congrFun h (fun a => a.elim0)
  have e := ((reduce_andi _ _ _ _ _).1 e).2 (ix2 p k) (funext fun a => a.elim0)
  have e := (andi_one _ _).1 e
  exact lt_of_bounds e.1 e.2

/-- What the second precondition says. -/
structure Selected (x0 : FVec Ideal Cert.Pre_selected.S4x2048x1024 .f32) (x1 : FVec Ideal Cert.Pre_selected.S8192x1024 .f32) (x2 : IVec Cert.Pre_selected.S4x64 32)
    (x3 : FVec Ideal Cert.Pre_selected.S1024x1024 .f32) (x4 : FVec Ideal Cert.Pre_selected.S1024 .f32) (x5 : FVec Ideal Cert.Pre_selected.S1024x1024 .f32)
    (x6 x11 x12 : FVec Ideal Cert.Pre_selected.S1024 .f32) : Prop where
  range : ∀ p k, (x2 (ix2 p k)).toNat < 8192
  distinct : ∀ p (k k' : Fin 64), k < k' → x2 (ix2 p k) ≠ x2 (ix2 p k')
  h : ∀ i, Spec.IsReal (x0 i)
  memory : ∀ i, Spec.IsReal (x1 i)
  Wq : ∀ i, Spec.IsReal (x3 i)
  bq : ∀ i, Spec.IsReal (x4 i)
  Wk : ∀ i, Spec.IsReal (x5 i)
  bk : ∀ i, Spec.IsReal (x6 i)
  ln_g : ∀ i, Spec.IsReal (x11 i)
  ln_b : ∀ i, Spec.IsReal (x12 i)

/-- Of a pair of indices in order, the condition that they differ. -/
theorem differ (x y : BitVec 32) (k k' : Fin 64) (hk : k < k')
    (e : IntOp.ori (IntOp.cmpi .ne x y) (~~~IntOp.cmpi .slt (BitVec.ofNat 32 k.val) (BitVec.ofNat 32 k'.val)) = 1#1) : x ≠ y := by
  rintro rfl
  have h1 : IntOp.cmpi .ne x x = 0#1 := by simp [IntOp.cmpi]
  have h2 : IntOp.cmpi .slt (BitVec.ofNat 32 k.val) (BitVec.ofNat 32 k'.val) = 1#1 := by
    have : ∀ k k' : Fin 64, k < k' → IntOp.cmpi .slt (BitVec.ofNat 32 k.val) (BitVec.ofNat 32 k'.val) = 1#1 := by decide
    exact this k k' hk
  rw [h1, h2] at e
  exact absurd e (by decide)

theorem selected (x0 x1 x2 x3 x4 x5 x6 x7 x8 x9 x10 x11 x12 x13)
    (h : Cert.Pre_selected.fn (F := Ideal) x0 x1 x2 x3 x4 x5 x6 x7 x8 x9 x10 x11 x12 x13 = fun _ => 1#1) : Selected x0 x1 x2 x3 x4 x5 x6 x11 x12 := by
  have e := congrFun h (fun a => a.elim0)
  obtain ⟨e, e12⟩ := (andi_one _ _).1 e
  obtain ⟨e, e11⟩ := (andi_one _ _).1 e
  obtain ⟨e, e6⟩ := (andi_one _ _).1 e
  obtain ⟨e, e5⟩ := (andi_one _ _).1 e
  obtain ⟨e, e4⟩ := (andi_one _ _).1 e
  obtain ⟨e, e3⟩ := (andi_one _ _).1 e
  obtain ⟨e, e1⟩ := (andi_one _ _).1 e
  obtain ⟨e, e0⟩ := (andi_one _ _).1 e
  obtain ⟨er, ed⟩ := (andi_one _ _).1 e
  refine ⟨fun p k => ?_, fun p k k' hk => differ _ _ k k' hk ?_, fun i => ?_, fun i => ?_, fun i => ?_, fun i => ?_, fun i => ?_, fun i => ?_, fun i => ?_, fun i => ?_⟩
  · have e := (andi_one _ _).1 (((reduce_andi _ _ _ _ _).1 er).2 (ix2 p k) (funext fun a => a.elim0))
    exact lt_of_bounds e.1 e.2
  · have e := ((reduce_andi _ _ _ _ _).1 ed).2 (ix3 p k k') (funext fun a => a.elim0)
    refine Eq.trans ?_ e
    pointwise
  · exact real_of_lt _ (((reduce_andi _ _ _ _ _).1 e0).2 i (funext fun a => a.elim0))
  · exact real_of_lt _ (((reduce_andi _ _ _ _ _).1 e1).2 i (funext fun a => a.elim0))
  · exact real_of_lt _ (((reduce_andi _ _ _ _ _).1 e3).2 i (funext fun a => a.elim0))
  · exact real_of_lt _ (((reduce_andi _ _ _ _ _).1 e4).2 i (funext fun a => a.elim0))
  · exact real_of_lt _ (((reduce_andi _ _ _ _ _).1 e5).2 i (funext fun a => a.elim0))
  · exact real_of_lt _ (((reduce_andi _ _ _ _ _).1 e6).2 i (funext fun a => a.elim0))
  · exact real_of_lt _ (((reduce_andi _ _ _ _ _).1 e11).2 i (funext fun a => a.elim0))
  · exact real_of_lt _ (((reduce_andi _ _ _ _ _).1 e12).2 i (funext fun a => a.elim0))

end Cert.Proof.Pre
end
-- ==== Proof.RefValue.lean ====
/-
  The reference's two results as a chain of named arrays over the extended reals, each read at an element.
-/
module

public import proofs.«01_k».proof.Proof.Take
public import proofs.«01_k».proof.Proof.Spec

@[expose] public section

noncomputable section

namespace Cert.Proof.RefValue

open Cert.ReferenceIdeal Cert.ReferenceIdeal.Gen Cert.ReferenceIdeal.Value
open Idealize.ShloMosaic
open Idealize.ShloMosaic.TcCoe

set_option maxRecDepth 16384

/-! ## The chain -/

/-- The mean over the last axis. -/
def mean (x : FVec Ideal S4x2048x1024 .f32) : FVec Ideal S4x2048x1 .f32 :=
  Host.divf (broadcastInDim S4x2048x1 ![0, 1] bcast_S4x2048_S4x2048x1_0_1 (Host.reduceAdd x (constant S_ .f32 0x00000000#32) reducesTo_S4x2048x1024_S4x2048_d2 h_S_))
    (broadcastInDim S4x2048x1 ![] bcast_S_S4x2048x1 (constant S_ .f32 0x44800000#32))
/-- One value a position, along the last axis. -/
def spread (x : FVec Ideal S4x2048x1 .f32) : FVec Ideal S4x2048x1024 .f32 := broadcastInDim S4x2048x1024 ![0, 1, 2] bcast_S4x2048x1_S4x2048x1024_0_1_2 x
def centred (x : FVec Ideal S4x2048x1024 .f32) : FVec Ideal S4x2048x1024 .f32 := subf x (spread (mean x))
/-- The square root of the variance and a little. -/
def deviation (x : FVec Ideal S4x2048x1024 .f32) : FVec Ideal S4x2048x1 .f32 :=
  Host.sqrt (addf (mean (mulf (centred x) (centred x))) (broadcastInDim S4x2048x1 ![] bcast_S_S4x2048x1 (constant S_ .f32 0x3727C5AC#32)))
/-- A vector along every position. -/
def row (v : FVec Ideal S1024 .f32) : FVec Ideal S4x2048x1024 .f32 :=
  broadcastInDim S4x2048x1024 ![0, 1, 2] bcast_S1x1x1024_S4x2048x1024_0_1_2 (broadcastInDim S1x1x1024 ![2] bcast_S1024_S1x1x1024_2 v)
/-- The layer norm. -/
def norm (x : FVec Ideal S4x2048x1024 .f32) (g b : FVec Ideal S1024 .f32) : FVec Ideal S4x2048x1024 .f32 :=
  addf (mulf (Host.divf (centred x) (spread (deviation x))) (row g)) (row b)
/-- A linear map of every position. -/
def linear (x : FVec Ideal S4x2048x1024 .f32) (W : FVec Ideal S1024x1024 .f32) (b : FVec Ideal S1024 .f32) : FVec Ideal S4x2048x1024 .f32 :=
  addf (Host.dotGeneral dot_S4x2048x1024_S1024x1024_S4x2048x1024_2_0_01_1_n_n none x (transpose S1024x1024 [1, 0] W transposes_S1024x1024_S1024x1024_1_0)) (row b)
/-- A linear map of every selected row, by heads. -/
def project (x : FVec Ideal S4x64x1024 .f32) (W : FVec Ideal S1024x1024 .f32) (b : FVec Ideal S1024 .f32) : FVec Ideal S4x16x64x64 .f32 :=
  transpose S4x16x64x64 [0, 2, 1, 3] (shapeCast S4x64x16x64
    (addf (Host.dotGeneral dot_S4x64x1024_S1024x1024_S4x64x1024_2_0_01_1_n_n none x (transpose S1024x1024 [1, 0] W transposes_S1024x1024_S1024x1024_1_0))
      (broadcastInDim S4x64x1024 ![0, 1, 2] bcast_S1x1x1024_S4x64x1024_0_1_2 (broadcastInDim S1x1x1024 ![2] bcast_S1024_S1x1x1024_2 b)))
    shapeCasts_S4x64x1024_S4x64x16x64) transposes_S4x64x16x64_S4x16x64x64_0_2_1_3
def heads (x : FVec Ideal S4x2048x1024 .f32) : FVec Ideal S4x16x2048x64 .f32 :=
  transpose S4x16x2048x64 [0, 2, 1, 3] (shapeCast S4x2048x16x64 x shapeCasts_S4x2048x1024_S4x2048x16x64) transposes_S4x2048x16x64_S4x16x2048x64_0_2_1_3
def scores (q : FVec Ideal S4x16x2048x64 .f32) (k : FVec Ideal S4x16x64x64 .f32) : FVec Ideal S4x16x2048x64 .f32 :=
  Host.divf (Host.dotGeneral dot_S4x16x2048x64_S4x16x64x64_S4x16x2048x64_3_3_2_2_01_01 none q k) (broadcastInDim S4x16x2048x64 ![] bcast_S_S4x16x2048x64 (constant S_ .f32 0x41000000#32))
/-- One value a position and head, along the selected rows. -/
def along (x : FVec Ideal S4x16x2048 .f32) : FVec Ideal S4x16x2048x64 .f32 :=
  broadcastInDim S4x16x2048x64 ![0, 1, 2, 3] bcast_S4x16x2048x1_S4x16x2048x64_0_1_2_3 (broadcastInDim S4x16x2048x1 ![0, 1, 2] bcast_S4x16x2048_S4x16x2048x1_0_1_2 x)
def largest (s : FVec Ideal S4x16x2048x64 .f32) : FVec Ideal S4x16x2048 .f32 :=
  maximumf (broadcastInDim S4x16x2048 ![] bcast_S_S4x16x2048 (constant S_ .f32 0xFF800000#32))
    (Host.reduce FloatOps.maximumf s (constant S_ .f32 0xFF800000#32) reducesTo_S4x16x2048x64_S4x16x2048_d3 h_S_)
def exps (s : FVec Ideal S4x16x2048x64 .f32) : FVec Ideal S4x16x2048x64 .f32 := Host.exp (subf s (along (largest s)))
/-- The softmax over the selected rows. -/
def soft (s : FVec Ideal S4x16x2048x64 .f32) : FVec Ideal S4x16x2048x64 .f32 :=
  Host.divf (exps s) (along (Host.reduceAdd (exps s) (constant S_ .f32 0x00000000#32) reducesTo_S4x16x2048x64_S4x16x2048_d3 h_S_))
def attended (a : FVec Ideal S4x16x2048x64 .f32) (v : FVec Ideal S4x16x64x64 .f32) : FVec Ideal S4x2048x1024 .f32 :=
  shapeCast S4x2048x1024 (transpose S4x2048x16x64 [0, 2, 1, 3] (Host.dotGeneral dot_S4x16x2048x64_S4x16x64x64_S4x16x2048x64_3_2_2_3_01_01 none a v)
    transposes_S4x16x2048x64_S4x2048x16x64_0_2_1_3) shapeCasts_S4x2048x16x64_S4x2048x1024
def gate (g : FVec Ideal S_ .f32) : FVec Ideal S_ .f32 :=
  Host.divf (constant S_ .f32 0x3F800000#32) (addf (constant S_ .f32 0x3F800000#32) (Host.exp (Host.negf g)))
def updated (h o : FVec Ideal S4x2048x1024 .f32) (g : FVec Ideal S_ .f32) : FVec Ideal S4x2048x1024 .f32 :=
  addf h (mulf (broadcastInDim S4x2048x1024 ![] bcast_S_S4x2048x1024 (gate g)) o)
/-- The mean softmax over positions and heads. -/
def weight (a : FVec Ideal S4x16x2048x64 .f32) : FVec Ideal S4x64 .f32 :=
  Host.divf (Host.reduceAdd a (constant S_ .f32 0x00000000#32) reducesTo_S4x16x2048x64_S4x64_d1_2 h_S_) (broadcastInDim S4x64 ![] bcast_S_S4x64 (constant S_ .f32 0x47000000#32))
/-- Where the weights go: batch row and index. -/
def places (idx : IVec S4x64 32) : IVec S4x64x2 32 :=
  concatenate S4x64x2 2 [⟨S4x64x1, (broadcastInDim S4x64x1 ![0, 1] bcast_S4x64_S4x64x1_0_1 (broadcastInDim S4x64 ![0, 1] bcast_S4x1_S4x64_0_1
      (select (cmpi .slt (broadcastInDim S4x1 ![0] bcast_S4_S4x1_0 (iotaInDim S4 32 0)) (broadcastInDim S4x1 ![] bcast_S_S4x1 (constantI S_ 32 0#32)))
        (addi (broadcastInDim S4x1 ![0] bcast_S4_S4x1_0 (iotaInDim S4 32 0)) (broadcastInDim S4x1 ![] bcast_S_S4x1 (constantI S_ 32 4#32)))
        (broadcastInDim S4x1 ![0] bcast_S4_S4x1_0 (iotaInDim S4 32 0)))))⟩,
    ⟨S4x64x1, (broadcastInDim S4x64x1 ![0, 1] bcast_S4x64_S4x64x1_0_1
      (select (cmpi .slt idx (broadcastInDim S4x64 ![] bcast_S_S4x64 (constantI S_ 32 0#32)))
        (addi idx (broadcastInDim S4x64 ![] bcast_S_S4x64 (constantI S_ 32 8192#32))) idx))⟩] concatenates_S4x64x1_S4x64x1_S4x64x2_d2
def scattered (idx : IVec S4x64 32) (w : FVec Ideal S4x64 .f32) : FVec Ideal S4x8192 .f32 :=
  Host.scatter scatter_S4x8192_S4x64x2_S4x64_n_01_01_2 (fun _ b => b) (broadcastInDim S4x8192 ![] bcast_S_S4x8192 (constant S_ .f32 0x00000000#32)) (places idx) w

/-! ## The results -/

section
variable (m : (ℓ : Loc nD τ sig) → Buf (Elt Ideal) ℓ) (c : Dev nD)

/-- The softmax the run's arguments give. -/
def softOf : FVec Ideal S4x16x2048x64 .f32 :=
  soft (scores (heads (linear (norm (m ((c.tc : Thread nD τ).loc main_arg0)) (m ((c.tc : Thread nD τ).loc main_arg11)) (m ((c.tc : Thread nD τ).loc main_arg12)))
      (m ((c.tc : Thread nD τ).loc main_arg3)) (m ((c.tc : Thread nD τ).loc main_arg4))))
    (project (Take.take (m ((c.tc : Thread nD τ).loc main_arg1)) (m ((c.tc : Thread nD τ).loc main_arg2))) (m ((c.tc : Thread nD τ).loc main_arg5)) (m ((c.tc : Thread nD τ).loc main_arg6))))

set_option maxHeartbeats 1000000 in
theorem result0 : res_main_v74 m c = updated (m ((c.tc : Thread nD τ).loc main_arg0))
    (linear (attended (softOf m c) (project (Take.take (m ((c.tc : Thread nD τ).loc main_arg1)) (m ((c.tc : Thread nD τ).loc main_arg2))) (m ((c.tc : Thread nD τ).loc main_arg7)) (m ((c.tc : Thread nD τ).loc main_arg8))))
      (m ((c.tc : Thread nD τ).loc main_arg9)) (m ((c.tc : Thread nD τ).loc main_arg10))) (m ((c.tc : Thread nD τ).loc main_arg13)) := rfl

set_option maxHeartbeats 1000000 in
theorem result1 : res_main_v95 m c = scattered (m ((c.tc : Thread nD τ).loc main_arg2)) (weight (softOf m c)) := rfl
end

/-! ## At an element -/

theorem norm_at (x : FVec Ideal S4x2048x1024 .f32) (g b : FVec Ideal S1024 .f32) (p : Fin 4) (t : Fin 2048) (i : Fin 1024) :
    norm x g b (ix3 p t i) = Spec.normR (fun i => x (ix3 p t i)) (fun i => g (ix1 i)) (fun i => b (ix1 i)) i := by
  pointwise [norm, centred, spread, mean, row, deviation, Spec.normR, Spec.cen, Spec.var]
theorem linear_at (x : FVec Ideal S4x2048x1024 .f32) (W : FVec Ideal S1024x1024 .f32) (b : FVec Ideal S1024 .f32) (p : Fin 4) (t : Fin 2048) (n : Fin 1024) :
    linear x W b (ix3 p t n) = Spec.lin (fun i => x (ix3 p t i)) (fun n i => W (ix2 n i)) (fun i => b (ix1 i)) n := by
  pointwise [linear, row, Spec.lin]
theorem project_at (x : FVec Ideal S4x64x1024 .f32) (W : FVec Ideal S1024x1024 .f32) (b : FVec Ideal S1024 .f32) (p : Fin 4) (e : Fin 16) (k d : Fin 64) :
    project x W b (ix4 p e k d) = Spec.lin (fun i => x (ix3 p k i)) (fun n i => W (ix2 n i)) (fun i => b (ix1 i)) (Spec.col e d) := by
  pointwise [project, Spec.lin, Spec.col]
theorem heads_at (x : FVec Ideal S4x2048x1024 .f32) (p : Fin 4) (e : Fin 16) (t : Fin 2048) (d : Fin 64) :
    heads x (ix4 p e t d) = x (ix3 p t (Spec.col e d)) := by
  pointwise [heads, Spec.col]
theorem scores_at (q : FVec Ideal S4x16x2048x64 .f32) (k : FVec Ideal S4x16x64x64 .f32) (p : Fin 4) (e : Fin 16) (t : Fin 2048) (j : Fin 64) :
    scores q k (ix4 p e t j) = Ideal.div (∑ d, q (ix4 p e t d) * k (ix4 p e j d)) (Ideal.ofBits .f32 1090519040#32) := by
  pointwise [scores]
theorem soft_at (s : FVec Ideal S4x16x2048x64 .f32) (p : Fin 4) (e : Fin 16) (t : Fin 2048) (k : Fin 64) :
    soft s (ix4 p e t k) = Ideal.div (Ideal.exp (s (ix4 p e t k) - largest s (ix3 p e t))) (∑ j, Ideal.exp (s (ix4 p e t j) - largest s (ix3 p e t))) := by
  pointwise [soft, exps, along]

/-- A maximum folded over reals, begun below them, is a real once one is folded. -/
theorem foldl_real {α : Type} (f : α → EReal) (hf : ∀ n, ∃ r : ℝ, f n = r) (l : List α) (a : EReal) (ha : a = ⊥ ∨ ∃ r : ℝ, a = r) :
    (l.foldl (fun r n => max r (f n)) a = ⊥ ∧ l = []) ∨ ∃ r : ℝ, l.foldl (fun r n => max r (f n)) a = r := by
  induction l generalizing a with
  | nil => rcases ha with h | h; exacts [.inl ⟨h, rfl⟩, .inr h]
  | cons x l ih =>
    obtain ⟨v, hv⟩ := hf x
    have hm : ∃ r : ℝ, max a (f x) = r := by
      rcases ha with rfl | ⟨r, rfl⟩
      · exact ⟨v, by rw [hv]; exact max_eq_right bot_le⟩
      · rw [hv]
        rcases le_total (r : EReal) v with h | h
        · exact ⟨v, max_eq_right h⟩
        · exact ⟨r, max_eq_left h⟩
    rcases ih (max a (f x)) (.inr hm) with ⟨_, rfl⟩ | h
    · exact .inr hm
    · exact .inr h

/-- So a maximum along some axes, of reals, begun below them, is a real. -/
theorem reduce_real {s t u : Shape} {axes : List (Fin s.rank)} (x : FVec Ideal s .f32) (hx : ∀ i, ∃ r : ℝ, x i = r) (init : FVec Ideal u .f32)
    (h : s.ReducesTo axes t) (hu : 0 < u.numel) (hi : init (Shape.Idx.first hu) = ⊥) (j : t.Idx) (i : s.Idx) (hj : h.drop i = j) :
    ∃ r : ℝ, (Host.reduce FloatOps.maximumf x init h hu : FVec Ideal t .f32) j = r := by
  unfold Host.reduce
  rcases foldl_real (fun n => x (s.rowMajor.symm n)) (fun n => hx _) ((List.finRange s.numel).filter fun n => h.drop (s.rowMajor.symm n) = j) _ (.inl hi) with ⟨_, h0⟩ | h0
  · exact absurd (List.filter_eq_nil_iff.1 h0 (s.rowMajor i) (List.mem_finRange _)) (by simp [hj])
  · exact h0

/-- The largest score is a real number where the scores are. -/
theorem largest_real (s : FVec Ideal S4x16x2048x64 .f32) (hs : ∀ i, ∃ r : ℝ, s i = r) (p : Fin 4) (hd : Fin 16) (t : Fin 2048) :
    ∃ r : ℝ, largest s (ix3 p hd t) = r := by
  have hb : (FloatOps.ofBits (F := Ideal) .f32 0xFF800000#32 : EReal) = ⊥ := by simp [Ideal.ofBits, Ideal.ieee]
  obtain ⟨r, hr⟩ := reduce_real s hs (constant S_ .f32 0xFF800000#32) reducesTo_S4x16x2048x64_S4x16x2048_d3 h_S_ hb (ix3 p hd t) (ix4 p hd t 0) (by
    funext x
    match x with
    | 0 => exact Fin.ext rfl
    | 1 => exact Fin.ext rfl
    | 2 => exact Fin.ext rfl)
  refine ⟨r, ?_⟩
  unfold largest
  rw [show ∀ (a b : FVec Ideal S4x16x2048 .f32) i, maximumf a b i = max (a i) (b i) from fun _ _ _ => rfl, hr]
  exact (congrArg (max · _) hb).trans (max_eq_right bot_le)
theorem attended_at (a : FVec Ideal S4x16x2048x64 .f32) (v : FVec Ideal S4x16x64x64 .f32) (p : Fin 4) (t : Fin 2048) (e : Fin 16) (d : Fin 64) :
    attended a v (ix3 p t (Spec.col e d)) = ∑ k, a (ix4 p e t k) * v (ix4 p e k d) := by
  have h : ∀ i : Fin 1024, attended a v (ix3 p t i)
      = ∑ k, a (ix4 p ⟨i.val / 64, by omega⟩ t k) * v (ix4 p ⟨i.val / 64, by omega⟩ k ⟨i.val % 64, Nat.mod_lt _ (by decide)⟩) := fun i => by pointwise [attended]
  rw [h, show (⟨(Spec.col e d).val / 64, by omega⟩ : Fin 16) = e from Fin.ext (by show (e.val * 64 + d.val) / 64 = e.val; omega),
    show (⟨(Spec.col e d).val % 64, Nat.mod_lt _ (by decide)⟩ : Fin 64) = d from Fin.ext (by show (e.val * 64 + d.val) % 64 = d.val; omega)]
theorem updated_at (h o : FVec Ideal S4x2048x1024 .f32) (g : FVec Ideal S_ .f32) (p : Fin 4) (t : Fin 2048) (i : Fin 1024) :
    updated h o g (ix3 p t i) = h (ix3 p t i) + Ideal.div 1 (1 + Ideal.exp (-g ix0)) * o (ix3 p t i) := by
  pointwise [updated, gate]
theorem sum_heads_positions (a : FVec Ideal S4x16x2048x64 .f32) (p : Fin 4) (k : Fin 64) :
    Ideal.hostReduceAdd reducesTo_S4x16x2048x64_S4x64_d1_2 a 0 (ix2 p k) = ∑ hd : Fin 16, ∑ t : Fin 2048, a (ix4 p hd t k) := by
  unfold Ideal.hostReduceAdd
  rw [zero_add, Finset.sum_filter]
  have hd : ∀ (a : Fin 4) (b : Fin 16) (c : Fin 2048) (d : Fin 64), (reducesTo_S4x16x2048x64_S4x64_d1_2).drop (ix4 a b c d) = (ix2 a d : S4x64.Idx) := fun a b c d => by
    funext x
    match x with
    | 0 => exact Fin.ext rfl
    | 1 => exact Fin.ext rfl
  rw [sum_idx4]
  simp only [hd, ix2_inj]
  simp only [ite_and, Finset.sum_ite_eq', Finset.sum_ite_irrel, Finset.sum_const_zero, Finset.mem_univ, if_true]

theorem weight_at (a : FVec Ideal S4x16x2048x64 .f32) (p : Fin 4) (k : Fin 64) :
    weight a (ix2 p k) = Ideal.div (∑ hd : Fin 16, ∑ t : Fin 2048, a (ix4 p hd t k)) (Ideal.ofBits .f32 0x47000000#32) := by
  pointwise [weight, sum_heads_positions]
theorem places_at (idx : IVec S4x64 32) (hidx : ∀ i, (idx i).toNat < 8192) (p : Fin 4) (k : Fin 64) :
    places idx (ix3 p k 0) = BitVec.ofNat 32 p.val ∧ places idx (ix3 p k 1) = idx (ix2 p k) := by
  constructor
  · pointwise [places]
    revert p; decide
  · pointwise [places]
    rw [Take.not_neg (hidx _)]; rfl

end Cert.Proof.RefValue
end
-- ==== Proof.Frames.lean ====
/-
  The programs' frames: each runs to its end with its arguments as they were and every semaphore at zero.
-/
module

public import proofs.«01_k».proof.Defs
public import proofs.«01_k».proof.Proof.Gen.Kernel
public import proofs.«01_k».proof.Proof.Gen.Kernel.Skeleton
public import proofs.«01_k».proof.Proof.Kept
public import proofs.«01_k».proof.Proof.HostValue
public import proofs.«01_k».proof.Proof.Pre
public import proofs.«01_k».proof.Proof.RefValue
public import Idealize.ShloMosaic.Adequacy
public import Idealize.ShloMosaic.Init

@[expose] public section

noncomputable section

namespace Cert.Proof.Frames

open Idealize.ShloMosaic Idealize.SL.Sem
open Cert.KernelIdeal Cert.KernelIdeal.Gen

variable {F : FTy → Type} [FloatOps F] [∀ e, Nonempty (Elt F e)]

/-- The list the gather reads names rows of the table where the array of indices does. -/
theorem list_in_range (m : (ℓ : Loc nD τ sig) → Buf (Elt F) ℓ) (h : ∀ (d : Dev nD) (p : Fin 4) (k : Fin 64), ((m ((d.tc : Thread nD τ).loc main_arg2) : IVec S4x64 32) (ix2 p k)).toNat < 8192)
    (d : Dev nD) (j : S256.Idx) : (Run.list m d j).toNat < 8192 := by
  have e : Run.list m d j = (m ((d.tc : Thread nD τ).loc main_arg2) : IVec S4x64 32) (ix2 ⟨(j 0).val / 64, by have : (j 0).val < 256 := (j 0).isLt; omega⟩ ⟨(j 0).val % 64, Nat.mod_lt _ (by decide)⟩) := by
    idx_vars j
    exact HostValue.list_at (Run.V₀ m d) j0
  rw [e]
  exact h _ _ _

/-- A buffer no step writes, at a final state. -/
theorem kept_at (m : (ℓ : Loc nD τ sig) → Buf (Elt F) ℓ) (r) (h : Run.QC m r) (c : Dev nD) (b : Ref sig .tc) (hu : (Proc.devRef .tc b : DevRef τ sig) ∈ Pipeline.ucRefs τ sig)
    (h1 : b ∉ Kept.written) (h2 : b ∉ Kept.early) : r.2.mem ((c.tc : Thread nD τ).loc b) = m ((c.tc : Thread nD τ).loc b) :=
  (h.1 c _ hu).trans (Kept.same m c b h1 h2)

/-- From a memory whose indices are in range, a run ends with the arguments kept and every semaphore at zero. -/
theorem kept_args {F : FTy → Type} [FloatOps F] [∀ e, Nonempty (Elt F e)] (m : (ℓ : Loc nD τ sig) → Buf (Elt F) ℓ) (ρ : Dev nD → PrngReg)
    (hr : ∀ (d : Dev nD) (p : Fin 4) (k : Fin 64), ((m ((d.tc : Thread nD τ).loc main_arg2) : S4x64.Idx → BitVec 32) (ix2 p k)).toNat < 8192) :
    θ_run (defs (F := F)) (threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun r h => ⟨fun c => by
      refine ⟨?_, ?_, ?_, ?_, ?_, ?_, ?_, ?_, ?_, ?_, ?_, ?_, ?_, ?_⟩ <;> exact kept_at m r h c _ (by decide) (by decide) (by decide), h.2⟩)
    (Run.run_main (F := F) m ρ (list_in_range m hr))

theorem frame_kernelIdeal : Cert.quiescent_KernelIdeal := fun m ρ hpre =>
  kept_args (F := Ideal) m ρ fun d => Pre.in_range _ _ _ _ _ _ _ _ _ _ _ _ _ _ (hpre d)

theorem frame_kernelIdeal_selected : Cert.quiescent_KernelIdeal_pre_selected := fun m ρ hpre =>
  kept_args (F := Ideal) m ρ fun d => (Pre.selected _ _ _ _ _ _ _ _ _ _ _ _ _ _ (hpre d)).range

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_reference_selected : Cert.quiescent_ReferenceIdeal_pre_selected := fun m ρ _ =>
  (θ_run Cert.ReferenceIdeal.defs _ _).mono (fun r h => ⟨fun c => (h c).2.2, sem_eq_zero_of_no_sems (by decide) r.2⟩)
    (Cert.ReferenceIdeal.Value.run (F := Ideal) m ρ)

end Cert.Proof.Frames
end
-- ==== Proof.FrameKernel.lean ====
/-
  The kernel's own frame, over the floats: its run is its idealization's.
-/
module

public import proofs.«01_k».proof.Proof.TwinMain
public import proofs.«01_k».proof.Proof.Frames

@[expose] public section

noncomputable section

namespace Cert.Proof.FrameKernel

open Idealize.ShloMosaic Idealize.SL.Sem

set_option maxHeartbeats 0 in
theorem frame_kernel : Cert.quiescent_Kernel := fun m ρ hpre =>
  Twin.run_of_eq Twin.defs_eq Twin.threads_eq _ _ (Frames.kept_args (F := Bits) m ρ fun d => Pre.in_range _ _ _ _ _ _ _ _ _ _ _ _ _ _ (hpre d))

end Cert.Proof.FrameKernel
end
-- ==== Proof.Arrays.lean ====
/-
  The pipelined kernels' blocks as pieces of their arrays, and each result array from the blocks the grid writes.
-/
module

public import proofs.«01_k».proof.Proof.Region
public import Idealize.ShloMosaic.Lib.Pointwise

@[expose] public section

noncomputable section

namespace Cert.Proof.Arrays

open Cert.KernelIdeal Cert.KernelIdeal.Gen Cert.Proof.Dats
open Idealize.ShloMosaic Idealize.ShloMosaic.TcCoe
open Idealize.ShloMosaic.Pipeline (Dat arrRef)

variable {F : FTy → Type} [FloatOps F] [∀ e, Nonempty (Elt F e)]
variable (bd : ℕ) (V : Dev nD → Valuation τ sig (Elt F)) (c : Dev nD)

/-- A device's buffer at a valuation. -/
abbrev at' (b : Ref sig .tc) := V c (Proc.devRef .tc b)

/-! ## Blocks that are whole arrays -/

theorem whole1_0 (t : Fin cfg1.N) : blk V cfg1 c 0 t = at' V c main_v21 :=
  have hz : (fun a => win1_0.index t a * main_v21.ty.shape.size a) = fun _ => 0 := funext fun a => by fin_cases a <;> rfl
  Memref.read_access_unit_zero (Elt F) main_v21 hz (fun a => by rw [congrFun hz a]; simp) _
theorem whole1_1 (t : Fin cfg1.N) : blk V cfg1 c 1 t = at' V c main_v9 :=
  have hz : (fun a => win1_1.index t a * main_v9.ty.shape.size a) = fun _ => 0 := funext fun a => by fin_cases a <;> rfl
  Memref.read_access_unit_zero (Elt F) main_v9 hz (fun a => by rw [congrFun hz a]; simp) _
theorem whole1_2 (t : Fin cfg1.N) : blk V cfg1 c 2 t = at' V c main_v4 :=
  have hz : (fun a => win1_2.index t a * main_v4.ty.shape.size a) = fun _ => 0 := funext fun a => by fin_cases a <;> rfl
  Memref.read_access_unit_zero (Elt F) main_v4 hz (fun a => by rw [congrFun hz a]; simp) _
theorem whole1_3 (t : Fin cfg1.N) : blk V cfg1 c 3 t = at' V c main_v10 :=
  have hz : (fun a => win1_3.index t a * main_v10.ty.shape.size a) = fun _ => 0 := funext fun a => by fin_cases a <;> rfl
  Memref.read_access_unit_zero (Elt F) main_v10 hz (fun a => by rw [congrFun hz a]; simp) _
theorem whole1_4 (t : Fin cfg1.N) : blk V cfg1 c 4 t = at' V c main_v5 :=
  have hz : (fun a => win1_4.index t a * main_v5.ty.shape.size a) = fun _ => 0 := funext fun a => by fin_cases a <;> rfl
  Memref.read_access_unit_zero (Elt F) main_v5 hz (fun a => by rw [congrFun hz a]; simp) _
theorem whole1_5 (t : Fin cfg1.N) : blk V cfg1 c 5 t = at' V c main_v18 :=
  have hz : (fun a => win1_5.index t a * main_v18.ty.shape.size a) = fun _ => 0 := funext fun a => by fin_cases a <;> rfl
  Memref.read_access_unit_zero (Elt F) main_v18 hz (fun a => by rw [congrFun hz a]; simp) _
theorem whole2_3 (t : Fin cfg2.N) : blk V cfg2 c 3 t = at' V c main_v18 :=
  have hz : (fun a => win2_3.index t a * main_v18.ty.shape.size a) = fun _ => 0 := funext fun a => by fin_cases a <;> rfl
  Memref.read_access_unit_zero (Elt F) main_v18 hz (fun a => by rw [congrFun hz a]; simp) _
theorem whole2_4 (t : Fin cfg2.N) : blk V cfg2 c 4 t = at' V c main_v19 :=
  have hz : (fun a => win2_4.index t a * main_v19.ty.shape.size a) = fun _ => 0 := funext fun a => by fin_cases a <;> rfl
  Memref.read_access_unit_zero (Elt F) main_v19 hz (fun a => by rw [congrFun hz a]; simp) _
theorem whole2_5 (t : Fin cfg2.N) : blk V cfg2 c 5 t = at' V c main_v7 :=
  have hz : (fun a => win2_5.index t a * main_v7.ty.shape.size a) = fun _ => 0 := funext fun a => by fin_cases a <;> rfl
  Memref.read_access_unit_zero (Elt F) main_v7 hz (fun a => by rw [congrFun hz a]; simp) _
theorem whole2_6 (t : Fin cfg2.N) : blk V cfg2 c 6 t = at' V c main_v2 :=
  have hz : (fun a => win2_6.index t a * main_v2.ty.shape.size a) = fun _ => 0 := funext fun a => by fin_cases a <;> rfl
  Memref.read_access_unit_zero (Elt F) main_v2 hz (fun a => by rw [congrFun hz a]; simp) _
theorem whole2_7 (t : Fin cfg2.N) : blk V cfg2 c 7 t = at' V c main_v8 :=
  have hz : (fun a => win2_7.index t a * main_v8.ty.shape.size a) = fun _ => 0 := funext fun a => by fin_cases a <;> rfl
  Memref.read_access_unit_zero (Elt F) main_v8 hz (fun a => by rw [congrFun hz a]; simp) _
theorem whole2_8 (t : Fin cfg2.N) : blk V cfg2 c 8 t = at' V c main_v3 :=
  have hz : (fun a => win2_8.index t a * main_v3.ty.shape.size a) = fun _ => 0 := funext fun a => by fin_cases a <;> rfl
  Memref.read_access_unit_zero (Elt F) main_v3 hz (fun a => by rw [congrFun hz a]; simp) _
theorem whole2_9 (t : Fin cfg2.N) : blk V cfg2 c 9 t = at' V c main_v0 :=
  have hz : (fun a => win2_9.index t a * main_v0.ty.shape.size a) = fun _ => 0 := funext fun a => by fin_cases a <;> rfl
  Memref.read_access_unit_zero (Elt F) main_v0 hz (fun a => by rw [congrFun hz a]; simp) _
theorem whole2_10 (t : Fin cfg2.N) : blk V cfg2 c 10 t = at' V c main_v1 :=
  have hz : (fun a => win2_10.index t a * main_v1.ty.shape.size a) = fun _ => 0 := funext fun a => by fin_cases a <;> rfl
  Memref.read_access_unit_zero (Elt F) main_v1 hz (fun a => by rw [congrFun hz a]; simp) _
theorem whole2_11 (t : Fin cfg2.N) : blk V cfg2 c 11 t = at' V c main_v6 :=
  have hz : (fun a => win2_11.index t a * main_v6.ty.shape.size a) = fun _ => 0 := funext fun a => by fin_cases a <;> rfl
  Memref.read_access_unit_zero (Elt F) main_v6 hz (fun a => by rw [congrFun hz a]; simp) _
theorem whole3_0 (t : Fin cfg3.N) : blk V cfg3 c 0 t = at' V c main_arg2 :=
  have hz : (fun a => win3_0.index t a * main_arg2.ty.shape.size a) = fun _ => 0 := funext fun a => by fin_cases a <;> rfl
  Memref.read_access_unit_zero (Elt F) main_arg2 hz (fun a => by rw [congrFun hz a]; simp) _
theorem whole3_1 (t : Fin cfg3.N) : blk V cfg3 c 1 t = at' V c main_v24 :=
  have hz : (fun a => win3_1.index t a * main_v24.ty.shape.size a) = fun _ => 0 := funext fun a => by fin_cases a <;> rfl
  Memref.read_access_unit_zero (Elt F) main_v24 hz (fun a => by rw [congrFun hz a]; simp) _

/-! ## Blocks of a batch row -/

/-- Tile `u` of batch row `b`. -/
abbrev pt (b u : Fin 4) : Fin cfg2.N := ⟨4 * b.val + u.val, by rw [show cfg2.N = 16 from N_2]; omega⟩

theorem index2_0 : ∀ b u : Fin 4, win2_0.index (pt b u) 0 = b.val ∧ win2_0.index (pt b u) 1 = u.val ∧ win2_0.index (pt b u) 2 = 0 := by decide
theorem block2_0 (b u : Fin 4) (a : Fin 512) (i : Fin 1024) :
    (blk V cfg2 c 0 (pt b u) : S1x512x1024.Idx → Elt F .f32) (ix3 0 a i) = (at' V c main_arg0 : S4x2048x1024.Idx → Elt F .f32) (ix3 b ⟨512 * u.val + a.val, by omega⟩ i) := by
  show (at' V c main_arg0 : S4x2048x1024.Idx → Elt F .f32) (((cfg2.win 0).blk (pt b u)).view.emb _) = _
  refine congrArg _ (funext fun x => Fin.ext ?_)
  obtain ⟨h0, h1, h2⟩ := index2_0 b u
  match x with
  | 0 => show win2_0.index (pt b u) 0 * 1 + 1 * 0 = b.val; omega
  | 1 => show win2_0.index (pt b u) 1 * 512 + 1 * a.val = 512 * u.val + a.val; omega
  | 2 => show win2_0.index (pt b u) 2 * 1024 + 1 * i.val = i.val; omega

theorem index2_1 : ∀ b u : Fin 4, win2_1.index (pt b u) 0 = b.val ∧ win2_1.index (pt b u) 1 = 0 ∧ win2_1.index (pt b u) 2 = 0 := by decide
theorem index2_2 : ∀ b u : Fin 4, win2_2.index (pt b u) 0 = b.val ∧ win2_2.index (pt b u) 1 = 0 ∧ win2_2.index (pt b u) 2 = 0 := by decide
theorem index2_12 : ∀ b u : Fin 4, win2_12.index (pt b u) 0 = b.val ∧ win2_12.index (pt b u) 1 = u.val ∧ win2_12.index (pt b u) 2 = 0 := by decide
theorem index2_13 : ∀ b u : Fin 4, win2_13.index (pt b u) 0 = b.val ∧ win2_13.index (pt b u) 1 = 0 ∧ win2_13.index (pt b u) 2 = 0 := by decide

theorem block2_1 (b u : Fin 4) (r i : Fin 1024) :
    (blk V cfg2 c 1 (pt b u) : S1x1024x1024.Idx → Elt F .bf16) (ix3 0 r i) = (at' V c main_v22_0 : S4x1024x1024.Idx → Elt F .bf16) (ix3 b r i) := by
  show (at' V c main_v22_0 : S4x1024x1024.Idx → Elt F .bf16) (((cfg2.win 1).blk (pt b u)).view.emb _) = _
  refine congrArg _ (funext fun x => Fin.ext ?_)
  obtain ⟨h0, h1, h2⟩ := index2_1 b u
  match x with
  | 0 => show win2_1.index (pt b u) 0 * 1 + 1 * 0 = b.val; omega
  | 1 => show win2_1.index (pt b u) 1 * 1024 + 1 * r.val = r.val; omega
  | 2 => show win2_1.index (pt b u) 2 * 1024 + 1 * i.val = i.val; omega

theorem block2_2 (b u : Fin 4) (r i : Fin 1024) :
    (blk V cfg2 c 2 (pt b u) : S1x1024x1024.Idx → Elt F .bf16) (ix3 0 r i) = (at' V c main_v22_1 : S4x1024x1024.Idx → Elt F .bf16) (ix3 b r i) := by
  show (at' V c main_v22_1 : S4x1024x1024.Idx → Elt F .bf16) (((cfg2.win 2).blk (pt b u)).view.emb _) = _
  refine congrArg _ (funext fun x => Fin.ext ?_)
  obtain ⟨h0, h1, h2⟩ := index2_2 b u
  match x with
  | 0 => show win2_2.index (pt b u) 0 * 1 + 1 * 0 = b.val; omega
  | 1 => show win2_2.index (pt b u) 1 * 1024 + 1 * r.val = r.val; omega
  | 2 => show win2_2.index (pt b u) 2 * 1024 + 1 * i.val = i.val; omega

/-! ## The result arrays -/

theorem pt_surj (t : Fin cfg2.N) : ∃ b u : Fin 4, t = pt b u := by
  have h : t.val < 16 := lt_of_lt_of_eq t.isLt N_2
  exact ⟨⟨t.val / 4, by omega⟩, ⟨t.val % 4, by omega⟩, Fin.ext (by show t.val = 4 * (t.val / 4) + t.val % 4; omega)⟩

/-- The keys' array: what the one point leaves. -/
theorem final1_6 : (dat1 bd V c).arrAt 6 cfg1.N
    = KvBody.kOut (at' V c main_v21) (at' V c main_v9) (at' V c main_v4) (at' V c main_v18) := by
  have hz : (fun a => win1_6.index t1_0 a * main_v22_0.ty.shape.size a) = fun _ => 0 := funext fun a => by fin_cases a <;> rfl
  refine (dat1 bd V c).arrAt_eq_of_cover 6 _ (fun t _ => ?_) fun i => ⟨t1_0, flush1_6 t1_0, ?_⟩
  · obtain rfl : t = t1_0 := fin_N1 t
    show (cfg1.win 6).cut (grid1.coords t1_0) ((dat1 bd V c).after 6 t1_0) = _
    rw [after1_6, whole1_0, whole1_1, whole1_2, whole1_5]
    exact (Memref.read_access_unit_zero (Elt F) main_v22_0 hz (fun a => by rw [congrFun hz a]; simp) _).symm
  · show i ∈ ((View.whole main_v22_0).slice (win1_6.rect t1_0)).set
    rw [View.set_slice_whole, Rect.mem_set_unit]
    intro a
    have h := (i a).isLt
    match a with
    | ⟨0, _⟩ => exact ⟨Nat.zero_le _, h⟩
    | ⟨1, _⟩ => exact ⟨Nat.zero_le _, h⟩
    | ⟨2, _⟩ => exact ⟨Nat.zero_le _, h⟩

/-- The values' array: what the one point leaves. -/
theorem final1_7 : (dat1 bd V c).arrAt 7 cfg1.N
    = KvBody.vOut (at' V c main_v21) (at' V c main_v10) (at' V c main_v5) (at' V c main_v18) := by
  have hz : (fun a => win1_7.index t1_0 a * main_v22_1.ty.shape.size a) = fun _ => 0 := funext fun a => by fin_cases a <;> rfl
  refine (dat1 bd V c).arrAt_eq_of_cover 7 _ (fun t _ => ?_) fun i => ⟨t1_0, flush1_7 t1_0, ?_⟩
  · obtain rfl : t = t1_0 := fin_N1 t
    show (cfg1.win 7).cut (grid1.coords t1_0) ((dat1 bd V c).after 7 t1_0) = _
    rw [after1_7, whole1_0, whole1_3, whole1_4, whole1_5]
    exact (Memref.read_access_unit_zero (Elt F) main_v22_1 hz (fun a => by rw [congrFun hz a]; simp) _).symm
  · show i ∈ ((View.whole main_v22_1).slice (win1_7.rect t1_0)).set
    rw [View.set_slice_whole, Rect.mem_set_unit]
    intro a
    have h := (i a).isLt
    match a with
    | ⟨0, _⟩ => exact ⟨Nat.zero_le _, h⟩
    | ⟨1, _⟩ => exact ⟨Nat.zero_le _, h⟩
    | ⟨2, _⟩ => exact ⟨Nat.zero_le _, h⟩

/-- The updated activations' array: `G`, if each point's tile is `G`'s. -/
theorem final2_12 (G : S4x2048x1024.Idx → Elt F .f32)
    (hG : ∀ (b u : Fin 4) (a : Fin 512) (i : Fin 1024), ((dat2 bd V c).after 12 (pt b u) : S1x512x1024.Idx → Elt F .f32) (ix3 0 a i) = G (ix3 b ⟨512 * u.val + a.val, by omega⟩ i)) :
    (dat2 bd V c).arrAt 12 cfg2.N = (G : Buf (Elt F) ((cfg2.win 12).arr.view.loc (c.tc : Thread nD τ))) := by
  refine (dat2 bd V c).arrAt_eq_of_cover 12 _ (fun t _ => ?_) fun i => ?_
  · obtain ⟨b, u, rfl⟩ := pt_surj t
    refine funext fun (j : S1x512x1024.Idx) => ?_
    idx_vars j
    obtain rfl : j0 = 0 := Subsingleton.elim _ _
    refine (hG b u j1 j2).trans ?_
    show _ = G (((cfg2.win 12).blk (pt b u)).view.emb _)
    refine congrArg _ (funext fun x => Fin.ext ?_)
    obtain ⟨h0, h1, h2⟩ := index2_12 b u
    match x with
    | 0 => show b.val = win2_12.index (pt b u) 0 * 1 + 1 * 0; omega
    | 1 => show 512 * u.val + j1.val = win2_12.index (pt b u) 1 * 512 + 1 * j1.val; omega
    | 2 => show j2.val = win2_12.index (pt b u) 2 * 1024 + 1 * j2.val; omega
  · have e0 : (i 0 : Nat) < 4 := (i 0).isLt
    have e1 : (i 1 : Nat) < 2048 := (i 1).isLt
    have e2 : (i 2 : Nat) < 1024 := (i 2).isLt
    obtain ⟨b, hb⟩ : ∃ b : Fin 4, b.val = (i 0 : Nat) := ⟨⟨(i 0).val, e0⟩, rfl⟩
    obtain ⟨u, hu⟩ : ∃ u : Fin 4, u.val = (i 1 : Nat) / 512 := ⟨⟨(i 1).val / 512, by omega⟩, rfl⟩
    refine ⟨pt b u, flush2_12 _, ?_⟩
    obtain ⟨h0, h1, h2⟩ := index2_12 b u
    show i ∈ ((View.whole main_v23_0).slice (win2_12.rect (pt b u))).set
    rw [View.set_slice_whole, Rect.mem_set_unit]
    intro a
    match a with
    | ⟨0, _⟩ => show win2_12.index _ 0 * 1 ≤ (i 0 : Nat) ∧ (i 0 : Nat) < win2_12.index _ 0 * 1 + 1; rw [h0]; omega
    | ⟨1, _⟩ => show win2_12.index _ 1 * 512 ≤ (i 1 : Nat) ∧ (i 1 : Nat) < win2_12.index _ 1 * 512 + 512; rw [h1]; omega
    | ⟨2, _⟩ => show win2_12.index _ 2 * 1024 ≤ (i 2 : Nat) ∧ (i 2 : Nat) < win2_12.index _ 2 * 1024 + 1024; rw [h2]; omega

/-- The collected masses' array: `G`, if what each batch row's last tile leaves is `G`'s. -/
theorem final2_13 (G : S4x1x64.Idx → Elt F .f32)
    (hG : ∀ (b : Fin 4) (k : Fin 64), (collected V c (pt b 3).val (pt b 3).isLt : S1x1x64.Idx → Elt F .f32) (ix3 0 0 k) = G (ix3 b 0 k)) :
    (dat2 bd V c).arrAt 13 cfg2.N = (G : Buf (Elt F) ((cfg2.win 13).arr.view.loc (c.tc : Thread nD τ))) := by
  refine (dat2 bd V c).arrAt_eq_of_cover 13 _ (fun t ht => ?_) fun i => ?_
  · obtain ⟨b, u, rfl⟩ := pt_surj t
    obtain rfl : u = 3 := Fin.ext (by
      have h : (4 * b.val + u.val) % 4 = 3 := (flush2_13 (pt b u)).mp ht
      have hu := u.isLt
      show u.val = 3
      omega)
    refine funext fun (j : S1x1x64.Idx) => ?_
    idx_vars j
    obtain rfl : j0 = 0 := Subsingleton.elim _ _
    obtain rfl : j1 = 0 := Subsingleton.elim _ _
    refine (hG b j2).trans ?_
    show _ = G (((cfg2.win 13).blk (pt b 3)).view.emb _)
    refine congrArg _ (funext fun x => Fin.ext ?_)
    obtain ⟨h0, h1, h2⟩ := index2_13 b 3
    match x with
    | 0 => show b.val = win2_13.index (pt b 3) 0 * 1 + 1 * 0; omega
    | 1 => show 0 = win2_13.index (pt b 3) 1 * 1 + 1 * 0; omega
    | 2 => show j2.val = win2_13.index (pt b 3) 2 * 64 + 1 * j2.val; omega
  · have e0 : (i 0 : Nat) < 4 := (i 0).isLt
    have e1 : (i 1 : Nat) < 1 := (i 1).isLt
    have e2 : (i 2 : Nat) < 64 := (i 2).isLt
    obtain ⟨b, hb⟩ : ∃ b : Fin 4, b.val = (i 0 : Nat) := ⟨⟨(i 0).val, e0⟩, rfl⟩
    refine ⟨pt b 3, (flush2_13 _).mpr (by show (4 * b.val + 3) % 4 = 3; omega), ?_⟩
    obtain ⟨h0, h1, h2⟩ := index2_13 b 3
    show i ∈ ((View.whole main_v23_1).slice (win2_13.rect (pt b 3))).set
    rw [View.set_slice_whole, Rect.mem_set_unit]
    intro a
    match a with
    | ⟨0, _⟩ => show win2_13.index _ 0 * 1 ≤ (i 0 : Nat) ∧ (i 0 : Nat) < win2_13.index _ 0 * 1 + 1; rw [h0]; omega
    | ⟨1, _⟩ => show win2_13.index _ 1 * 1 ≤ (i 1 : Nat) ∧ (i 1 : Nat) < win2_13.index _ 1 * 1 + 1; rw [h1]; omega
    | ⟨2, _⟩ => show win2_13.index _ 2 * 64 ≤ (i 2 : Nat) ∧ (i 2 : Nat) < win2_13.index _ 2 * 64 + 64; rw [h2]; omega

/-- The scatter's point for batch row `b`. -/
abbrev pr (b : Fin 4) : Fin cfg3.N := ⟨b.val, by rw [show cfg3.N = 4 from N_3]; omega⟩

theorem coord_pr : ∀ b : Fin 4, (grid3.coords (pr b) 0).val = b.val := by decide
theorem index3_2 : ∀ b : Fin 4, win3_2.index (pr b) 0 = b.val ∧ win3_2.index (pr b) 1 = 0 ∧ win3_2.index (pr b) 2 = 0 := by decide

/-- The scattered weights' array: `G`, if what each batch row's point leaves is `G`'s. -/
theorem final3_2 (G : S4x1x8192.Idx → Elt F .f32)
    (hG : ∀ (b : Fin 4) (n : Fin 8192), (ScatterBody.out (at' V c main_arg2) (at' V c main_v24) (grid3.coords (pr b)) : S1x1x8192.Idx → Elt F .f32) (ix3 0 0 n) = G (ix3 b 0 n)) :
    (dat3 bd V c).arrAt 2 cfg3.N = (G : Buf (Elt F) ((cfg3.win 2).arr.view.loc (c.tc : Thread nD τ))) := by
  refine (dat3 bd V c).arrAt_eq_of_cover 2 _ (fun t ht => ?_) fun i => ?_
  · obtain ⟨b, rfl⟩ : ∃ b : Fin 4, t = pr b := ⟨⟨t.val, lt_of_lt_of_eq t.isLt N_3⟩, rfl⟩
    have hb : (dat3 bd V c).after 2 (pr b) = ScatterBody.out (at' V c main_arg2) (at' V c main_v24) (grid3.coords (pr b)) := by
      show ScatterBody.out (blk V cfg3 c 0 (pr b)) (blk V cfg3 c 1 (pr b)) (grid3.coords (pr b)) = _
      rw [whole3_0, whole3_1]
    refine funext fun (j : S1x1x8192.Idx) => ?_
    idx_vars j
    obtain rfl : j0 = 0 := Subsingleton.elim _ _
    obtain rfl : j1 = 0 := Subsingleton.elim _ _
    refine (congrFun hb _).trans ((hG b j2).trans ?_)
    show _ = G (((cfg3.win 2).blk (pr b)).view.emb _)
    refine congrArg _ (funext fun x => Fin.ext ?_)
    obtain ⟨h0, h1, h2⟩ := index3_2 b
    match x with
    | 0 => show b.val = win3_2.index (pr b) 0 * 1 + 1 * 0; omega
    | 1 => show 0 = win3_2.index (pr b) 1 * 1 + 1 * 0; omega
    | 2 => show j2.val = win3_2.index (pr b) 2 * 8192 + 1 * j2.val; omega
  · have e0 : (i 0 : Nat) < 4 := (i 0).isLt
    have e1 : (i 1 : Nat) < 1 := (i 1).isLt
    have e2 : (i 2 : Nat) < 8192 := (i 2).isLt
    obtain ⟨b, hb⟩ : ∃ b : Fin 4, b.val = (i 0 : Nat) := ⟨⟨(i 0).val, e0⟩, rfl⟩
    refine ⟨pr b, flush3_2 _, ?_⟩
    obtain ⟨h0, h1, h2⟩ := index3_2 b
    show i ∈ ((View.whole main_v25).slice (win3_2.rect (pr b))).set
    rw [View.set_slice_whole, Rect.mem_set_unit]
    intro a
    match a with
    | ⟨0, _⟩ => show win3_2.index _ 0 * 1 ≤ (i 0 : Nat) ∧ (i 0 : Nat) < win3_2.index _ 0 * 1 + 1; rw [h0]; omega
    | ⟨1, _⟩ => show win3_2.index _ 1 * 1 ≤ (i 1 : Nat) ∧ (i 1 : Nat) < win3_2.index _ 1 * 1 + 1; rw [h1]; omega
    | ⟨2, _⟩ => show win3_2.index _ 2 * 8192 ≤ (i 2 : Nat) ∧ (i 2 : Nat) < win3_2.index _ 2 * 8192 + 8192; rw [h2]; omega

end Cert.Proof.Arrays
end
-- ==== Proof.BodyValue.lean ====
/-
  What the kernel bodies leave, read at an element over the extended reals.
-/
module

public import proofs.«01_k».proof.Proof.KvBody
public import proofs.«01_k».proof.Proof.AttnBody
public import proofs.«01_k».proof.Proof.ScatterBody
public import proofs.«01_k».proof.Proof.Spec
public import Idealize.ShloMosaic.Lib.Pipeline.ValueKit.Tiles
public import Idealize.ShloMosaic.Lib.StableHlo.Predicate

@[expose] public section

noncomputable section

namespace Cert.Proof.BodyValue

open Cert.KernelIdeal Cert.KernelIdeal.Gen
open Idealize.ShloMosaic
set_option maxRecDepth 16384

/-! ## Keys and values -/

theorem four_at (p0 p1 p2 p3 : Vec Ideal S1x1024x1024 .bf16) (b : Fin 4) (r c : Fin 1024) (v : EReal)
    (h0 : b = 0 → p0 (ix3 0 r c) = v) (h1 : b = 1 → p1 (ix3 0 r c) = v) (h2 : b = 2 → p2 (ix3 0 r c) = v) (h3 : b = 3 → p3 (ix3 0 r c) = v) :
    View.canon (Val := Elt Ideal) (KvBody.four (F := Ideal) p0 p1 p2 p3) (ix3 b r c) = v := by
  have key : ∀ (n : Nat) (hb : ∀ a, (![n, 0, 0] : Fin 3 → Nat) a + S1x1024x1024.size a ≤ S4x1024x1024.size a) (p : Vec Ideal S1x1024x1024 .bf16),
      (b.val = n → p (ix3 0 r c) = v) → ∀ x : S1x1024x1024.Idx, (Rect.unit (s := S4x1024x1024) ![n, 0, 0] S1x1024x1024.size hb).emb x = ix3 b r c → p x = v := by
    intro n hb p hp x hx
    idx_vars x
    have e0 : n + 1 * x0.val = b.val := congrArg (fun y : S4x1024x1024.Idx => (y 0).val) hx
    have e1 : 0 + 1 * x1.val = r.val := congrArg (fun y : S4x1024x1024.Idx => (y 1).val) hx
    have e2 : 0 + 1 * x2.val = c.val := congrArg (fun y : S4x1024x1024.Idx => (y 2).val) hx
    rw [← hp (by omega)]
    refine congrArg p ?_
    rw [ix3_inj]
    exact ⟨Subsingleton.elim _ _, Fin.ext (by omega), Fin.ext (by omega)⟩
  refine View.canon_eq_of_allAt _ _ _ (KvBody.four_cover _ _ _ _ _) ?_
  intro p hp x hx
  fin_cases hp
  · exact key 3 inb_S4x1024x1024_S1x1024x1024_3_0_0 p3 (fun h => h3 (Fin.ext h)) x hx
  · exact key 2 inb_S4x1024x1024_S1x1024x1024_2_0_0 p2 (fun h => h2 (Fin.ext h)) x hx
  · exact key 1 inb_S4x1024x1024_S1x1024x1024_1_0_0 p1 (fun h => h1 (Fin.ext h)) x hx
  · exact key 0 inb_S4x1024x1024_S1x1024x1024_0_0_0 p0 (fun h => h0 (Fin.ext h)) x hx

/-- The masked keys. -/
theorem kOut_at (X0 : Vec Ideal S256x1024 .f32) (X1 : Vec Ideal S1024x1024 .bf16) (X2 : Vec Ideal S1x1024 .f32) (X5 : Vec Ideal S1024x1024 .bf16)
    (b : Fin 4) (r c : Fin 1024) : KvBody.kOut (F := Ideal) X0 X1 X2 X5 (ix3 b r c)
      = Spec.lin (fun i => X0 (ix2 ⟨64 * b.val + r.val % 64, by omega⟩ i)) (fun n i => X1 (ix2 n i)) (fun i => X2 (ix2 0 i)) c * X5 (ix2 r c) := by
  refine four_at _ _ _ _ b r c _ ?_ ?_ ?_ ?_ <;> rintro rfl
  · pointwise! [k1_pay7, k1_pay4, k1_pay3, k1_pay6, Spec.lin]
  · pointwise! [k1_pay9, k1_pay4, k1_pay3, k1_pay6, Spec.lin]
  · pointwise! [k1_pay11, k1_pay4, k1_pay3, k1_pay6, Spec.lin]
  · pointwise! [k1_pay1, k1_pay13, k1_pay4, k1_pay3, k1_pay6, Spec.lin]

/-- The masked values. -/
theorem vOut_at (X0 : Vec Ideal S256x1024 .f32) (X3 : Vec Ideal S1024x1024 .bf16) (X4 : Vec Ideal S1x1024 .f32) (X5 : Vec Ideal S1024x1024 .bf16)
    (b : Fin 4) (r c : Fin 1024) : KvBody.vOut (F := Ideal) X0 X3 X4 X5 (ix3 b r c)
      = Spec.lin (fun i => X0 (ix2 ⟨64 * b.val + r.val % 64, by omega⟩ i)) (fun n i => X3 (ix2 n i)) (fun i => X4 (ix2 0 i)) c * X5 (ix2 r c) := by
  refine four_at _ _ _ _ b r c _ ?_ ?_ ?_ ?_ <;> rintro rfl
  · pointwise! [k1_pay8, k1_pay5, k1_pay3, k1_pay6, Spec.lin]
  · pointwise! [k1_pay10, k1_pay5, k1_pay3, k1_pay6, Spec.lin]
  · pointwise! [k1_pay12, k1_pay5, k1_pay3, k1_pay6, Spec.lin]
  · pointwise! [k1_pay2, k1_pay14, k1_pay5, k1_pay3, k1_pay6, Spec.lin]

theorem q_at (X0 : Vec Ideal S1x512x1024 .f32) (X5 : Vec Ideal S1024x1024 .bf16) (X6 X9 X10 : Vec Ideal S1x1024 .f32) (t : Fin 512) (n : Fin 1024) :
    AttnBody.qV (F := Ideal) X0 X5 X6 X9 X10 (ix2 t n)
      = Spec.lin (Spec.normK (fun i => X0 (ix3 0 t i)) (fun i => X9 (ix2 0 i)) (fun i => X10 (ix2 0 i))) (fun n i => X5 (ix2 n i)) (fun i => X6 (ix2 0 i)) n
        * Ideal.ofBits .f32 1040187392#32 := by
  pointwise [AttnBody.qV, k2_pay5, k2_pay4, Spec.lin, Spec.normK, Spec.cen, Spec.var]

theorem p_at (Q : FVec Ideal S512x1024 .bf16) (K : Vec Ideal S1x1024x1024 .bf16) (X3 : Vec Ideal S1024x1024 .bf16) (t : Fin 512) (r : Fin 1024) :
    k2_pay6 (F := Ideal) Q K X3 (ix2 t r) = Ideal.div (Ideal.exp (∑ c, Q (ix2 t c) * K (ix3 0 r c)))
      (∑ x, Ideal.exp (∑ c, Q (ix2 t c) * K (ix3 0 x c)) * X3 (ix2 x r)) := by
  pointwise [k2_pay6]
theorem mass_at (Q : FVec Ideal S512x1024 .bf16) (K : Vec Ideal S1x1024x1024 .bf16) (X3 : Vec Ideal S1024x1024 .bf16) (X4 : Vec Ideal S1x512 .bf16) (k : Fin 64) :
    k2_pay7 (F := Ideal) Q K X3 X4 (ix2 0 k) = ∑ e : Fin 16, ∑ t, X4 (ix2 0 t) * k2_pay6 (F := Ideal) Q K X3 (ix2 t (Spec.col e k)) := by
  pointwise [k2_pay7]
  have e16 : ∀ G : Fin 16 → EReal, ∑ e, G e = G 0 + G 1 + G 2 + G 3 + G 4 + G 5 + G 6 + G 7 + G 8 + G 9 + G 10 + G 11 + G 12 + G 13 + G 14 + G 15 := by
    intro G
    simp only [Fin.sum_univ_castSucc, Fin.sum_univ_zero, zero_add]
    rfl
  rw [e16]
  have step : ∀ a b : Fin 1024, a.val = b.val → (∑ t, X4 (ix2 0 t) * k2_pay6 (F := Ideal) Q K X3 (ix2 t a)) = ∑ t, X4 (ix2 0 t) * k2_pay6 (F := Ideal) Q K X3 (ix2 t b) := by
    intro a b h
    rw [Fin.ext h]
  iterate 15 refine congrArg₂ (· + ·) ?_ (step _ _ (by simp [Spec.col]))
  exact step _ _ (by simp [Spec.col])

theorem o_at (Q : FVec Ideal S512x1024 .bf16) (K V : Vec Ideal S1x1024x1024 .bf16) (X3 : Vec Ideal S1024x1024 .bf16) (t : Fin 512) (c : Fin 1024) :
    k2_pay8 (F := Ideal) Q K X3 V (ix2 t c) = ∑ r, k2_pay6 (F := Ideal) Q K X3 (ix2 t r) * V (ix3 0 r c) := by
  pointwise [k2_pay8]
theorem out_at (X0 : Vec Ideal S1x512x1024 .f32) (O : FVec Ideal S512x1024 .f32) (X7 : Vec Ideal S1024x1024 .bf16) (X8 : Vec Ideal S1x1024 .f32)
    (g : Elt Ideal .f32) (t : Fin 512) (n : Fin 1024) :
    k2_pay1 (F := Ideal) (k2_pay4 X0) O X7 X8 g (ix3 0 t n)
      = X0 (ix3 0 t n) + Ideal.div 1 (1 + Ideal.exp (-g)) * Spec.lin (fun i => O (ix2 t i)) (fun n i => X7 (ix2 n i)) (fun i => X8 (ix2 0 i)) n := by
  pointwise [k2_pay1, k2_pay4, Spec.lin]
  rw [zero_sub]; rfl
theorem add_at (M : FVec Ideal S1x64 .f32) (A : Vec Ideal S1x1x64 .f32) (k : Fin 64) : k2_pay3 (F := Ideal) M A (ix3 0 0 k) = A (ix3 0 0 k) + M (ix2 0 k) := by
  pointwise [k2_pay3]
theorem zero_at  (k : Fin 64) : k2_pay2 (F := Ideal) (ix3 0 0 k) = 0 := by
  pointwise [k2_pay2]

theorem term_at (X1 : Vec Ideal S4x64 .i32) (X2 : Vec Ideal S4x64 .f32) (i : grid3.Coords) (b : Fin 4) (hb : (i 0).val = b.val) (k : Fin 64) (n : Fin 8192) :
    ScatterBody.term (F := Ideal) X1 X2 i k (ix2 0 n) = if n.val = (X1 (ix2 b k)).toNat then X2 (ix2 b k) * Ideal.ofBits .f32 0x38000000#32 else 0 := by
  have hc : ScatterBody.cell (i 0).val k.val = (ix2 b k : S4x64.Idx) := by
    funext a
    match a with
    | 0 => exact Fin.ext (by show (i 0).val % 4 = b.val; rw [hb]; exact Nat.mod_eq_of_lt b.isLt)
    | 1 => exact Fin.ext (Nat.mod_eq_of_lt k.isLt)
  pointwise [ScatterBody.term]
  rw [ScatterBody.pick_eq X1 i k.isLt, ScatterBody.pick_eq X2 i k.isLt, hc]
  by_cases h : n.val = (X1 (ix2 b k)).toNat
  · have e : IntOp.cmpi .eq (BitVec.ofNat 32 n.val) (X1 (ix2 b k)) = 1#1 := StableHlo.Predicate.cmpi_eq_iff.2 (by rw [h]; simp)
    rw [if_pos h, e]; rfl
  · have e : IntOp.cmpi .eq (BitVec.ofNat 32 n.val) (X1 (ix2 b k)) ≠ 1#1 := fun e => h (by
      have e := congrArg BitVec.toNat (StableHlo.Predicate.cmpi_eq_iff.1 e)
      rw [BitVec.toNat_ofNat, Nat.mod_eq_of_lt (by omega)] at e
      exact e)
    rw [if_neg h]
    exact if_neg e

end Cert.Proof.BodyValue
end
-- ==== Proof.Answer.lean ====
/-
  The reference's answer in plain sums over the arguments, where they are such as the precondition says.
-/
module

public import proofs.«01_k».proof.Proof.RefValue
public import proofs.«01_k».proof.Proof.Pre

@[expose] public section

noncomputable section

namespace Cert.Proof.Answer

open Cert.ReferenceIdeal Cert.ReferenceIdeal.Facts₀ Cert.Proof.RefValue
open Idealize.ShloMosaic

variable (x0 : FVec Ideal S4x2048x1024 .f32) (x1 : FVec Ideal S8192x1024 .f32) (x2 : IVec S4x64 32)
  (x3 : FVec Ideal S1024x1024 .f32) (x4 : FVec Ideal S1024 .f32) (x5 : FVec Ideal S1024x1024 .f32) (x6 : FVec Ideal S1024 .f32)
  (x7 : FVec Ideal S1024x1024 .f32) (x8 : FVec Ideal S1024 .f32) (x9 : FVec Ideal S1024x1024 .f32) (x10 x11 x12 : FVec Ideal S1024 .f32) (x13 : FVec Ideal S_ .f32)

/-- A selected row's linear map. -/
def proj (W : FVec Ideal S1024x1024 .f32) (b : FVec Ideal S1024 .f32) (p : Fin 4) (k : Fin 64) : Fin 1024 → EReal :=
  Spec.lin (fun i => Take.take x1 x2 (ix3 p k i)) (fun n i => W (ix2 n i)) (fun i => b (ix1 i))
/-- A position's query. -/
def query (p : Fin 4) (t : Fin 2048) : Fin 1024 → EReal :=
  Spec.lin (Spec.normR (fun i => x0 (ix3 p t i)) (fun i => x11 (ix1 i)) (fun i => x12 (ix1 i))) (fun n i => x3 (ix2 n i)) (fun i => x4 (ix1 i))

def score : FVec Ideal S4x16x2048x64 .f32 := scores (heads (linear (norm x0 x11 x12) x3 x4)) (project (Take.take x1 x2) x5 x6)
def softA : FVec Ideal S4x16x2048x64 .f32 := soft (score x0 x1 x2 x3 x4 x5 x6 x11 x12)
/-- The two results. -/
def ans0 : FVec Ideal S4x2048x1024 .f32 := updated x0 (linear (attended (softA x0 x1 x2 x3 x4 x5 x6 x11 x12) (project (Take.take x1 x2) x7 x8)) x9 x10) x13
def ans1 : FVec Ideal S4x8192 .f32 := scattered x2 (weight (softA x0 x1 x2 x3 x4 x5 x6 x11 x12))

theorem score_at (p : Fin 4) (e : Fin 16) (t : Fin 2048) (k : Fin 64) :
    score x0 x1 x2 x3 x4 x5 x6 x11 x12 (ix4 p e t k) = Spec.scoreR (query x0 x3 x4 x11 x12 p t) (proj x1 x2 x5 x6 p) e k := by
  unfold score Spec.scoreR
  rw [scores_at]
  refine congrArg (fun z => Ideal.div z _) (Finset.sum_congr rfl fun d _ => ?_)
  rw [heads_at, linear_at, project_at]
  refine congrArg (fun f => Spec.lin f _ _ _ * _) (funext fun i => norm_at ..)

section
variable {x0 x1 x2 x3 x4 x5 x6 x11 x12} (h : Pre.Selected x0 x1 x2 x3 x4 x5 x6 x11 x12)
include h

theorem query_real (p : Fin 4) (t : Fin 2048) (c : Fin 1024) : Spec.IsReal (query x0 x3 x4 x11 x12 p t c) :=
  Spec.lin_fin (fun i => Spec.norm_fin (fun _ => h.h _) (fun _ => h.ln_g _) (fun _ => h.ln_b _) i) (fun _ _ => h.Wq _) (fun _ => h.bq _) c

theorem proj_real (p : Fin 4) (k : Fin 64) (c : Fin 1024) : Spec.IsReal (proj x1 x2 x5 x6 p k c) :=
  Spec.lin_fin (fun i => by rw [Take.take_at x1 x2 (fun j => by rw [eq_ix2 j]; exact h.range _ _)]; exact h.memory _) (fun _ _ => h.Wk _) (fun _ => h.bk _) c

/-- The softmax, as the kernel makes it. -/
theorem soft_eq (p : Fin 4) (e : Fin 16) (t : Fin 2048) (k : Fin 64) :
    softA x0 x1 x2 x3 x4 x5 x6 x11 x12 (ix4 p e t k) = Spec.weightK (query x0 x3 x4 x11 x12 p t) (proj x1 x2 x5 x6 p) (Spec.col e k) := by
  have hm : Spec.IsReal (largest (score x0 x1 x2 x3 x4 x5 x6 x11 x12) (ix3 p e t)) := by
    refine largest_real _ (fun i => ?_) p e t
    idx_vars i
    rw [score_at]
    obtain ⟨r, _, hr⟩ := Spec.score_eq (query_real h i0 i2) (proj_real h i0) i1 i3
    exact ⟨r, hr⟩
  rw [Spec.weight_eq (query_real h p t) (proj_real h p) hm]
  unfold softA Spec.weightR
  rw [soft_at]
  simp only [score_at]

/-- The first result. -/
theorem ans0_at (p : Fin 4) (t : Fin 2048) (n : Fin 1024) :
    ans0 x0 x1 x2 x3 x4 x5 x6 x7 x8 x9 x10 x11 x12 x13 (ix3 p t n)
      = x0 (ix3 p t n) + Ideal.div 1 (1 + Ideal.exp (-x13 ix0))
        * Spec.lin (fun c => ∑ r, Spec.weightK (query x0 x3 x4 x11 x12 p t) (proj x1 x2 x5 x6 p) r * Spec.masked (proj x1 x2 x7 x8 p) r c)
            (fun n i => x9 (ix2 n i)) (fun i => x10 (ix1 i)) n := by
  unfold ans0
  rw [updated_at, linear_at]
  refine congrArg (fun f => _ + _ * Spec.lin f _ _ n) (funext fun c => ?_)
  obtain ⟨e, d, rfl⟩ : ∃ e d, c = Spec.col e d := ⟨⟨c.val / 64, by omega⟩, ⟨c.val % 64, Nat.mod_lt _ (by decide)⟩, Fin.ext (by show c.val = c.val / 64 * 64 + c.val % 64; omega)⟩
  rw [attended_at, Spec.attended_eq]
  refine Finset.sum_congr rfl fun k _ => ?_
  rw [soft_eq h, project_at]
  rfl

/-- The weights that are scattered, from the masses. -/
theorem weight_mass (p : Fin 4) (k : Fin 64) :
    (∑ e : Fin 16, ∑ t : Fin 2048, Spec.weightK (query x0 x3 x4 x11 x12 p t) (proj x1 x2 x5 x6 p) (Spec.col e k)) * Ideal.ofBits .f32 0x38000000#32
      = weight (softA x0 x1 x2 x3 x4 x5 x6 x11 x12) (ix2 p k) := by
  rw [weight_at, Spec.cinv, Spec.c32768, Ideal.div_coe (by norm_num)]
  simp only [soft_eq h, one_div]
end

end Cert.Proof.Answer
end
-- ==== Proof.ScatterValue.lean ====
/-
  The scattered weights.  The kernel adds up sixty-four terms, each zero but at one index's place; the reference overwrites
  a row of zeros at those places.  The indices of a batch row being distinct, at most one term is not zero at a place, and
  the two agree.
-/
module

public import proofs.«01_k».proof.Proof.BodyValue
public import proofs.«01_k».proof.Proof.RefValue
public import Idealize.ShloMosaic.Lib.ScatterToDense.RefScatter

@[expose] public section

noncomputable section

namespace Cert.Proof.ScatterValue

open Cert.KernelIdeal Cert.KernelIdeal.Gen
open Idealize.ShloMosaic
open Idealize.ShloMosaic.ScatterToDense (GS GS_zero GS_succ scatter_eq_GS)

/-- A batch row's indices. -/
def word (X : IVec S4x64 32) (b : Fin 4) (k : Nat) : BitVec 32 := if h : k < 64 then X (ix2 b ⟨k, h⟩) else 0#32
/-- A batch row's values. -/
def value (w : FVec Ideal S4x64 .f32) (b : Fin 4) (k : Nat) : EReal := if h : k < 64 then w (ix2 b ⟨k, h⟩) else 0

theorem word_at (X : IVec S4x64 32) (b : Fin 4) (k : Fin 64) : word X b k.val = X (ix2 b k) := dif_pos k.isLt
theorem value_at (w : FVec Ideal S4x64 .f32) (b : Fin 4) (k : Fin 64) : value w b k.val = w (ix2 b k) := dif_pos k.isLt

/-- What is written at a place no index names is what was there. -/
theorem unwritten {α : Type} (word : Nat → BitVec 32) (val : Nat → α) (fill : α) (col t : Nat) (h : ∀ k < t, col ≠ (word k).toNat) : GS word val fill col t = fill := by
  induction t with
  | zero => exact GS_zero ..
  | succ t ih => rw [GS_succ, if_neg (h t (Nat.lt_succ_self t)), ih fun k hk => h k (Nat.lt_succ_of_lt hk)]

variable (X1 : Vec Ideal S4x64 .i32) (X2 w : Vec Ideal S4x64 .f32) (i : grid3.Coords) (b : Fin 4) (hb : (i 0).val = b.val) (n : Fin 8192)
include hb

/-- The running sum is the row overwritten so far. -/
theorem upTo_at (hd : ∀ k k' : Fin 64, k < k' → X1 (ix2 b k) ≠ X1 (ix2 b k')) (hw : ∀ k, X2 (ix2 b k) * Ideal.ofBits .f32 0x38000000#32 = w (ix2 b k)) (t : Nat) (ht : t ≤ 64) :
    ScatterBody.upTo (F := Ideal) X1 X2 i t (ix2 0 n) = GS (word X1 b) (value w b) (0 : EReal) n.val t := by
  induction t with
  | zero =>
    rw [GS_zero]
    show Ideal.ofBits .f32 0x00000000#32 = 0
    simp [Ideal.ofBits, Ideal.ieee]
  | succ t ih =>
    rw [show ScatterBody.upTo (F := Ideal) X1 X2 i (t + 1) (ix2 0 n) = ScatterBody.upTo (F := Ideal) X1 X2 i t (ix2 0 n) + ScatterBody.term (F := Ideal) X1 X2 i t (ix2 0 n) from rfl,
      ih (Nat.le_of_succ_le ht), GS_succ, BodyValue.term_at X1 X2 i b hb ⟨t, ht⟩ n]
    have e : word X1 b t = X1 (ix2 b ⟨t, ht⟩) := dif_pos ht
    rw [e]
    split
    · next h =>
      rw [unwritten, zero_add, hw]
      · exact (value_at w b ⟨t, ht⟩).symm
      · intro k hk hk'
        rw [show word X1 b k = X1 (ix2 b ⟨k, hk.trans ht⟩) from dif_pos (hk.trans ht)] at hk'
        exact hd ⟨k, hk.trans ht⟩ ⟨t, ht⟩ hk (BitVec.eq_of_toNat_eq (hk'.symm.trans h))
    · rw [add_zero]

/-- The kernel's row of weights is the reference's. -/
theorem out_eq (hr : ∀ i, (X1 i : BitVec 32).toNat < 8192) (hd : ∀ k k' : Fin 64, k < k' → X1 (ix2 b k) ≠ X1 (ix2 b k'))
    (hw : ∀ k, X2 (ix2 b k) * Ideal.ofBits .f32 0x38000000#32 = w (ix2 b k)) :
    ScatterBody.out (F := Ideal) X1 X2 i (ix3 0 0 n) = RefValue.scattered X1 w (ix2 b n) := by
  have e1 : ScatterBody.out (F := Ideal) X1 X2 i (ix3 0 0 n) = ScatterBody.upTo (F := Ideal) X1 X2 i 64 (ix2 0 n) := by
    pointwise [ScatterBody.out]
  rw [e1, upTo_at X1 X2 w i b hb n hd hw 64 le_rfl]
  unfold RefValue.scattered
  have := scatter_eq_GS (T := 4) (C := 8192) (K := 64) Cert.ReferenceIdeal.scatter_S4x8192_S4x64x2_S4x64_n_01_01_2 rfl rfl rfl (by norm_num) (by norm_num)
    (broadcastInDim Cert.ReferenceIdeal.S4x8192 ![] Cert.ReferenceIdeal.Facts₀.bcast_S_S4x8192 (constant (F := Ideal) Cert.ReferenceIdeal.S_ .f32 0x00000000#32)) (RefValue.places X1) w
    (fun p => word X1 p) (fun p => value w p)
    (fun p k => (RefValue.places_at X1 hr p k).1) (fun p k => ((RefValue.places_at X1 hr p k).2).trans (word_at X1 p k).symm) (fun p k => (value_at w p k).symm) b n
  rw [ix2_eq_valueIdx]
  refine Eq.trans ?_ this.symm
  refine congrArg (fun z => GS (word X1 b) (value w b) z n.val 64) ?_
  show (0 : EReal) = Ideal.ofBits .f32 0x00000000#32
  simp [Ideal.ofBits, Ideal.ieee]

end Cert.Proof.ScatterValue
end
-- ==== Proof.Value.lean ====
/-
  What the run's result buffers hold: the reference's answer, over the extended reals and where the arguments are such as
  the precondition says.
-/
module

public import proofs.«01_k».proof.Proof.Arrays
public import proofs.«01_k».proof.Proof.BodyValue
public import proofs.«01_k».proof.Proof.HostValue
public import proofs.«01_k».proof.Proof.Kept
public import proofs.«01_k».proof.Proof.Answer
public import proofs.«01_k».proof.Proof.ScatterValue

@[expose] public section

set_option maxRecDepth 16384

noncomputable section

namespace Cert.Proof.Value

open Cert.KernelIdeal Cert.KernelIdeal.Gen Cert.Proof.Call Cert.Proof.Host Cert.Proof.Run Cert.Proof.Dats Cert.Proof.Arrays
open Idealize.ShloMosaic Idealize.ShloMosaic.TcCoe

variable (m : (ℓ : Loc nD τ sig) → Buf (Elt Ideal) ℓ) (d : Dev nD)

/-- An argument of the run. -/
abbrev arg (r : Ref sig .tc) : Buf (Elt Ideal) ((d.tc : Thread nD τ).loc r) := m ((d.tc : Thread nD τ).loc r)

/-- A position's query, a selected row's key and value. -/
abbrev query : Fin 4 → Fin 2048 → Fin 1024 → EReal := Answer.query (arg m d main_arg0) (arg m d main_arg3) (arg m d main_arg4) (arg m d main_arg11) (arg m d main_arg12)
abbrev key : Fin 4 → Fin 64 → Fin 1024 → EReal := Answer.proj (arg m d main_arg1) (arg m d main_arg2) (arg m d main_arg5) (arg m d main_arg6)
abbrev val : Fin 4 → Fin 64 → Fin 1024 → EReal := Answer.proj (arg m d main_arg1) (arg m d main_arg2) (arg m d main_arg7) (arg m d main_arg8)

/-! ## The gathered rows -/

section
variable (hr : ∀ (p : Fin 4) (k : Fin 64), ((arg m d main_arg2 : S4x64.Idx → BitVec 32) (ix2 p k)).toNat < 8192)
include hr

theorem rows_at (b : Fin 4) (k : Fin 64) (i : Fin 1024) :
    (V₂ m d (Proc.devRef .tc main_v21) : S256x1024.Idx → EReal) (ix2 ⟨64 * b.val + k.val, by omega⟩ i)
      = Take.take (F := Ideal) (arg m d main_arg1) (arg m d main_arg2) (ix3 b k i) := by
  rw [Take.take_at _ _ (fun j => by idx_vars j; exact hr _ _)]
  have hV : V₂ m d (Proc.devRef .tc main_v21) = Tile.gathered (table m d) (list m d) := Function.update_self ..
  rw [hV]
  have hl : list m d (Tile.lIx ⟨64 * b.val + k.val, by omega⟩) = (arg m d main_arg2 : S4x64.Idx → BitVec 32) (ix2 b k) := by
    have := HostValue.list_at (V₀ m d) ⟨64 * b.val + k.val, by omega⟩
    refine Eq.trans ?_ (this.trans ?_)
    · exact congrArg (list m d) (funext fun a => by match a with | 0 => rfl)
    · refine congrArg (arg m d main_arg2 : S4x64.Idx → BitVec 32) ?_
      congr 1
      · exact Fin.ext (by show (64 * b.val + k.val) / 64 = b.val; omega)
      · exact Fin.ext (by show (64 * b.val + k.val) % 64 = k.val; omega)
  show table m d (Tile.xIx (Tile.rowOf (list m d (Tile.lIx ⟨64 * b.val + k.val, by omega⟩))) i) = _
  rw [hl, show table m d = arg m d main_arg1 from Kept.first m d main_arg1 (by decide)]
  exact congrArg (arg m d main_arg1 : S8192x1024.Idx → EReal) (funext fun a => by match a with | 0 => rfl | 1 => rfl)

/-! ## The keys and values, a row for every head and selected row -/

theorem keys_at (b : Fin 4) (r c : Fin 1024) : (V₃ m d (Proc.devRef .tc main_v22_0) : S4x1024x1024.Idx → EReal) (ix3 b r c) = Spec.masked (key m d b) r c := by
  have e : V₃ m d (Proc.devRef .tc main_v22_0) = KvBody.kOut (at' (V₂ m) d main_v21) (at' (V₂ m) d main_v9) (at' (V₂ m) d main_v4) (at' (V₂ m) d main_v18) :=
    (Pipeline.afterRegion_arr (Region.dats bd (V₂ m) 0 d) (V₂ m d) (Region.kit (F := Ideal) 0).win.arr_inj 6).trans (final1_6 bd (V₂ m) d)
  rw [e, BodyValue.kOut_at]
  have h9 : at' (V₂ m) d main_v9 = V₁ m d (Proc.devRef .tc main_v9) := Kept.kept2 m d main_v9 (by decide)
  have h4 : at' (V₂ m) d main_v4 = V₁ m d (Proc.devRef .tc main_v4) := Kept.kept2 m d main_v4 (by decide)
  have h18 : at' (V₂ m) d main_v18 = V₁ m d (Proc.devRef .tc main_v18) := Kept.kept2 m d main_v18 (by decide)
  rw [h9, h4, h18]
  unfold Spec.masked key Answer.proj
  refine congrArg₂ (· * ·) ?_ (HostValue.mask_at (V₀ m d) r c)
  congr 1
  · exact funext fun i => rows_at m d hr b ⟨r.val % 64, _⟩ i
  · exact funext fun i => HostValue.row4 (V₀ m d) i

theorem vals_at (b : Fin 4) (r c : Fin 1024) : (V₃ m d (Proc.devRef .tc main_v22_1) : S4x1024x1024.Idx → EReal) (ix3 b r c) = Spec.masked (val m d b) r c := by
  have e : V₃ m d (Proc.devRef .tc main_v22_1) = KvBody.vOut (at' (V₂ m) d main_v21) (at' (V₂ m) d main_v10) (at' (V₂ m) d main_v5) (at' (V₂ m) d main_v18) :=
    (Pipeline.afterRegion_arr (Region.dats bd (V₂ m) 0 d) (V₂ m d) (Region.kit (F := Ideal) 0).win.arr_inj 7).trans (final1_7 bd (V₂ m) d)
  rw [e, BodyValue.vOut_at]
  have h10 : at' (V₂ m) d main_v10 = V₁ m d (Proc.devRef .tc main_v10) := Kept.kept2 m d main_v10 (by decide)
  have h5 : at' (V₂ m) d main_v5 = V₁ m d (Proc.devRef .tc main_v5) := Kept.kept2 m d main_v5 (by decide)
  have h18 : at' (V₂ m) d main_v18 = V₁ m d (Proc.devRef .tc main_v18) := Kept.kept2 m d main_v18 (by decide)
  rw [h10, h5, h18]
  unfold Spec.masked val Answer.proj
  refine congrArg₂ (· * ·) ?_ (HostValue.mask_at (V₀ m d) r c)
  congr 1
  · exact funext fun i => rows_at m d hr b ⟨r.val % 64, _⟩ i
  · exact funext fun i => HostValue.row5 (V₀ m d) i
end

/-! ## The attention -/

theorem third (r : Ref sig .tc) (h : r ≠ main_v21) (h' : r ≠ main_v22_0) (h'' : r ≠ main_v22_1) : at' (V₃ m) d r = V₁ m d (Proc.devRef .tc r) :=
  (Kept.kept3 m d r h' h'').trans (Kept.kept2 m d r h)

section
variable (sel : Pre.Selected (arg m d main_arg0) (arg m d main_arg1) (arg m d main_arg2) (arg m d main_arg3) (arg m d main_arg4) (arg m d main_arg5) (arg m d main_arg6)
  (arg m d main_arg11) (arg m d main_arg12))
include sel

/-- A tile's queries, an eighth of each. -/
theorem query_at (b u : Fin 4) (t : Fin 512) (c : Fin 1024) :
    AttnBody.qV (F := Ideal) (blk (V₃ m) cfg2 d 0 (pt b u)) (blk (V₃ m) cfg2 d 5 (pt b u)) (blk (V₃ m) cfg2 d 6 (pt b u)) (blk (V₃ m) cfg2 d 9 (pt b u)) (blk (V₃ m) cfg2 d 10 (pt b u)) (ix2 t c)
      = query m d b ⟨512 * u.val + t.val, by omega⟩ c * Ideal.ofBits .f32 1040187392#32 := by
  rw [BodyValue.q_at, whole2_5, whole2_6, whole2_9, whole2_10, third m d main_v7 (by decide) (by decide) (by decide), third m d main_v2 (by decide) (by decide) (by decide),
    third m d main_v0 (by decide) (by decide) (by decide), third m d main_v1 (by decide) (by decide) (by decide)]
  have hx : ∀ i, (blk (V₃ m) cfg2 d 0 (pt b u) : S1x512x1024.Idx → EReal) (ix3 0 t i) = (arg m d main_arg0 : S4x2048x1024.Idx → EReal) (ix3 b ⟨512 * u.val + t.val, by omega⟩ i) := fun i => by
    rw [block2_0, third m d main_arg0 (by decide) (by decide) (by decide), Kept.first m d main_arg0 (by decide)]
  refine congrArg (· * _) ?_
  have e : ∀ i, Spec.normK (fun i => (blk (V₃ m) cfg2 d 0 (pt b u) : S1x512x1024.Idx → EReal) (ix3 0 t i)) (fun i => (V₁ m d (Proc.devRef .tc main_v0) : S1x1024.Idx → EReal) (ix2 0 i)) (fun i => (V₁ m d (Proc.devRef .tc main_v1) : S1x1024.Idx → EReal) (ix2 0 i)) i
      = Spec.normR (fun i => (arg m d main_arg0 : S4x2048x1024.Idx → EReal) (ix3 b ⟨512 * u.val + t.val, by omega⟩ i)) (fun i => (arg m d main_arg11 : S1024.Idx → EReal) (ix1 i)) (fun i => (arg m d main_arg12 : S1024.Idx → EReal) (ix1 i)) i := fun i => by
    rw [← Spec.norm_eq (fun _ => sel.h _)]
    have h0 : (fun i => (V₁ m d (Proc.devRef .tc main_v0) : S1x1024.Idx → EReal) (ix2 0 i)) = fun i => (arg m d main_arg11 : S1024.Idx → EReal) (ix1 i) := funext fun i => HostValue.row0 (V₀ m d) i
    have h1 : (fun i => (V₁ m d (Proc.devRef .tc main_v1) : S1x1024.Idx → EReal) (ix2 0 i)) = fun i => (arg m d main_arg12 : S1024.Idx → EReal) (ix1 i) := funext fun i => HostValue.row1 (V₀ m d) i
    rw [h0, h1, funext hx]
  unfold query Answer.query
  have h2 : (fun i => (V₁ m d (Proc.devRef .tc main_v2) : S1x1024.Idx → EReal) (ix2 0 i)) = fun i => (arg m d main_arg4 : S1024.Idx → EReal) (ix1 i) := funext fun i => HostValue.row2 (V₀ m d) i
  have h7 : (fun n i => (V₁ m d (Proc.devRef .tc main_v7) : S1024x1024.Idx → EReal) (ix2 n i)) = fun n i => (arg m d main_arg3 : S1024x1024.Idx → EReal) (ix2 n i) := funext fun n => funext fun i => HostValue.mat7 (V₀ m d) n i
  exact (congrArg (fun f => Spec.lin f _ _ c) (funext e)).trans (congrArg₂ (fun W b => Spec.lin _ W b c) h7 h2)

/-- A tile's weights. -/
theorem weights_at (b u : Fin 4) (t : Fin 512) (r : Fin 1024) :
    k2_pay6 (F := Ideal) (AttnBody.qV (blk (V₃ m) cfg2 d 0 (pt b u)) (blk (V₃ m) cfg2 d 5 (pt b u)) (blk (V₃ m) cfg2 d 6 (pt b u)) (blk (V₃ m) cfg2 d 9 (pt b u)) (blk (V₃ m) cfg2 d 10 (pt b u)))
        (blk (V₃ m) cfg2 d 1 (pt b u)) (blk (V₃ m) cfg2 d 3 (pt b u)) (ix2 t r)
      = Spec.weightK (query m d b ⟨512 * u.val + t.val, by omega⟩) (key m d b) r := by
  have hk : ∀ r c, (blk (V₃ m) cfg2 d 1 (pt b u) : S1x1024x1024.Idx → EReal) (ix3 0 r c) = Spec.masked (key m d b) r c := fun r c =>
    (block2_1 (V₃ m) d b u r c).trans (keys_at m d sel.range b r c)
  have hs : ∀ r c, (blk (V₃ m) cfg2 d 3 (pt b u) : S1024x1024.Idx → EReal) (ix2 r c) = Spec.mask r c := fun r c => by
    rw [whole2_3, third m d main_v18 (by decide) (by decide) (by decide)]; exact HostValue.mask_at (V₀ m d) r c
  rw [BodyValue.p_at]
  unfold Spec.weightK Spec.scoreK
  simp only [query_at m d sel, hk, hs]

/-- The updated positions. -/
theorem result0_at : V₄ m d (Proc.devRef .tc main_v23_0) = Answer.ans0 (arg m d main_arg0) (arg m d main_arg1) (arg m d main_arg2) (arg m d main_arg3) (arg m d main_arg4) (arg m d main_arg5)
    (arg m d main_arg6) (arg m d main_arg7) (arg m d main_arg8) (arg m d main_arg9) (arg m d main_arg10) (arg m d main_arg11) (arg m d main_arg12) (arg m d main_arg13) := by
  refine (Pipeline.afterRegion_arr (Region.dats bd (V₃ m) 1 d) (V₃ m d) (Region.kit (F := Ideal) 1).win.arr_inj 12).trans (final2_12 bd (V₃ m) d _ fun b u t n => ?_)
  have hx : ∀ i, (blk (V₃ m) cfg2 d 0 (pt b u) : S1x512x1024.Idx → EReal) (ix3 0 t i) = (arg m d main_arg0 : S4x2048x1024.Idx → EReal) (ix3 b ⟨512 * u.val + t.val, by omega⟩ i) := fun i => by
    rw [block2_0, third m d main_arg0 (by decide) (by decide) (by decide), Kept.first m d main_arg0 (by decide)]
  have hv : ∀ r c, (blk (V₃ m) cfg2 d 2 (pt b u) : S1x1024x1024.Idx → EReal) (ix3 0 r c) = Spec.masked (val m d b) r c := fun r c =>
    (block2_2 (V₃ m) d b u r c).trans (vals_at m d sel.range b r c)
  have h8 : (fun n i => (V₁ m d (Proc.devRef .tc main_v8) : S1024x1024.Idx → EReal) (ix2 n i)) = fun n i => (arg m d main_arg9 : S1024x1024.Idx → EReal) (ix2 n i) := funext fun n => funext fun i => HostValue.mat8 (V₀ m d) n i
  have h3 : (fun i => (V₁ m d (Proc.devRef .tc main_v3) : S1x1024.Idx → EReal) (ix2 0 i)) = fun i => (arg m d main_arg10 : S1024.Idx → EReal) (ix1 i) := funext fun i => HostValue.row3 (V₀ m d) i
  have hg : View.ld (blk (V₃ m) cfg2 d 11 (pt b u)) (Rect.unit ![0, 0] ![1, 1] inb_S1x1_S1x1_0_0) (Shape.Idx.first (s := S1x1) (by decide)) = (arg m d main_arg13 : S_.Idx → EReal) ix0 := by
    rw [whole2_11, third m d main_v6 (by decide) (by decide) (by decide)]
    refine Eq.trans ?_ (HostValue.scalar6 (V₀ m d))
    exact congrArg (V₁ m d (Proc.devRef .tc main_v6) : S1x1.Idx → EReal) (funext fun a => Fin.ext (by match a with | 0 => rfl | 1 => rfl))
  have hO : (fun c => k2_pay8 (F := Ideal) (AttnBody.qV (blk (V₃ m) cfg2 d 0 (pt b u)) (blk (V₃ m) cfg2 d 5 (pt b u)) (blk (V₃ m) cfg2 d 6 (pt b u)) (blk (V₃ m) cfg2 d 9 (pt b u)) (blk (V₃ m) cfg2 d 10 (pt b u)))
        (blk (V₃ m) cfg2 d 1 (pt b u)) (blk (V₃ m) cfg2 d 3 (pt b u)) (blk (V₃ m) cfg2 d 2 (pt b u)) (ix2 t c))
      = fun c => ∑ r, Spec.weightK (query m d b ⟨512 * u.val + t.val, by omega⟩) (key m d b) r * Spec.masked (val m d b) r c := funext fun c =>
    (BodyValue.o_at _ _ _ _ t c).trans (Finset.sum_congr rfl fun r _ => by rw [weights_at m d sel, hv])
  rw [Answer.ans0_at (arg m d main_arg7) (arg m d main_arg8) (arg m d main_arg9) (arg m d main_arg10) (arg m d main_arg13) sel]
  refine (BodyValue.out_at _ _ _ _ _ t n).trans ?_
  rw [hx, hg, whole2_7, whole2_8, third m d main_v8 (by decide) (by decide) (by decide), third m d main_v3 (by decide) (by decide) (by decide)]
  rw [hO, h8, h3]

/-! ## The masses -/

theorem mass_at (b u : Fin 4) (k : Fin 64) :
    massAt (V₃ m) d (pt b u) (ix2 0 k) = ∑ e : Fin 16, ∑ t : Fin 512, Spec.weightK (query m d b ⟨512 * u.val + t.val, by omega⟩) (key m d b) (Spec.col e k) := by
  refine (BodyValue.mass_at _ _ _ _ k).trans (Finset.sum_congr rfl fun e _ => Finset.sum_congr rfl fun t _ => ?_)
  rw [weights_at m d sel, whole2_4, third m d main_v19 (by decide) (by decide) (by decide)]
  have h1 : (V₁ m d (Proc.devRef .tc main_v19) : S1x512.Idx → EReal) (ix2 0 t) = (1 : EReal) := HostValue.ones (V₀ m d) t
  exact (congrArg (fun z : EReal => z * _) h1).trans (one_mul _)

/-- A batch row's mass, its four tiles added up. -/
theorem masses_at (b : Fin 4) (k : Fin 64) : (collected (V₃ m) d (pt b 3).val (pt b 3).isLt : S1x1x64.Idx → EReal) (ix3 0 0 k)
    = ∑ e : Fin 16, ∑ t : Fin 2048, Spec.weightK (query m d b t) (key m d b) (Spec.col e k) := by
  have one : ∀ u : Fin 4, u.val + 1 < 4 → ∀ (v : Fin 4), v.val = u.val + 1 → (collected (V₃ m) d (pt b v).val (pt b v).isLt : S1x1x64.Idx → EReal) (ix3 0 0 k)
      = (collected (V₃ m) d (pt b u).val (pt b u).isLt : S1x1x64.Idx → EReal) (ix3 0 0 k) + massAt (V₃ m) d (pt b v) (ix2 0 k) := fun u hu v hv => by
    rw [collected_later (V₃ m) d (pt b v) (by show ¬ (4 * b.val + v.val) % 4 = 0; omega), BodyValue.add_at]
    have e : (pt b v).val - 1 = (pt b u).val := by show 4 * b.val + v.val - 1 = 4 * b.val + u.val; omega
    congr 2
  rw [one 2 (by decide) 3 rfl, one 1 (by decide) 2 rfl, one 0 (by decide) 1 rfl, collected_first (V₃ m) d (pt b 0) (by show (4 * b.val + 0) % 4 = 0; omega), BodyValue.add_at, BodyValue.zero_at, zero_add]
  simp only [mass_at m d sel]
  simp only [← Finset.sum_add_distrib]
  refine Finset.sum_congr rfl fun e _ => ?_
  have split : ∀ f : Fin 2048 → EReal, ∑ t, f t = ∑ t : Fin 512, (f ⟨512 * 0 + t.val, by omega⟩ + f ⟨512 * 1 + t.val, by omega⟩ + f ⟨512 * 2 + t.val, by omega⟩ + f ⟨512 * 3 + t.val, by omega⟩) := fun f => by
    have : ∑ t, f t = ∑ u : Fin 4, ∑ t : Fin 512, f ⟨512 * u.val + t.val, by omega⟩ := by
      rw [← Fintype.sum_prod_type']
      refine (Fintype.sum_equiv (finProdFinEquiv (m := 4) (n := 512)) _ _ fun p => congrArg f (Fin.ext ?_)).symm
      show 512 * p.1.val + p.2.val = p.2.val + 512 * p.1.val
      omega
    rw [this, Fin.sum_univ_four]
    simp only [← Finset.sum_add_distrib]
    rfl
  rw [split]
  rfl

theorem mass_array (b : Fin 4) (k : Fin 64) : (V₄ m d (Proc.devRef .tc main_v23_1) : S4x1x64.Idx → EReal) (ix3 b 0 k)
    = ∑ e : Fin 16, ∑ t : Fin 2048, Spec.weightK (query m d b t) (key m d b) (Spec.col e k) := by
  have e := (Pipeline.afterRegion_arr (Region.dats bd (V₃ m) 1 d) (V₃ m d) (Region.kit (F := Ideal) 1).win.arr_inj 13).trans
    (final2_13 bd (V₃ m) d (fun j => ∑ e : Fin 16, ∑ t : Fin 2048, Spec.weightK (query m d (j 0) t) (key m d (j 0)) (Spec.col e (j 2))) fun b k => masses_at m d sel b k)
  exact congrFun e (ix3 b 0 k)
end

/-! ## The reshapes -/

theorem mass_reshaped (V : Valuation τ sig (Elt Ideal)) (b : Fin 4) (k : Fin 64) :
    ((opMass (F := Ideal)).result V (Proc.devRef .tc main_v24) : S4x64.Idx → EReal) (ix2 b k) = (V (Proc.devRef .tc main_v23_1) : S4x1x64.Idx → EReal) (ix3 b 0 k) := by
  show (StableHlo.after [opMass (F := Ideal)] V (Proc.devRef .tc main_v24) : S4x64.Idx → EReal) (ix2 b k) = _
  after_reads_at
theorem row_reshaped (V : Valuation τ sig (Elt Ideal)) (b : Fin 4) (n : Fin 8192) :
    ((opLast (F := Ideal)).result V (Proc.devRef .tc main_v26) : S4x8192.Idx → EReal) (ix2 b n) = (V (Proc.devRef .tc main_v25) : S4x1x8192.Idx → EReal) (ix3 b 0 n) := by
  show (StableHlo.after [opLast (F := Ideal)] V (Proc.devRef .tc main_v26) : S4x8192.Idx → EReal) (ix2 b n) = _
  after_reads_at

section
variable (sel : Pre.Selected (arg m d main_arg0) (arg m d main_arg1) (arg m d main_arg2) (arg m d main_arg3) (arg m d main_arg4) (arg m d main_arg5) (arg m d main_arg6)
  (arg m d main_arg11) (arg m d main_arg12))
include sel

/-- The scattered weights. -/
theorem result1_at : V₇ m d (Proc.devRef .tc main_v26) = Answer.ans1 (arg m d main_arg0) (arg m d main_arg1) (arg m d main_arg2) (arg m d main_arg3) (arg m d main_arg4) (arg m d main_arg5)
    (arg m d main_arg6) (arg m d main_arg11) (arg m d main_arg12) := by
  have e := (Pipeline.afterRegion_arr (Region.dats bd (V₅ m) 2 d) (V₅ m d) (Region.kit (F := Ideal) 2).win.arr_inj 2).trans
    (final3_2 bd (V₅ m) d (fun j => Answer.ans1 (arg m d main_arg0) (arg m d main_arg1) (arg m d main_arg2) (arg m d main_arg3) (arg m d main_arg4) (arg m d main_arg5)
      (arg m d main_arg6) (arg m d main_arg11) (arg m d main_arg12) (ix2 (j 0) (j 2))) fun b n => by
      have h2 : at' (V₅ m) d main_arg2 = arg m d main_arg2 := by
        show V₅ m d (Proc.devRef .tc main_arg2) = _
        rw [Kept.kept5 m d main_arg2 (by decide), Kept.kept4 m d main_arg2 (by decide) (by decide), Kept.kept3 m d main_arg2 (by decide) (by decide),
          Kept.kept2 m d main_arg2 (by decide), Kept.first m d main_arg2 (by decide)]
      rw [h2]
      refine ScatterValue.out_eq (arg m d main_arg2) (at' (V₅ m) d main_v24) _ _ b (coord_pr b) n (fun i => by idx_vars i; exact sel.range _ _) (fun k k' => sel.distinct b k k') fun k => ?_
      rw [← Answer.weight_mass sel b k]
      exact congrArg (fun z : EReal => z * Ideal.ofBits .f32 0x38000000#32) ((mass_reshaped (V₄ m d) b k).trans (mass_array m d sel b k)))
  refine funext fun (j : S4x8192.Idx) => ?_
  idx_vars j
  exact (row_reshaped (V₆ m d) j0 j1).trans (congrFun e (ix3 j0 0 j1))

theorem result0_end : V₇ m d (Proc.devRef .tc main_v23_0) = Answer.ans0 (arg m d main_arg0) (arg m d main_arg1) (arg m d main_arg2) (arg m d main_arg3) (arg m d main_arg4) (arg m d main_arg5)
    (arg m d main_arg6) (arg m d main_arg7) (arg m d main_arg8) (arg m d main_arg9) (arg m d main_arg10) (arg m d main_arg11) (arg m d main_arg12) (arg m d main_arg13) := by
  rw [Kept.kept7 m d main_v23_0 (by decide), Kept.kept6 m d main_v23_0 (by decide), Kept.kept5 m d main_v23_0 (by decide)]
  exact result0_at m d sel
end

end Cert.Proof.Value
end
-- ==== Proof.Same.lean ====
/-
  The two programs' results are equal over the extended reals.
-/
module

public import proofs.«01_k».proof.Proof.Value
public import proofs.«01_k».proof.Proof.Frames

@[expose] public section

noncomputable section

namespace Cert.Proof.Same

open Idealize.ShloMosaic Idealize.SL.Sem
open Cert.KernelIdeal Cert.KernelIdeal.Gen

/-- A result buffer holds at the end what the last valuation says. -/
theorem result_at (m : (ℓ : Loc nD τ sig) → Buf (Elt Ideal) ℓ) (r) (h : Run.QC m r) (c : Dev nD) (b : Ref sig .tc) (hu : Proc.devRef .tc b ∈ Pipeline.ucRefs τ sig) :
    r.2.mem ((c.tc : Thread nD τ).loc b) = Run.V₇ m c (Proc.devRef .tc b) := h.1 c _ hu

theorem algebraic : Cert.algebraic_KernelIdeal_ReferenceIdeal_pre_selected := by
  intro m ρ m' ρ' hpre hagree
  have sel := fun c => Pre.selected _ _ _ _ _ _ _ _ _ _ _ _ _ _ (hpre c)
  refine ⟨fun c => Run.V₇ m c (Proc.devRef .tc main_v23_0), fun c => Run.V₇ m c (Proc.devRef .tc main_v26),
    (θ_run Cert.KernelIdeal.defs _ _).mono (fun r h c => by
      refine ⟨result_at m r h c _ (by decide), result_at m r h c _ (by decide), ?_, ?_, ?_, ?_, ?_, ?_, ?_, ?_, ?_, ?_, ?_, ?_, ?_, ?_⟩ <;>
        exact Frames.kept_at m r h c _ (by decide) (by decide) (by decide))
      (Run.run_main (F := Ideal) m ρ (Frames.list_in_range m fun d => (sel d).range)), ?_⟩
  refine (θ_run Cert.ReferenceIdeal.defs _ _).mono (fun r h c => ⟨?_, ?_, (h c).2.2⟩) (Cert.ReferenceIdeal.Value.run (F := Ideal) m' ρ')
  · refine (h c).1.trans ?_
    refine Eq.trans ?_ (Value.result0_end m c (sel c)).symm
    rw [RefValue.result0]
    unfold RefValue.softOf
    obtain ⟨e0, e1, e2, e3, e4, e5, e6, e7, e8, e9, e10, e11, e12, e13⟩ := hagree c
    rw [e0, e1, e2, e3, e4, e5, e6, e7, e8, e9, e10, e11, e12, e13]
    rfl
  · refine (h c).2.1.trans ?_
    refine Eq.trans ?_ (Value.result1_at m c (sel c)).symm
    rw [RefValue.result1]
    unfold RefValue.softOf
    obtain ⟨e0, e1, e2, e3, e4, e5, e6, e7, e8, e9, e10, e11, e12, e13⟩ := hagree c
    rw [e0, e1, e2, e3, e4, e5, e6, e11, e12]
    rfl

end Cert.Proof.Same
end
-- ==== Proof.PickBody.lean ====
/-
  The two bodies of the selection's kernels, run on whole buffers: the first adds a tile's layer-normalised positions to its
  batch row's sum and divides at the last tile; the second scores every memory slot and takes sixty-four of them, one a round.
-/
module

public import proofs.«01_k».proof.Proof.Gen.SelectionIdeal
public import proofs.«01_k».proof.Proof.Gen.SelectionIdeal.Skeleton
public import proofs.«01_k».proof.Proof.Gen.SelectionIdeal.Launch
public import proofs.«01_k».proof.Proof.Gen.SelectionIdeal.Regions
public import proofs.«01_k».proof.Proof.Gen.SelectionIdeal.Points
public import Idealize.ShloMosaic.Lib.Pipeline.Kit
public import Idealize.ShloMosaic.Lib.Tactic
public import Idealize.ShloMosaic.Lib.StableHlo.Run
public import Idealize.ShloMosaic.Lib.Pipeline.FrameBody
public import Idealize.ShloMosaic.Lib.Pipeline.Value

@[expose] public section

noncomputable section

namespace Cert.Proof.PickBody

open Cert.SelectionIdeal Cert.SelectionIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The pipelines' ghost state: and a factor that stays unused. -/
abbrev UU : Type := URounds (GSem nD τ sig) Unit × Counters

local notation "𝕄" => MT nD τ sig Unit (Elt F) ℕ UU ℕ

/-- Buffer `M`, whole, at contents `f`. -/
abbrev pt (c : Dev nD) {sp : Space} {s : Shape} {e : EltTy} (M : Memref sig .tc sp s e) (f : Buf (Elt F) (M.view.loc (c : Thread nD τ))) : sProp 𝕄 :=
  M.view.loc (c : Thread nD τ) ↦{fullShare} f
/-- Contents of buffer `M`. -/
abbrev Bf (c : Dev nD) {sp : Space} {s : Shape} {e : EltTy} (M : Memref sig .tc sp s e) : Type := Buf (Elt F) (M.view.loc (c : Thread nD τ))

theorem hz2 : (![0, 0] : Fin 2 → Nat) = fun _ => 0 := funext fun a => by fin_cases a <;> rfl
theorem hz3 : (![0, 0, 0] : Fin 3 → Nat) = fun _ => 0 := funext fun a => by fin_cases a <;> rfl

variable [∀ e, Nonempty (Elt F e)]

/-- What a list of writes leaves, by its canonical contents. -/
theorem close (c : Dev nD) {sp : Space} {s : Shape} {e : EltTy} (M : Memref sig .tc sp s e) (h : M.IsWhole) (L : List (View.Piece (Elt F) s e)) :
    (M.view.loc (c : Thread nD τ) ↦{fullShare} M.view.writes (Elt F) M.view.junk L : sProp 𝕄) = pt c M (h.unread (View.canon L)) := by
  unfold pt
  rw [h.eq_unread (View.read_writes_junk_eq_canon M.view L)]

/-! ## The summary's body -/

/-- The body starts the sum from zero exactly at the first tile of a batch row. -/
theorem resets_iff (i : grid0.Coords) : Scalar.cmpi .ne (Scalar.extui (Scalar.cmpi .eq (BitVec.ofNat 32 (i 1).val) 0#32) : BitVec 32) 0#32 = 1#1 ↔ (i 1).val = 0 := by
  have h : (i 1).val < 4 := (i 1).isLt
  rcases (by omega : (i 1).val = 0 ∨ (i 1).val = 1 ∨ (i 1).val = 2 ∨ (i 1).val = 3) with h | h | h | h <;> rw [h] <;> decide
/-- It divides by the number of positions exactly at the last. -/
theorem ends_iff (i : grid0.Coords) : Scalar.cmpi .ne (Scalar.extui (Scalar.cmpi .eq (BitVec.ofNat 32 (i 1).val) 3#32) : BitVec 32) 0#32 = 1#1 ↔ (i 1).val = 3 := by
  have h : (i 1).val < 4 := (i 1).isLt
  rcases (by omega : (i 1).val = 0 ∨ (i 1).val = 1 ∨ (i 1).val = 2 ∨ (i 1).val = 3) with h | h | h | h <;> rw [h] <;> decide

set_option maxHeartbeats 600000 in
/-- At a batch row's first tile. -/
theorem summary_first (c : Dev nD) (i : grid0.Coords) (a2 : Memref sig .tc .vmem S1x512x1024 .f32) (h2 : a2.IsWhole) (a3 : Memref sig .tc .vmem S1x1024 .f32) (h3 : a3.IsWhole)
    (a4 : Memref sig .tc .vmem S1x1024 .f32) (h4 : a4.IsWhole) (a5 : Memref sig .tc .vmem S1x1x1024 .f32) (h5 : a5.IsWhole)
    (X0 : Vec F S1x512x1024 .f32) (X1 X2 : Vec F S1x1024 .f32) (f5 : Bf (F := F) c a5) (E : Set ℕ) (Q : PUnit → sProp 𝕄) (hi : (i 1).val = 0) :
    iprop(pt c a2 (h2.unread X0) ∗ pt c a3 (h3.unread X1) ∗ pt c a4 (h4.unread X2) ∗ pt c a5 f5
        ∗ ((pt c a2 (h2.unread X0) ∗ pt c a3 (h3.unread X1) ∗ pt c a4 (h4.unread X2) ∗ pt c a5 (h5.unread (k0_pay3 X0 X1 X2 k0_pay2))) -∗ Q ⟨⟩))
      ⊢ wp frame (wpE defs₀ Variants.none (c : Thread nD τ) none) E (cc0__summary_body i a2 h2 a3 h3 a4 h4 a5 h5) Q := by
  rw [cc0__summary_body_eq_skeleton]; unfold cc0__summary_body_skel
  rw [k0_part1_eq_skeleton]; unfold k0_part1_skel
  have hC := (resets_iff i).mpr hi
  have hD := (ends_iff i).not.mpr (by omega)
  iintro ⟨H2, H3, H4, H5, Hk⟩
  sl_exec!
  sl_step
  ihave H5 := (Entails.of_eq (close c a5 h5 _)) $$ H5
  sl_unfold_words
  simp only [View.readAt_eq_ld, h2.read_unread, h3.read_unread, h4.read_unread, h5.read_unread,
    View.ld_unit_zero (S := S1x1024) hz2, View.ld_unit_zero (S := S1x512x1024) hz3, View.ld_unit_zero (S := S1x1x1024) hz3,
    View.canon_cons_unit_zero (S := S1x1x1024) hz3, View.readCov_unit_zero (S := S1x1x1024) _ hz3]
  iapply Hk
  isplitl [H2]; · iexact H2
  isplitl [H3]; · iexact H3
  isplitl [H4]; · iexact H4
  iexact H5

set_option maxHeartbeats 600000 in
/-- At a tile between. -/
theorem summary_next (c : Dev nD) (i : grid0.Coords) (a2 : Memref sig .tc .vmem S1x512x1024 .f32) (h2 : a2.IsWhole) (a3 : Memref sig .tc .vmem S1x1024 .f32) (h3 : a3.IsWhole)
    (a4 : Memref sig .tc .vmem S1x1024 .f32) (h4 : a4.IsWhole) (a5 : Memref sig .tc .vmem S1x1x1024 .f32) (h5 : a5.IsWhole)
    (X0 : Vec F S1x512x1024 .f32) (X1 X2 : Vec F S1x1024 .f32) (A : Vec F S1x1x1024 .f32) (E : Set ℕ) (Q : PUnit → sProp 𝕄) (hi : ¬ (i 1).val = 0) (hj : ¬ (i 1).val = 3) :
    iprop(pt c a2 (h2.unread X0) ∗ pt c a3 (h3.unread X1) ∗ pt c a4 (h4.unread X2) ∗ pt c a5 (h5.unread A)
        ∗ ((pt c a2 (h2.unread X0) ∗ pt c a3 (h3.unread X1) ∗ pt c a4 (h4.unread X2) ∗ pt c a5 (h5.unread (k0_pay3 X0 X1 X2 A))) -∗ Q ⟨⟩))
      ⊢ wp frame (wpE defs₀ Variants.none (c : Thread nD τ) none) E (cc0__summary_body i a2 h2 a3 h3 a4 h4 a5 h5) Q := by
  rw [cc0__summary_body_eq_skeleton]; unfold cc0__summary_body_skel
  rw [k0_part1_eq_skeleton]; unfold k0_part1_skel
  have hC := (resets_iff i).not.mpr hi
  have hD := (ends_iff i).not.mpr hj
  iintro ⟨H2, H3, H4, H5, Hk⟩
  sl_exec!
  sl_step
  ihave H5 := (Entails.of_eq (close c a5 h5 _)) $$ H5
  sl_unfold_words
  simp only [View.readAt_eq_ld, h2.read_unread, h3.read_unread, h4.read_unread, h5.read_unread,
    View.ld_unit_zero (S := S1x1024) hz2, View.ld_unit_zero (S := S1x512x1024) hz3, View.ld_unit_zero (S := S1x1x1024) hz3,
    View.canon_cons_unit_zero (S := S1x1x1024) hz3, View.readCov_unit_zero (S := S1x1x1024) _ hz3]
  iapply Hk
  isplitl [H2]; · iexact H2
  isplitl [H3]; · iexact H3
  isplitl [H4]; · iexact H4
  iexact H5

set_option maxHeartbeats 600000 in
/-- At a batch row's last tile. -/
theorem summary_last (c : Dev nD) (i : grid0.Coords) (a2 : Memref sig .tc .vmem S1x512x1024 .f32) (h2 : a2.IsWhole) (a3 : Memref sig .tc .vmem S1x1024 .f32) (h3 : a3.IsWhole)
    (a4 : Memref sig .tc .vmem S1x1024 .f32) (h4 : a4.IsWhole) (a5 : Memref sig .tc .vmem S1x1x1024 .f32) (h5 : a5.IsWhole)
    (X0 : Vec F S1x512x1024 .f32) (X1 X2 : Vec F S1x1024 .f32) (A : Vec F S1x1x1024 .f32) (E : Set ℕ) (Q : PUnit → sProp 𝕄) (hj : (i 1).val = 3) :
    iprop(pt c a2 (h2.unread X0) ∗ pt c a3 (h3.unread X1) ∗ pt c a4 (h4.unread X2) ∗ pt c a5 (h5.unread A)
        ∗ ((pt c a2 (h2.unread X0) ∗ pt c a3 (h3.unread X1) ∗ pt c a4 (h4.unread X2) ∗ pt c a5 (h5.unread (k0_pay1 (k0_pay3 X0 X1 X2 A)))) -∗ Q ⟨⟩))
      ⊢ wp frame (wpE defs₀ Variants.none (c : Thread nD τ) none) E (cc0__summary_body i a2 h2 a3 h3 a4 h4 a5 h5) Q := by
  rw [cc0__summary_body_eq_skeleton]; unfold cc0__summary_body_skel
  rw [k0_part1_eq_skeleton]; unfold k0_part1_skel
  have hC := (resets_iff i).not.mpr (by omega)
  have hD := (ends_iff i).mpr hj
  iintro ⟨H2, H3, H4, H5, Hk⟩
  sl_exec!
  sl_step
  ihave H5 := (Entails.of_eq (close c a5 h5 _)) $$ H5
  sl_unfold_words
  simp only [View.readAt_eq_ld, h2.read_unread, h3.read_unread, h4.read_unread, h5.read_unread,
    View.ld_unit_zero (S := S1x1024) hz2, View.ld_unit_zero (S := S1x512x1024) hz3, View.ld_unit_zero (S := S1x1x1024) hz3,
    View.canon_cons_unit_zero (S := S1x1x1024) hz3, View.readCov_unit_zero (S := S1x1x1024) _ hz3]
  iapply Hk
  isplitl [H2]; · iexact H2
  isplitl [H3]; · iexact H3
  isplitl [H4]; · iexact H4
  iexact H5

/-! ## The selection's body -/

/-- The scores before round `n`: each round strikes out what it takes. -/
def left (X : Vec F S4x8192 .f32) : ℕ → Vec F S4x8192 .f32
  | 0 => X
  | n + 1 => k1_pay4 (left X n)

/-- What has been taken before round `n`. -/
def taken (X : Vec F S4x8192 .f32) : ℕ → IVec S4x64 32
  | 0 => k1_pay2
  | n + 1 => if h : n < k1_t1_loop.trips then k1_pay5 ⟨n, h⟩ (taken X n) (left X n) else taken X n

/-- The scores: the blocks' value. -/
abbrev scores (X0 : Vec F S4x1024 .f32) (X1 : Vec F S1024x1024 .f32) (X2 : Vec F S1x1024 .f32) (X3 : Vec F S4x8192 .f32) (X4 : Vec F S1x1 .f32) (X5 : Vec F S8192x1024 .f32) : Vec F S4x8192 .f32 :=
  k1_pay1 X0 X1 X2 X5 (View.ld X4 (Rect.unit ![0, 0] ![1, 1] inb_S1x1_S1x1_0_0) (Shape.Idx.first (s := S1x1) (by decide))) X3

/-- The rounds' invariant. -/
abbrev rounds (c : Dev nD) (a7 : Memref sig .tc .vmem S4x8192 .f32) (h7 : a7.IsWhole) (X : Vec F S4x8192 .f32) (n : ℕ) (acc : IVec S4x64 32) : sProp 𝕄 :=
  iprop(⌜acc = taken X n⌝ ∗ pt c a7 (h7.unread (left X n)))

set_option maxHeartbeats 600000 in
theorem round (c : Dev nD) (a0 : Memref sig .tc .vmem S4x1024 .f32) (h0 : a0.IsWhole) (a1 : Memref sig .tc .vmem S1024x1024 .f32) (h1 : a1.IsWhole) (a2 : Memref sig .tc .vmem S1x1024 .f32) (h2 : a2.IsWhole) (a3 : Memref sig .tc .vmem S4x8192 .f32) (h3 : a3.IsWhole) (a4 : Memref sig .tc .smem S1x1 .f32) (h4 : a4.IsWhole) (a5 : Memref sig .tc .vmem S8192x1024 .f32) (h5 : a5.IsWhole) (a6 : Memref sig .tc .vmem S4x64 .i32) (h6 : a6.IsWhole) (a7 : Memref sig .tc .vmem S4x8192 .f32) (h7 : a7.IsWhole) (X : Vec F S4x8192 .f32) (E : Set ℕ) (k : Fin k1_t1_loop.trips) (acc : IVec S4x64 32) :
    rounds c a7 h7 X k acc ⊢ wp frame (wpE defs₀ Variants.none (c : Thread nD τ) none) E (k1_t1_body a0 h0 a1 h1 a2 h2 a3 h3 a4 h4 a5 h5 a6 h6 a7 h7 k acc) (rounds c a7 h7 X (k.val + 1)) := by
  unfold k1_t1_body
  iintro ⟨%hacc, H7⟩
  sl_exec!
  sl_step
  ihave H7 := (Entails.of_eq (close c a7 h7 _)) $$ H7
  sl_unfold_words
  simp only [View.readAt_eq_ld, h7.read_unread, View.ld_unit_zero (S := S4x8192) hz2, View.canon_cons_unit_zero (S := S4x8192) hz2, View.readCov_unit_zero (S := S4x8192) _ hz2]
  isplitr
  · ipureintro
    rw [hacc, taken, dif_pos k.isLt]
  iexact H7

set_option maxHeartbeats 600000 in
theorem select (c : Dev nD) (a0 : Memref sig .tc .vmem S4x1024 .f32) (h0 : a0.IsWhole) (a1 : Memref sig .tc .vmem S1024x1024 .f32) (h1 : a1.IsWhole) (a2 : Memref sig .tc .vmem S1x1024 .f32) (h2 : a2.IsWhole) (a3 : Memref sig .tc .vmem S4x8192 .f32) (h3 : a3.IsWhole) (a4 : Memref sig .tc .smem S1x1 .f32) (h4 : a4.IsWhole) (a5 : Memref sig .tc .vmem S8192x1024 .f32) (h5 : a5.IsWhole) (a6 : Memref sig .tc .vmem S4x64 .i32) (h6 : a6.IsWhole) (a7 : Memref sig .tc .vmem S4x8192 .f32) (h7 : a7.IsWhole) (X0 : Vec F S4x1024 .f32) (X1 : Vec F S1024x1024 .f32) (X2 : Vec F S1x1024 .f32) (X3 : Vec F S4x8192 .f32) (X4 : Vec F S1x1 .f32) (X5 : Vec F S8192x1024 .f32) (f6 : Bf (F := F) c a6) (f7 : Bf (F := F) c a7) (E : Set ℕ) (Q : PUnit → sProp 𝕄) :
    iprop(pt c a0 (h0.unread X0) ∗ pt c a1 (h1.unread X1) ∗ pt c a2 (h2.unread X2) ∗ pt c a3 (h3.unread X3) ∗ pt c a4 (h4.unread X4) ∗ pt c a5 (h5.unread X5) ∗ pt c a6 f6 ∗ pt c a7 f7
        ∗ ((pt c a0 (h0.unread X0) ∗ pt c a1 (h1.unread X1) ∗ pt c a2 (h2.unread X2) ∗ pt c a3 (h3.unread X3) ∗ pt c a4 (h4.unread X4) ∗ pt c a5 (h5.unread X5)
          ∗ pt c a6 (h6.unread (taken (scores X0 X1 X2 X3 X4 X5) 64)) ∗ (∃ f, pt c a7 f)) -∗ Q ⟨⟩))
      ⊢ wp frame (wpE defs₀ Variants.none (c : Thread nD τ) none) E (cc1__select_body a0 h0 a1 h1 a2 h2 a3 h3 a4 h4 a5 h5 a6 h6 a7 h7) Q := by
  rw [cc1__select_body_eq_skeleton]; unfold cc1__select_body_skel
  rw [k1_part1_eq_skeleton]; unfold k1_part1_skel
  iintro ⟨H0, H1, H2, H3, H4, H5, H6, H7, Hk⟩
  sl_exec!
  ihave H7 := (Entails.of_eq (close c a7 h7 _)) $$ H7
  sl_unfold_words
  simp only [View.readAt_eq_ld, h0.read_unread, h1.read_unread, h2.read_unread, h3.read_unread, h4.read_unread, h5.read_unread,
    View.ld_unit_zero (S := S4x1024) hz2, View.ld_unit_zero (S := S1024x1024) hz2, View.ld_unit_zero (S := S1x1024) hz2,
    View.ld_unit_zero (S := S4x8192) hz2, View.ld_unit_zero (S := S8192x1024) hz2, View.canon_cons_unit_zero (S := S4x8192) hz2]
  rw [bind_assoc]
  iapply (Scf.wp_for_bind frame (wpE defs₀ Variants.none (c : Thread nD τ) none) E _ _ _ k1_t1_ok k1_pay2 (k1_t1_body a0 h0 a1 h1 a2 h2 a3 h3 a4 h4 a5 h5 a6 h6 a7 h7)
    (rounds c a7 h7 (scores X0 X1 X2 X3 X4 X5)) (fun k acc => round c a0 h0 a1 h1 a2 h2 a3 h3 a4 h4 a5 h5 a6 h6 a7 h7 (scores X0 X1 X2 X3 X4 X5) E k acc)) $$ [H7]
  · isplitr
    · ipureintro; rfl
    iexact H7
  iintro %acc ⟨%hacc, H7⟩
  sl_exec!
  sl_step
  ihave H6 := (Entails.of_eq (close c a6 h6 _)) $$ H6
  sl_unfold_words
  simp only [View.canon_cons_unit_zero (S := S4x64) hz2]
  iapply Hk
  rw [hacc, show Scf.trips k1_t1_loop.lb k1_t1_loop.ub k1_t1_loop.st = 64 from by decide]
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

end Cert.Proof.PickBody

end
-- ==== Proof.PickDats.lean ====
/-
  The selection's two kernels' proof data over a valuation of the buffers, and their bodies' obligations.
-/
module

public import proofs.«01_k».proof.Proof.PickBody
public import Idealize.ShloMosaic.Lib.Pipeline.RegionArraysS

@[expose] public section

noncomputable section

namespace Cert.Proof.PickDats

open Cert.SelectionIdeal Cert.SelectionIdeal.Gen Cert.Proof.PickBody

open Idealize.ShloMosaic Idealize.ShloMosaic.TcCoe
open Idealize.ShloMosaic.Pipeline (Dat BodyObligation arrRef arrRefs RegionSeg HostSeg Seg ucRefs)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

local notation "𝕄" => MT nD τ sig Unit (Elt F) ℕ UU ℕ

theorem owns_in (c : Dev nD) {sp : Space} {s : Shape} {e : EltTy} {M : Memref sig .tc sp s e} (h : M.IsWhole) (X : s.Idx → Elt F e) :
    (owns (c : Thread nD τ) M fullShare X : sProp 𝕄) ⊢ pt c M (h.unread X) := by
  unfold owns
  rw [h.set_eq_univ]
  iintro ⟨%f, %hf, H⟩
  rw [← h.eq_unread hf]
  iexact H

theorem owns_out (c : Dev nD) {sp : Space} {s : Shape} {e : EltTy} {M : Memref sig .tc sp s e} (h : M.IsWhole) (X : s.Idx → Elt F e) :
    pt c M (h.unread X) ⊢ (owns (c : Thread nD τ) M fullShare X : sProp 𝕄) := by
  unfold owns
  rw [h.set_eq_univ]
  iintro H
  iexists (h.unread X)
  isplitr; · ipureintro; exact h.read_unread X
  iexact H

variable (V : Dev nD → Valuation τ sig (Elt F))

/-- The block of window `w`'s array that grid point `t` reads or writes, at the valuation. -/
abbrev blk (V : Dev nD → Valuation τ sig (Elt F)) {Λ' : Labels} (cfg : Pipeline.Cfg sig Λ') (c : Dev nD) (w : Fin cfg.W) (t : Fin cfg.N) :=
  ((cfg.win w).blk t).view.read (Elt F) (V c (Proc.devRef .tc (arrRef cfg.spec w)))

/-- A tile's sum added to what the batch row has so far. -/
abbrev added (c : Dev nD) (t : Fin cfg0.N) (A : Vec F S1x1x1024 .f32) : Vec F S1x1x1024 .f32 := k0_pay3 (blk V cfg0 c 0 t) (blk V cfg0 c 1 t) (blk V cfg0 c 2 t) A

/-- The batch row's sum after grid point `n`: afresh at a batch row's first tile, divided at its last. -/
def summed (c : Dev nD) : (n : ℕ) → n < cfg0.N → Vec F S1x1x1024 .f32
  | 0, h => added V c ⟨0, h⟩ k0_pay2
  | n + 1, h => if (n + 1) % 4 = 0 then added V c ⟨n + 1, h⟩ k0_pay2
      else if (n + 1) % 4 = 3 then k0_pay1 (added V c ⟨n + 1, h⟩ (summed c n (Nat.lt_of_succ_lt h)))
      else added V c ⟨n + 1, h⟩ (summed c n (Nat.lt_of_succ_lt h))

theorem summed_first (c : Dev nD) (t : Fin cfg0.N) (h : t.val % 4 = 0) : summed V c t.val t.isLt = added V c t k0_pay2 := by
  obtain ⟨n, hn⟩ := t
  cases n with
  | zero => rfl
  | succ n => exact if_pos h

theorem summed_last (c : Dev nD) (t : Fin cfg0.N) (h : t.val % 4 = 3) :
    summed V c t.val t.isLt = k0_pay1 (added V c t (summed V c (t.val - 1) (Nat.lt_of_le_of_lt (Nat.sub_le _ _) t.isLt))) := by
  obtain ⟨n, hn⟩ := t
  cases n with
  | zero => exact absurd (show (0 : ℕ) % 4 = 3 from h) (by decide)
  | succ n => exact (if_neg (by rw [show (n + 1) % 4 = 3 from h]; decide)).trans (if_pos h)

theorem summed_next (c : Dev nD) (t : Fin cfg0.N) (h : ¬ t.val % 4 = 0) (h' : ¬ t.val % 4 = 3) :
    summed V c t.val t.isLt = added V c t (summed V c (t.val - 1) (Nat.lt_of_le_of_lt (Nat.sub_le _ _) t.isLt)) := by
  obtain ⟨n, hn⟩ := t
  cases n with
  | zero => exact absurd rfl h
  | succ n => exact (if_neg h).trans (if_neg h')

/-- The summary's data. -/
def dat0 (c : Dev nD) : Dat τ (Elt F) Unit ℕ UU ℕ cfg0 c where
  A w := V c (Proc.devRef .tc (arrRef cfg0.spec w))
  after w t := match w with
    | ⟨0, _⟩ => blk V cfg0 c 0 t
    | ⟨1, _⟩ => blk V cfg0 c 1 t
    | ⟨2, _⟩ => blk V cfg0 c 2 t
    | ⟨3, _⟩ => summed V c t.val t.isLt
    | ⟨n + 4, h⟩ => absurd h (Nat.not_lt.2 (Nat.le_add_left _ _))
  Φ _ := Pipeline.scopedRest spec0 c
  q _ := fullShare
  owed _ := 0
  recorded _ := Set.univ

/-- The scores of the slots. -/
abbrev scored (c : Dev nD) (t : Fin cfg1.N) : Vec F S4x8192 .f32 :=
  scores (blk V cfg1 c 0 t) (blk V cfg1 c 1 t) (blk V cfg1 c 2 t) (blk V cfg1 c 3 t) (blk V cfg1 c 4 t) (blk V cfg1 c 5 t)

/-- The selection's data. -/
def dat1 (c : Dev nD) : Dat τ (Elt F) Unit ℕ UU ℕ cfg1 c where
  A w := V c (Proc.devRef .tc (arrRef cfg1.spec w))
  after w t := match w with
    | ⟨0, _⟩ => blk V cfg1 c 0 t
    | ⟨1, _⟩ => blk V cfg1 c 1 t
    | ⟨2, _⟩ => blk V cfg1 c 2 t
    | ⟨3, _⟩ => blk V cfg1 c 3 t
    | ⟨4, _⟩ => blk V cfg1 c 4 t
    | ⟨5, _⟩ => blk V cfg1 c 5 t
    | ⟨6, _⟩ => taken (scored V c t) 64
    | ⟨n + 7, h⟩ => absurd h (Nat.not_lt.2 (Nat.le_add_left _ _))
  Φ _ := Pipeline.scopedRest spec1 c
  q _ := fullShare
  owed _ := 0
  recorded _ := Set.univ

/-! ## What the bodies find -/

theorem found0_0 (c : Dev nD) (t : Fin cfg0.N) (d) : (dat0 V c).before 0 t d = blk V cfg0 c 0 t :=
  ((dat0 V c).before_in_eq_fetched 0 rfl (fun _ => rfl) (fun _ _ _ => rfl) (fun _ => rfl) t d).trans rfl
theorem found0_1 (c : Dev nD) (t : Fin cfg0.N) (d) : (dat0 V c).before 1 t d = blk V cfg0 c 1 t :=
  ((dat0 V c).before_in_eq_fetched 1 rfl (fun _ => rfl) (fun _ _ _ => rfl) (fun _ => rfl) t d).trans rfl
theorem found0_2 (c : Dev nD) (t : Fin cfg0.N) (d) : (dat0 V c).before 2 t d = blk V cfg0 c 2 t :=
  ((dat0 V c).before_in_eq_fetched 2 rfl (fun _ => rfl) (fun _ _ _ => rfl) (fun _ => rfl) t d).trans rfl
theorem found1_0 (c : Dev nD) (t : Fin cfg1.N) (d) : (dat1 V c).before 0 t d = blk V cfg1 c 0 t :=
  ((dat1 V c).before_in_eq_fetched 0 rfl (fun _ => rfl) (fun _ _ _ => rfl) (fun _ => rfl) t d).trans rfl
theorem found1_1 (c : Dev nD) (t : Fin cfg1.N) (d) : (dat1 V c).before 1 t d = blk V cfg1 c 1 t :=
  ((dat1 V c).before_in_eq_fetched 1 rfl (fun _ => rfl) (fun _ _ _ => rfl) (fun _ => rfl) t d).trans rfl
theorem found1_2 (c : Dev nD) (t : Fin cfg1.N) (d) : (dat1 V c).before 2 t d = blk V cfg1 c 2 t :=
  ((dat1 V c).before_in_eq_fetched 2 rfl (fun _ => rfl) (fun _ _ _ => rfl) (fun _ => rfl) t d).trans rfl
theorem found1_3 (c : Dev nD) (t : Fin cfg1.N) (d) : (dat1 V c).before 3 t d = blk V cfg1 c 3 t :=
  ((dat1 V c).before_in_eq_fetched 3 rfl (fun _ => rfl) (fun _ _ _ => rfl) (fun _ => rfl) t d).trans rfl
theorem found1_4 (c : Dev nD) (t : Fin cfg1.N) (d) : (dat1 V c).before 4 t d = blk V cfg1 c 4 t :=
  ((dat1 V c).before_in_eq_fetched 4 rfl (fun _ => rfl) (fun _ _ _ => rfl) (fun _ => rfl) t d).trans rfl
theorem found1_5 (c : Dev nD) (t : Fin cfg1.N) (d) : (dat1 V c).before 5 t d = blk V cfg1 c 5 t :=
  ((dat1 V c).before_in_eq_fetched 5 rfl (fun _ => rfl) (fun _ _ _ => rfl) (fun _ => rfl) t d).trans rfl

/-- At a later tile of a batch row the sum so far is the last point's. -/
theorem found0_3 (c : Dev nD) (t : Fin cfg0.N) (h : ¬ t.val % 4 = 0) (d) :
    (dat0 V c).before 3 t d = summed V c (t.val - 1) (Nat.lt_of_le_of_lt (Nat.sub_le _ _) t.isLt) := by
  have h0 : t.val ≠ 0 := fun e => h (by rw [e])
  unfold Dat.before
  rw [if_neg (by rw [Pipeline.Window.fetch_out _ rfl]; decide), if_neg h0]
  dsimp only
  rw [if_neg fun hf => by have := (flush0_3 _).mp hf; dsimp only at this; omega]
  rfl

theorem coord_tile : ∀ t : Fin cfg0.N, (grid0.coords t 1).val = t.val % 4 :=
  (by decide +kernel : ∀ t : Fin grid0.N, (grid0.coords t 1).val = t.val % 4)

theorem after1_6 (c : Dev nD) (t : Fin cfg1.N) : (dat1 V c).after 6 t = taken (scored V c t) 64 := by dsimp only [dat1]

/-! ## The bodies' obligations -/

set_option maxHeartbeats 1000000 in
theorem obligation0 (c : Dev nD) : BodyObligation (dat0 V c) (defs₀ (F := F)) Variants.none () Set.univ := fun t => by
  rw [bigSep_W0, bigSep_W0]
  rw [show (dat0 V c).Φ t.succ = (dat0 V c).Φ t.castSucc from rfl]
  rw [show (dat0 V c).owesAt () t.succ = (dat0 V c).owesAt () t.castSucc from rfl]
  by_cases ht : t.val % 4 = 0
  · rw [show (dat0 V c).after 3 t = added V c t k0_pay2 from summed_first V c t ht]
    iintro ⟨HΦ, HO, ⟨%d0, H0⟩, ⟨%d1, H1⟩, ⟨%d2, H2⟩, ⟨%d3, H3⟩⟩
    simp only [found0_0 V, found0_1 V, found0_2 V]
    ihave H0 := (owns_in c (stage_whole0 0 (cfg0.slots t 0)) _) $$ H0
    ihave H1 := (owns_in c (stage_whole0 1 (cfg0.slots t 1)) _) $$ H1
    ihave H2 := (owns_in c (stage_whole0 2 (cfg0.slots t 2)) _) $$ H2
    ihave H3 := (owns_in c (stage_whole0 3 (cfg0.slots t 3)) _) $$ H3
    iapply (summary_first c (grid0.coords t) _ (stage_whole0 0 (cfg0.slots t 0)) _ (stage_whole0 1 (cfg0.slots t 1)) _ (stage_whole0 2 (cfg0.slots t 2)) _ (stage_whole0 3 (cfg0.slots t 3)) _ _ _ _ _ _ ((coord_tile t).trans ht))
    isplitl [H0]; · iexact H0
    isplitl [H1]; · iexact H1
    isplitl [H2]; · iexact H2
    isplitl [H3]; · iexact H3
    iintro ⟨H0, H1, H2, H3⟩
    isplitl [HΦ]; · iexact HΦ
    isplitl [HO]; · iexact HO
    isplitl [H0]
    · ihave H := (owns_out c (stage_whole0 0 (cfg0.slots t 0)) _) $$ H0
      iexact H
    isplitl [H1]
    · ihave H := (owns_out c (stage_whole0 1 (cfg0.slots t 1)) _) $$ H1
      iexact H
    isplitl [H2]
    · ihave H := (owns_out c (stage_whole0 2 (cfg0.slots t 2)) _) $$ H2
      iexact H
    ihave H := (owns_out c (stage_whole0 3 (cfg0.slots t 3)) _) $$ H3
    iexact H
  by_cases ht' : t.val % 4 = 3
  · rw [show (dat0 V c).after 3 t = k0_pay1 (added V c t (summed V c (t.val - 1) (Nat.lt_of_le_of_lt (Nat.sub_le _ _) t.isLt))) from summed_last V c t ht']
    iintro ⟨HΦ, HO, ⟨%d0, H0⟩, ⟨%d1, H1⟩, ⟨%d2, H2⟩, ⟨%d3, H3⟩⟩
    simp only [found0_3 V c t ht, found0_0 V, found0_1 V, found0_2 V]
    ihave H0 := (owns_in c (stage_whole0 0 (cfg0.slots t 0)) _) $$ H0
    ihave H1 := (owns_in c (stage_whole0 1 (cfg0.slots t 1)) _) $$ H1
    ihave H2 := (owns_in c (stage_whole0 2 (cfg0.slots t 2)) _) $$ H2
    ihave H3 := (owns_in c (stage_whole0 3 (cfg0.slots t 3)) _) $$ H3
    iapply (summary_last c (grid0.coords t) _ (stage_whole0 0 (cfg0.slots t 0)) _ (stage_whole0 1 (cfg0.slots t 1)) _ (stage_whole0 2 (cfg0.slots t 2)) _ (stage_whole0 3 (cfg0.slots t 3)) _ _ _ _ _ _ ((coord_tile t).trans ht'))
    isplitl [H0]; · iexact H0
    isplitl [H1]; · iexact H1
    isplitl [H2]; · iexact H2
    isplitl [H3]; · iexact H3
    iintro ⟨H0, H1, H2, H3⟩
    isplitl [HΦ]; · iexact HΦ
    isplitl [HO]; · iexact HO
    isplitl [H0]
    · ihave H := (owns_out c (stage_whole0 0 (cfg0.slots t 0)) _) $$ H0
      iexact H
    isplitl [H1]
    · ihave H := (owns_out c (stage_whole0 1 (cfg0.slots t 1)) _) $$ H1
      iexact H
    isplitl [H2]
    · ihave H := (owns_out c (stage_whole0 2 (cfg0.slots t 2)) _) $$ H2
      iexact H
    ihave H := (owns_out c (stage_whole0 3 (cfg0.slots t 3)) _) $$ H3
    iexact H
  · rw [show (dat0 V c).after 3 t = added V c t (summed V c (t.val - 1) (Nat.lt_of_le_of_lt (Nat.sub_le _ _) t.isLt)) from summed_next V c t ht ht']
    iintro ⟨HΦ, HO, ⟨%d0, H0⟩, ⟨%d1, H1⟩, ⟨%d2, H2⟩, ⟨%d3, H3⟩⟩
    simp only [found0_3 V c t ht, found0_0 V, found0_1 V, found0_2 V]
    ihave H0 := (owns_in c (stage_whole0 0 (cfg0.slots t 0)) _) $$ H0
    ihave H1 := (owns_in c (stage_whole0 1 (cfg0.slots t 1)) _) $$ H1
    ihave H2 := (owns_in c (stage_whole0 2 (cfg0.slots t 2)) _) $$ H2
    ihave H3 := (owns_in c (stage_whole0 3 (cfg0.slots t 3)) _) $$ H3
    iapply (summary_next c (grid0.coords t) _ (stage_whole0 0 (cfg0.slots t 0)) _ (stage_whole0 1 (cfg0.slots t 1)) _ (stage_whole0 2 (cfg0.slots t 2)) _ (stage_whole0 3 (cfg0.slots t 3)) _ _ _ _ _ _ (fun e => ht ((coord_tile t).symm.trans e)) (fun e => ht' ((coord_tile t).symm.trans e)))
    isplitl [H0]; · iexact H0
    isplitl [H1]; · iexact H1
    isplitl [H2]; · iexact H2
    isplitl [H3]; · iexact H3
    iintro ⟨H0, H1, H2, H3⟩
    isplitl [HΦ]; · iexact HΦ
    isplitl [HO]; · iexact HO
    isplitl [H0]
    · ihave H := (owns_out c (stage_whole0 0 (cfg0.slots t 0)) _) $$ H0
      iexact H
    isplitl [H1]
    · ihave H := (owns_out c (stage_whole0 1 (cfg0.slots t 1)) _) $$ H1
      iexact H
    isplitl [H2]
    · ihave H := (owns_out c (stage_whole0 2 (cfg0.slots t 2)) _) $$ H2
      iexact H
    ihave H := (owns_out c (stage_whole0 3 (cfg0.slots t 3)) _) $$ H3
    iexact H

set_option maxHeartbeats 1000000 in
theorem obligation1 (c : Dev nD) : BodyObligation (dat1 V c) (defs₀ (F := F)) Variants.none () Set.univ := fun t => by
  obtain rfl := fin_N1 t
  rw [bigSep_W1, bigSep_W1]
  rw [show (dat1 V c).Φ (t1_0 : Fin cfg1.N).succ = Pipeline.scopedRest spec1 c from rfl, show (dat1 V c).Φ (t1_0 : Fin cfg1.N).castSucc = Pipeline.scopedRest spec1 c from rfl, scopedRest1_eq]
  rw [after1_6]
  rw [show (dat1 V c).owesAt () (t1_0 : Fin cfg1.N).succ = (dat1 V c).owesAt () (t1_0 : Fin cfg1.N).castSucc from rfl]
  iintro ⟨HΦ, HO, ⟨%d0, H0⟩, ⟨%d1, H1⟩, ⟨%d2, H2⟩, ⟨%d3, H3⟩, ⟨%d4, H4⟩, ⟨%d5, H5⟩, ⟨%d6, H6⟩⟩
  simp only [found1_0 V, found1_1 V, found1_2 V, found1_3 V, found1_4 V, found1_5 V]
  ihave H0 := (owns_in c (stage_whole1 0 (cfg1.slots t1_0 0)) _) $$ H0
  ihave H1 := (owns_in c (stage_whole1 1 (cfg1.slots t1_0 1)) _) $$ H1
  ihave H2 := (owns_in c (stage_whole1 2 (cfg1.slots t1_0 2)) _) $$ H2
  ihave H3 := (owns_in c (stage_whole1 3 (cfg1.slots t1_0 3)) _) $$ H3
  ihave H4 := (owns_in c (stage_whole1 4 (cfg1.slots t1_0 4)) _) $$ H4
  ihave H5 := (owns_in c (stage_whole1 5 (cfg1.slots t1_0 5)) _) $$ H5
  ihave H6 := (owns_in c (stage_whole1 6 (cfg1.slots t1_0 6)) _) $$ H6
  icases HΦ with ⟨G0, G1, G2, G3, G4, G5, ⟨%f, HS⟩⟩
  iapply (select c _ (stage_whole1 0 (cfg1.slots t1_0 0)) _ (stage_whole1 1 (cfg1.slots t1_0 1)) _ (stage_whole1 2 (cfg1.slots t1_0 2)) _ (stage_whole1 3 (cfg1.slots t1_0 3)) _ (stage_whole1 4 (cfg1.slots t1_0 4)) _ (stage_whole1 5 (cfg1.slots t1_0 5)) _ (stage_whole1 6 (cfg1.slots t1_0 6)) (Memref.whole cc1_scratch0) (Memref.isWhole_whole _))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, ⟨%g, HS⟩⟩
  isplitl [G0 G1 G2 G3 G4 G5 HS]
  · isplitl [G0]; · iexact G0
    isplitl [G1]; · iexact G1
    isplitl [G2]; · iexact G2
    isplitl [G3]; · iexact G3
    isplitl [G4]; · iexact G4
    isplitl [G5]; · iexact G5
    iexists _; iexact HS
  isplitl [HO]; · iexact HO
  isplitl [H0]
  · ihave H := (owns_out c (stage_whole1 0 (cfg1.slots t1_0 0)) _) $$ H0
    iexact H
  isplitl [H1]
  · ihave H := (owns_out c (stage_whole1 1 (cfg1.slots t1_0 1)) _) $$ H1
    iexact H
  isplitl [H2]
  · ihave H := (owns_out c (stage_whole1 2 (cfg1.slots t1_0 2)) _) $$ H2
    iexact H
  isplitl [H3]
  · ihave H := (owns_out c (stage_whole1 3 (cfg1.slots t1_0 3)) _) $$ H3
    iexact H
  isplitl [H4]
  · ihave H := (owns_out c (stage_whole1 4 (cfg1.slots t1_0 4)) _) $$ H4
    iexact H
  isplitl [H5]
  · ihave H := (owns_out c (stage_whole1 5 (cfg1.slots t1_0 5)) _) $$ H5
    iexact H
  ihave H := (owns_out c (stage_whole1 6 (cfg1.slots t1_0 6)) _) $$ H6
  iexact H

end Cert.Proof.PickDats

end
-- ==== Proof.PickRun.lean ====
/-
  The selection's run: from any memory the program ends with every buffer at the value the host operations and the two
  kernels' proof data give it.
-/
module

public import proofs.«01_k».proof.Proof.PickDats

@[expose] public section

noncomputable section

namespace Cert.Proof.PickRun

open Cert.SelectionIdeal Cert.SelectionIdeal.Gen Cert.Proof.PickBody Cert.Proof.PickDats

open Idealize.ShloMosaic Idealize.ShloMosaic.TcCoe
open Idealize.ShloMosaic.Pipeline (Dat BodyObligation arrRef arrRefs RegionSeg HostSeg Seg ucRefs)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

local notation "𝕄" => MT nD τ sig Unit (Elt F) ℕ UU ℕ

def EP : Emb (URounds (GSem nD τ sig) Unit) (MT nD τ sig Unit (Elt F) ℕ UU ℕ) := embL

instance EP_landsIn : (EP : Emb (URounds (GSem nD τ sig) Unit) 𝕄).LandsIn (upEmb : UEmb _ 𝕄) := by unfold EP; infer_instance

variable (m : (ℓ : Loc nD τ sig) → Buf (Elt F) ℓ)

/-- The buffers before the summary, after it, before the selection and at the end. -/
abbrev W1 (c : Dev nD) : Valuation τ sig (Elt F) := StableHlo.after hostOps0 fun b => m (c, b)
def W2 (c : Dev nD) : Valuation τ sig (Elt F) := Pipeline.afterRegion (dat0 (W1 m) c) (W1 m c)
abbrev W3 (c : Dev nD) : Valuation τ sig (Elt F) := StableHlo.after hostOps1 (W2 m c)
def W4 (c : Dev nD) : Valuation τ sig (Elt F) := Pipeline.afterRegion (dat1 (W3 m) c) (W3 m c)

def dats : (p : Fin 2) → (c : Dev nD) → Dat τ (Elt F) Unit ℕ UU ℕ (cfgs p) c
  | ⟨0, _⟩, c => dat0 (W1 m) c
  | ⟨1, _⟩, c => dat1 (W3 m) c
  | ⟨n + 2, h⟩, _ => absurd h (Nat.not_lt.2 (Nat.le_add_left _ _))

abbrev L : GSem nD τ sig → Finset Unit := fun _ => ∅
abbrev lv : GSem nD τ sig → Unit → ℕ := fun _ _ => 0

/-- The core owing nothing. -/
abbrev calm (c : Dev nD) : sProp 𝕄 := iprop(∃ W, owes (c : Thread nD τ) (0 : CellTallies nD τ sig Unit) W)

/-- Between two items: every unscoped buffer at the valuation, the core calm. -/
abbrev state (V : Dev nD → Valuation τ sig (Elt F)) (c : Dev nD) : sProp 𝕄 := iprop(held (c : Thread nD τ) (ucRefs τ sig) (V c) ∗ calm c)

/-- The valuation each kernel starts from. -/
def starts : Fin 2 → Dev nD → Valuation τ sig (Elt F)
  | ⟨0, _⟩ => W1 m
  | ⟨1, _⟩ => W3 m
  | ⟨n + 2, h⟩ => absurd h (Nat.not_lt.2 (Nat.le_add_left _ _))

abbrev pins (p : Fin 2) := Pipeline.pin (pcfgs (F := F)) adm p

theorem obligation : ∀ (p : Fin 2) (c : Dev nD), Pipeline.BodyObligationLoose (dats m p c) (defs₀ (F := F)) Variants.none () Set.univ
  | ⟨0, _⟩, c => (obligation0 (W1 m) c).loose
  | ⟨1, _⟩, c => (obligation1 (W3 m) c).loose
  | ⟨n + 2, h⟩, _ => absurd h (Nat.not_lt.2 (Nat.le_add_left _ _))

theorem kit : ∀ p : Fin 2, Pipeline.PLaunchFacts (nD := nD) (τ := τ) (pcfgs (F := F)) p
  | ⟨0, _⟩ => launch0.toP
  | ⟨1, _⟩ => launch1.toP
  | ⟨n + 2, h⟩ => absurd h (Nat.not_lt.2 (Nat.le_add_left _ _))

theorem owed_eq : ∀ (p : Fin 2) (c : Dev nD) (t), (dats m p c).owed t = 0
  | ⟨0, _⟩, _, _ => rfl
  | ⟨1, _⟩, _, _ => rfl
  | ⟨n + 2, h⟩, _, _ => absurd h (Nat.not_lt.2 (Nat.le_add_left _ _))

theorem recorded_eq : ∀ (p : Fin 2) (c : Dev nD) (t), (dats m p c).recorded t = Set.univ
  | ⟨0, _⟩, _, _ => rfl
  | ⟨1, _⟩, _, _ => rfl
  | ⟨n + 2, h⟩, _, _ => absurd h (Nat.not_lt.2 (Nat.le_add_left _ _))

theorem inv0_eq (c : Dev nD) (t : Fin (cfg0.N + 1)) : (dat0 (W1 m) c).Φ t = Pipeline.scopedRest spec0 c := rfl
theorem inv1_eq (c : Dev nD) (t : Fin (cfg1.N + 1)) : (dat1 (W3 m) c).Φ t = Pipeline.scopedRest spec1 c := rfl

theorem inv_eq (p : Fin 2) (c : Dev nD) (t : Fin ((pins (F := F) p).N + 1)) : (dats m p c).Φ t = Pipeline.scopedRest (pins (F := F) p).spec c := by
  match p with
  | ⟨0, _⟩ => exact inv0_eq m c t
  | ⟨1, _⟩ => exact inv1_eq m c t
  | ⟨n + 2, h⟩ => exact absurd h (Nat.not_lt.2 (Nat.le_add_left _ _))

theorem share_eq : ∀ (p : Fin 2) (c : Dev nD) (w), (dats m p c).share w = fullShare
  | ⟨0, _⟩, c, w => by unfold Dat.share; exact ite_self _
  | ⟨1, _⟩, c, w => by unfold Dat.share; exact ite_self _
  | ⟨n + 2, h⟩, _, _ => absurd h (Nat.not_lt.2 (Nat.le_add_left _ _))

theorem start_eq : ∀ (p : Fin 2) (c : Dev nD) (w), (dats m p c).arrAt w 0 = starts m p c (Proc.devRef .tc (arrRef (pins (F := F) p).spec w))
  | ⟨0, _⟩, _, _ => rfl
  | ⟨1, _⟩, _, _ => rfl
  | ⟨n + 2, h⟩, _, _ => absurd h (Nat.not_lt.2 (Nat.le_add_left _ _))

theorem no_table : ∀ p : Fin 2, (pcfgs (F := F) p).pre.K = 0 := fun _ => rfl

theorem arrays_unscoped : ∀ p : Fin 2, arrRefs (τ := τ) (pcfgs (F := F) p).spec ⊆ ucRefs τ sig
  | ⟨0, _⟩ => Pipeline.arrRefs_sub_ucRefs spec0 winFacts0.arr_unscoped
  | ⟨1, _⟩ => Pipeline.arrRefs_sub_ucRefs spec1 winFacts1.arr_unscoped
  | ⟨n + 2, h⟩ => absurd h (Nat.not_lt.2 (Nat.le_add_left _ _))

/-- The region's record: every buffer held at the valuation, the core calm. -/
def reg (p : Fin 2) : RegionSeg (pcfgs (F := F)) adm (dats m) () defs₀ Variants.none L lv p where
  win := (kit (F := F) p).win.to₀
  block_pos := (kit (F := F) p).block_pos
  stage_whole := (kit (F := F) p).stage_whole
  K := PEmpty
  osem k := k.elim
  ho := Pipeline.OwnSemFacts.none _
  hbody := obligation m p
  hwaits c := (show (levAts L lv : sProp 𝕄) ⊢ BI.emp from by iintro -; iempintro).trans
    (Pipeline.cellsWaits_of_owed_zero (pins (F := F)) (dats m) () p c (owed_eq m p c))
  pre c := state (starts m p) c
  post c := state (fun c => Pipeline.afterRegion (dats m p c) (starts m p c)) c
  X _ := iprop(emp)
  Y _ := iprop(emp)
  Z c := held (c : Thread nD τ) (ucRefs τ sig \ arrRefs (pcfgs (F := F) p).spec) (starts m p c)
  hentry c := by
    unfold state
    rw [Pipeline.ownSems0_none, Pipeline.prefHeld_of_none _ (no_table p), StableHlo.held_sub_split (c : Thread nD τ) (arrays_unscoped (F := F) p) (starts m p c),
      ← Pipeline.arrays_held (pcfgs (F := F)) adm (dats m) p (kit p) c (share_eq m p c) ((dats m p c).arrAt · 0) (starts m p c) (start_eq m p c)]
    iintro ⟨⟨⟨Ha, Hu⟩, %W, HO⟩, -, -⟩
    imodintro
    isplitl [Ha]; · iexact Ha
    isplitr; · iempintro
    isplitl [HO]
    · unfold Dat.owesAt Pipeline.owesWithin Dat.bound
      rw [owed_eq m p c 0, recorded_eq m p c 0]
      iexists W; isplitr; · ipureintro; exact fun _ _ => Or.inl trivial
      iexact HO
    isplitr; · iempintro
    iexact Hu
  hin c := by
    rw [inv_eq]
    iintro ⟨-, -, H⟩
    iexact H
  hout c := by
    rw [inv_eq, Pipeline.ownSems0_none]
    iintro H
    isplitr; · iempintro
    isplitr; · iempintro
    iexact H
  hexit c := by
    unfold state
    rw [StableHlo.held_sub_split (c : Thread nD τ) (arrays_unscoped (F := F) p) (Pipeline.afterRegion (dats m p c) (starts m p c)),
      StableHlo.held_congr (c : Thread nD τ) (S := ucRefs τ sig \ arrRefs (pcfgs (F := F) p).spec) (V := Pipeline.afterRegion (dats m p c) (starts m p c)) (V' := starts m p c)
        (Pipeline.afterRegion_off (dats m p c) (starts m p c) (ucRefs τ sig)),
      ← Pipeline.arrays_held (pcfgs (F := F)) adm (dats m) p (kit p) c (share_eq m p c) ((dats m p c).arrAt · (pins (F := F) p).N)
      (Pipeline.afterRegion (dats m p c) (starts m p c)) (fun w => (Pipeline.afterRegion_arr (dats m p c) (starts m p c) (kit (F := F) p).win.arr_inj w).symm)]
    iintro ⟨Ha, HO, -, Hu⟩
    imodintro
    isplitr [HO]
    · isplitl [Ha]; · iexact Ha
      iexact Hu
    unfold Dat.owesAt Pipeline.owesWithin
    rw [owed_eq m p c]
    icases HO with ⟨%W, -, HO⟩
    iexists W
    iexact HO

/-- The host's two stretches. -/
def host0 : HostSeg (Name := ℕ) (U := UU) (pcfgs (F := F)) defs₀ Variants.none L lv :=
  HostSeg.ofOps _ _ _ _ _ (ucRefs τ sig) hostOps0 (fun op h => Pipeline.sub_ucRefs op ((List.forall_iff_forall_mem.mp hostOps0_sub) op h))
    (by intro _ h; (repeat (cases h with | head => rfl | tail _ h => ?_)); exact nomatch h) (fun c b => m (c, b)) calm
def host1 : HostSeg (Name := ℕ) (U := UU) (pcfgs (F := F)) defs₀ Variants.none L lv :=
  HostSeg.ofOps _ _ _ _ _ (ucRefs τ sig) hostOps1 (fun op h => Pipeline.sub_ucRefs op ((List.forall_iff_forall_mem.mp hostOps1_sub) op h))
    (by intro _ h; (repeat (cases h with | head => rfl | tail _ h => ?_)); exact nomatch h) (W2 m) calm

abbrev items : List (Seg (pcfgs (F := F)) adm (dats m) () defs₀ Variants.none L lv) := [.host (host0 m), .region (reg m 0), .host (host1 m), .region (reg m 1)]

def u₀ : UU := (initOf (Pipeline.cells cfgs cellOf_inj) (Pipeline.launchToks cfgs cellOf_inj), 1)

set_option backward.isDefEq.respectTransparency.types false in
/-- Every buffer that outlives the run, at its computed contents. -/
theorem run_main (ρ : Dev nD → PrngReg) : θ_run defs (onTc (τ := τ) (main (F := F))) ⟨m, fun _ => 0, ρ⟩
    (fun r => (∀ c : Dev nD, ∀ b ∈ ucRefs τ sig, r.2.mem (c, b) = W4 m c b) ∧ r.2.sem = fun _ => 0) := by
  refine Pipeline.θ_run_regions_kit_dev_sems (pcfgs (F := F)) adm (dats m) () cellOf_inj EP defs₀ Variants.none L lv m ρ main (fun _ => items m)
    (fun c Q => by
      rewrite [main_chain c, Seg.run_eq_chain,
        show (items m).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [items, Seg.pipes_host, Seg.pipes_region, Seg.pipes_nil]; decide) (O₀ := 0) (hL := fun _ _ => rfl) (G := fun _ => iprop(emp)) (u₀ := u₀)
    (hu₀ := ?_)
    (T₀ := fun c => state (fun c b => m (c, b)) c) (Tₙ := fun c => held (c : Thread nD τ) (ucRefs τ sig) (W4 m c))
    (hch := fun c => ⟨.rfl, .rfl, .rfl, .rfl, .rfl⟩) (hinit := ?_)
    (QY := fun c s => ∀ b ∈ ucRefs τ sig, s.mem (c, b) = W4 m c b)
    (hfin := fun c s' => ?_) (hQ := fun _ h hz => ⟨h, funext fun g => hz g (.inr (regions_no_unscoped g.2))⟩)
  · unfold EP u₀
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · refine Pipeline.initEach L lv fun c => ?_
    unfold state
    rw [← Pipeline.unscopedBufs_held (Ix := Unit) (Name := ℕ) (U := UU) (Lvl := ℕ) c (fun b => m (c, b))]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (ucRefs τ sig) (fun b => ((c : Thread nD τ).1, b)) (W4 m c) s') $$ [Hh HSI]
    · isplitl [Hh] <;> iassumption
    icases Hr with ⟨%h, HSI⟩
    imodintro
    isplitr
    · ipureintro; exact h
    iexact HSI

end Cert.Proof.PickRun

end
-- ==== Proof.PickFrames.lean ====
/-
  What the selection's run leaves alone, and the frames that follow: the program's, its idealization's and its reference's.
-/
module

public import proofs.«01_k».proof.Proof.PickRun
public import proofs.«01_k».proof.Proof.Twin
public import Idealize.ShloMosaic.Lib.StableHlo.RunRead
public import proofs.«01_k».proof.Proof.Gen.Selection
public import proofs.«01_k».proof.Proof.Gen.SelectionReferenceIdeal
public import proofs.«01_k».proof.Proof.Gen.SelectionReferenceIdeal.Run
public import proofs.«01_k».proof.Proof.Gen.Pre_finite

@[expose] public section

noncomputable section

namespace Cert.Proof.PickFrames

open Cert.SelectionIdeal Cert.SelectionIdeal.Gen Cert.Proof.PickDats Cert.Proof.PickRun
open Idealize.ShloMosaic Idealize.ShloMosaic.TcCoe Idealize.SL.Sem

section

variable {F : FTy → Type} [FloatOps F] [∀ e, Nonempty (Elt F e)]
variable (m : (ℓ : Loc nD τ sig) → Buf (Elt F) ℓ) (d : Dev nD)

theorem kept1 (r : Ref sig .tc) (h : r ∉ hostOps0_W) : W1 m d (Proc.devRef .tc r) = m ((d.tc : Thread nD τ).loc r) :=
  StableHlo.after_unwritten hostOps0_W rfl h fun b => m (d, b)

theorem kept2 (r : Ref sig .tc) (h : r ≠ main_v4) : W2 m d (Proc.devRef .tc r) = W1 m d (Proc.devRef .tc r) := by
  refine Pipeline.afterRegion_keeps _ _ (kit (F := F) 0).win.arr_inj (start_eq m 0 d) r fun w hw => ?_
  change Fin 4 at w
  fin_cases w
  all_goals first | rfl | exact absurd hw.symm h

theorem kept3 (r : Ref sig .tc) (h : r ∉ hostOps1_W) : W3 m d (Proc.devRef .tc r) = W2 m d (Proc.devRef .tc r) :=
  StableHlo.after_unwritten hostOps1_W rfl h (W2 m d)

theorem kept4 (r : Ref sig .tc) (h : r ≠ main_v6) : W4 m d (Proc.devRef .tc r) = W3 m d (Proc.devRef .tc r) := by
  refine Pipeline.afterRegion_keeps _ _ (kit (F := F) 1).win.arr_inj (start_eq m 1 d) r fun w hw => ?_
  change Fin 7 at w
  fin_cases w
  all_goals first | rfl | exact absurd hw.symm h

/-- A buffer no step writes. -/
theorem same (r : Ref sig .tc) (h0 : r ∉ hostOps0_W) (h : r ≠ main_v4) (h1 : r ∉ hostOps1_W) (h' : r ≠ main_v6) :
    W4 m d (Proc.devRef .tc r) = m ((d.tc : Thread nD τ).loc r) := by
  rw [kept4 m d r h', kept3 m d r h1, kept2 m d r h, kept1 m d r h0]

/-- At a final state. -/
theorem kept_at {F : FTy → Type} [FloatOps F] [∀ e, Nonempty (Elt F e)] (m : (ℓ : Loc nD τ sig) → Buf (Elt F) ℓ) {s : (ℓ : Loc nD τ sig) → Buf (Elt F) ℓ} (h : ∀ c : Dev nD, ∀ b ∈ Pipeline.ucRefs τ sig, s (c, b) = W4 m c b) (c : Dev nD) (b : Ref sig .tc)
    (hu : (Proc.devRef .tc b : DevRef τ sig) ∈ Pipeline.ucRefs τ sig) (h0 : b ∉ hostOps0_W) (h4 : b ≠ main_v4) (h1 : b ∉ hostOps1_W) (h6 : b ≠ main_v6) :
    s ((c.tc : Thread nD τ).loc b) = m ((c.tc : Thread nD τ).loc b) :=
  (h c _ hu).trans (same m c b h0 h4 h1 h6)

theorem kept_args (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => by
      refine ⟨?_, ?_, ?_, ?_, ?_, ?_, ?_, ?_⟩ <;> exact kept_at m h.1 c _ (by decide) (by decide) (by decide) (by decide) (by decide), h.2⟩)
    (run_main (F := F) m ρ)

end

theorem frame_ideal : Cert.quiescent_SelectionIdeal := fun m ρ _ => kept_args (F := Ideal) m ρ
theorem frame_ideal_finite : Cert.quiescent_SelectionIdeal_pre_finite := fun m ρ _ => kept_args (F := Ideal) m ρ

theorem frame_reference : Cert.quiescent_SelectionReferenceIdeal := fun m ρ _ =>
  (θ_run Cert.SelectionReferenceIdeal.defs _ _).mono (fun r h => ⟨fun c => (h c).2, sem_eq_zero_of_no_sems (by decide) r.2⟩)
    (Cert.SelectionReferenceIdeal.Value.run (F := Ideal) m ρ)
theorem frame_reference_finite : Cert.quiescent_SelectionReferenceIdeal_pre_finite := fun m ρ _ =>
  (θ_run Cert.SelectionReferenceIdeal.defs _ _).mono (fun r h => ⟨fun c => (h c).2, sem_eq_zero_of_no_sems (by decide) r.2⟩)
    (Cert.SelectionReferenceIdeal.Value.run (F := Ideal) m ρ)

end Cert.Proof.PickFrames
end
-- ==== Proof.PickTwin.lean ====
/-
  The selection's program and its idealization are the same program, so its frame is its idealization's.
-/
module

public import proofs.«01_k».proof.Proof.PickFrames

@[expose] public section

set_option maxRecDepth 100000

noncomputable section

namespace Cert.Proof.PickTwin

open Idealize.ShloMosaic Idealize.ShloMosaic.TcCoe Idealize.SL.Sem

set_option maxHeartbeats 0 in
theorem defs₀_eq : (@Cert.Selection.defs₀ Bits _ Cert.Selection.Gen.facts : Defs Cert.SelectionIdeal.nD Cert.SelectionIdeal.τ Cert.SelectionIdeal.sig (Elt Bits) (@Cert.SelectionIdeal.Λ₀ Cert.SelectionIdeal.Gen.facts))
    = @Cert.SelectionIdeal.defs₀ Bits _ Cert.SelectionIdeal.Gen.facts := by
  funext p ℓ a
  cases p with
  | tc => change Fin 2 at ℓ; fin_cases ℓ <;> rfl
  | scScalar c => rfl
  | scVector c s => rfl

set_option maxHeartbeats 0 in
theorem defs_eq : @Cert.Selection.defs Bits _ Cert.Selection.Gen.facts = @Cert.SelectionIdeal.defs Bits _ Cert.SelectionIdeal.Gen.facts :=
  congrArg (fun d => Pipeline.defs (@Cert.SelectionIdeal.pcfgs Bits Cert.SelectionIdeal.Gen.facts) d) defs₀_eq

set_option maxHeartbeats 0 in
theorem main_eq : @Cert.Selection.main Bits Cert.Selection.Gen.facts = @Cert.SelectionIdeal.main Bits Cert.SelectionIdeal.Gen.facts := rfl

set_option maxHeartbeats 0 in
theorem frame_selection : Cert.quiescent_Selection := fun m ρ _ =>
  Twin.run_of_eq defs_eq (congrArg (fun x => onTc (τ := Cert.SelectionIdeal.τ) x) main_eq) _ _ (PickFrames.kept_args (F := Bits) m ρ)

end Cert.Proof.PickTwin
end
-- ==== Proof.PickArrays.lean ====
/-
  The summary's and the selection's blocks as pieces of their arrays, and each result array from the blocks the grid writes.
-/
module

public import proofs.«01_k».proof.Proof.PickRun
public import Idealize.ShloMosaic.Lib.Pointwise

@[expose] public section

noncomputable section

namespace Cert.Proof.PickArrays

set_option maxRecDepth 100000

open Cert.SelectionIdeal Cert.SelectionIdeal.Gen Cert.Proof.PickDats
open Idealize.ShloMosaic Idealize.ShloMosaic.TcCoe
open Idealize.ShloMosaic.Pipeline (Dat arrRef)

variable {F : FTy → Type} [FloatOps F] [∀ e, Nonempty (Elt F e)]
variable (V : Dev nD → Valuation τ sig (Elt F)) (c : Dev nD)

/-- A device's buffer at a valuation. -/
abbrev at' (b : Ref sig .tc) := V c (Proc.devRef .tc b)

/-! ## Blocks that are whole arrays -/

theorem whole0_1 (t : Fin cfg0.N) : blk V cfg0 c 1 t = at' V c main_v0 :=
  have hz : (fun a => win0_1.index t a * main_v0.ty.shape.size a) = fun _ => 0 := funext fun a => by fin_cases a <;> rfl
  Memref.read_access_unit_zero (Elt F) main_v0 hz (fun a => by rw [congrFun hz a]; simp) _
theorem whole0_2 (t : Fin cfg0.N) : blk V cfg0 c 2 t = at' V c main_v1 :=
  have hz : (fun a => win0_2.index t a * main_v1.ty.shape.size a) = fun _ => 0 := funext fun a => by fin_cases a <;> rfl
  Memref.read_access_unit_zero (Elt F) main_v1 hz (fun a => by rw [congrFun hz a]; simp) _
theorem whole1_0 (t : Fin cfg1.N) : blk V cfg1 c 0 t = at' V c main_v5 :=
  have hz : (fun a => win1_0.index t a * main_v5.ty.shape.size a) = fun _ => 0 := funext fun a => by fin_cases a <;> rfl
  Memref.read_access_unit_zero (Elt F) main_v5 hz (fun a => by rw [congrFun hz a]; simp) _
theorem whole1_1 (t : Fin cfg1.N) : blk V cfg1 c 1 t = at' V c main_arg5 :=
  have hz : (fun a => win1_1.index t a * main_arg5.ty.shape.size a) = fun _ => 0 := funext fun a => by fin_cases a <;> rfl
  Memref.read_access_unit_zero (Elt F) main_arg5 hz (fun a => by rw [congrFun hz a]; simp) _
theorem whole1_2 (t : Fin cfg1.N) : blk V cfg1 c 2 t = at' V c main_v2 :=
  have hz : (fun a => win1_2.index t a * main_v2.ty.shape.size a) = fun _ => 0 := funext fun a => by fin_cases a <;> rfl
  Memref.read_access_unit_zero (Elt F) main_v2 hz (fun a => by rw [congrFun hz a]; simp) _
theorem whole1_3 (t : Fin cfg1.N) : blk V cfg1 c 3 t = at' V c main_arg2 :=
  have hz : (fun a => win1_3.index t a * main_arg2.ty.shape.size a) = fun _ => 0 := funext fun a => by fin_cases a <;> rfl
  Memref.read_access_unit_zero (Elt F) main_arg2 hz (fun a => by rw [congrFun hz a]; simp) _
theorem whole1_4 (t : Fin cfg1.N) : blk V cfg1 c 4 t = at' V c main_v3 :=
  have hz : (fun a => win1_4.index t a * main_v3.ty.shape.size a) = fun _ => 0 := funext fun a => by fin_cases a <;> rfl
  Memref.read_access_unit_zero (Elt F) main_v3 hz (fun a => by rw [congrFun hz a]; simp) _
theorem whole1_5 (t : Fin cfg1.N) : blk V cfg1 c 5 t = at' V c main_arg1 :=
  have hz : (fun a => win1_5.index t a * main_arg1.ty.shape.size a) = fun _ => 0 := funext fun a => by fin_cases a <;> rfl
  Memref.read_access_unit_zero (Elt F) main_arg1 hz (fun a => by rw [congrFun hz a]; simp) _

/-! ## Blocks of a batch row -/

/-- Tile `u` of batch row `b`. -/
abbrev pt (b u : Fin 4) : Fin cfg0.N := ⟨4 * b.val + u.val, by rw [show cfg0.N = 16 from N_0]; omega⟩

theorem pt_surj (t : Fin cfg0.N) : ∃ b u : Fin 4, t = pt b u := by
  have h : t.val < 16 := lt_of_lt_of_eq t.isLt N_0
  exact ⟨⟨t.val / 4, by omega⟩, ⟨t.val % 4, by omega⟩, Fin.ext (by show t.val = 4 * (t.val / 4) + t.val % 4; omega)⟩

theorem index0_0 : ∀ b u : Fin 4, win0_0.index (pt b u) 0 = b.val ∧ win0_0.index (pt b u) 1 = u.val ∧ win0_0.index (pt b u) 2 = 0 := by decide
theorem index0_3 : ∀ b u : Fin 4, win0_3.index (pt b u) 0 = b.val ∧ win0_3.index (pt b u) 1 = 0 ∧ win0_3.index (pt b u) 2 = 0 := by decide

theorem block0_0 (b u : Fin 4) (a : Fin 512) (i : Fin 1024) :
    (blk V cfg0 c 0 (pt b u) : S1x512x1024.Idx → Elt F .f32) (ix3 0 a i) = (at' V c main_arg0 : S4x2048x1024.Idx → Elt F .f32) (ix3 b ⟨512 * u.val + a.val, by omega⟩ i) := by
  show (at' V c main_arg0 : S4x2048x1024.Idx → Elt F .f32) (((cfg0.win 0).blk (pt b u)).view.emb _) = _
  refine congrArg _ (funext fun x => Fin.ext ?_)
  obtain ⟨h0, h1, h2⟩ := index0_0 b u
  match x with
  | 0 => show win0_0.index (pt b u) 0 * 1 + 1 * 0 = b.val; omega
  | 1 => show win0_0.index (pt b u) 1 * 512 + 1 * a.val = 512 * u.val + a.val; omega
  | 2 => show win0_0.index (pt b u) 2 * 1024 + 1 * i.val = i.val; omega

/-! ## The result arrays -/

/-- The summary's array: `G`, if what each batch row's last tile leaves is `G`'s. -/
theorem final0_3 (G : S4x1x1024.Idx → Elt F .f32)
    (hG : ∀ (b : Fin 4) (k : Fin 1024), (summed V c (pt b 3).val (pt b 3).isLt : S1x1x1024.Idx → Elt F .f32) (ix3 0 0 k) = G (ix3 b 0 k)) :
    (dat0 V c).arrAt 3 cfg0.N = (G : Buf (Elt F) ((cfg0.win 3).arr.view.loc (c.tc : Thread nD τ))) := by
  refine (dat0 V c).arrAt_eq_of_cover 3 _ (fun t ht => ?_) fun i => ?_
  · obtain ⟨b, u, rfl⟩ := pt_surj t
    obtain rfl : u = 3 := Fin.ext (by
      have h : (4 * b.val + u.val) % 4 = 3 := (flush0_3 (pt b u)).mp ht
      have hu := u.isLt
      show u.val = 3
      omega)
    refine funext fun (j : S1x1x1024.Idx) => ?_
    idx_vars j
    obtain rfl : j0 = 0 := Subsingleton.elim _ _
    obtain rfl : j1 = 0 := Subsingleton.elim _ _
    refine (hG b j2).trans ?_
    show _ = G (((cfg0.win 3).blk (pt b 3)).view.emb _)
    refine congrArg _ (funext fun x => Fin.ext ?_)
    obtain ⟨h0, h1, h2⟩ := index0_3 b 3
    match x with
    | 0 => show b.val = win0_3.index (pt b 3) 0 * 1 + 1 * 0; omega
    | 1 => show 0 = win0_3.index (pt b 3) 1 * 1 + 1 * 0; omega
    | 2 => show j2.val = win0_3.index (pt b 3) 2 * 1024 + 1 * j2.val; omega
  · have e0 : (i 0 : Nat) < 4 := (i 0).isLt
    have e1 : (i 1 : Nat) < 1 := (i 1).isLt
    have e2 : (i 2 : Nat) < 1024 := (i 2).isLt
    obtain ⟨b, hb⟩ : ∃ b : Fin 4, b.val = (i 0 : Nat) := ⟨⟨(i 0).val, e0⟩, rfl⟩
    refine ⟨pt b 3, (flush0_3 _).mpr (by show (4 * b.val + 3) % 4 = 3; omega), ?_⟩
    obtain ⟨h0, h1, h2⟩ := index0_3 b 3
    show i ∈ ((View.whole main_v4).slice (win0_3.rect (pt b 3))).set
    rw [View.set_slice_whole, Rect.mem_set_unit]
    intro a
    match a with
    | ⟨0, _⟩ => show win0_3.index _ 0 * 1 ≤ (i 0 : Nat) ∧ (i 0 : Nat) < win0_3.index _ 0 * 1 + 1; rw [h0]; omega
    | ⟨1, _⟩ => show win0_3.index _ 1 * 1 ≤ (i 1 : Nat) ∧ (i 1 : Nat) < win0_3.index _ 1 * 1 + 1; rw [h1]; omega
    | ⟨2, _⟩ => show win0_3.index _ 2 * 1024 ≤ (i 2 : Nat) ∧ (i 2 : Nat) < win0_3.index _ 2 * 1024 + 1024; rw [h2]; omega

/-- The scores of the whole arrays. -/
def scoresOf : Vec F S4x8192 .f32 :=
  PickBody.scores (at' V c main_v5) (at' V c main_arg5) (at' V c main_v2) (at' V c main_arg2) (at' V c main_v3) (at' V c main_arg1)

/-- The indices' array: what the one point leaves. -/
theorem final1_6 : (dat1 V c).arrAt 6 cfg1.N = PickBody.taken (scoresOf V c) 64 := by
  have hz : (fun a => win1_6.index t1_0 a * main_v6.ty.shape.size a) = fun _ => 0 := funext fun a => by fin_cases a <;> rfl
  refine (dat1 V c).arrAt_eq_of_cover 6 _ (fun t _ => ?_) fun i => ⟨t1_0, flush1_6 t1_0, ?_⟩
  · obtain rfl : t = t1_0 := fin_N1 t
    show (cfg1.win 6).cut (grid1.coords t1_0) ((dat1 V c).after 6 t1_0) = _
    have e : scored V c t1_0 = scoresOf V c := by
      unfold scored scoresOf
      rw [whole1_0, whole1_1, whole1_2, whole1_3, whole1_4, whole1_5]
    rw [after1_6, e]
    exact (Memref.read_access_unit_zero (Elt F) main_v6 hz (fun a => by rw [congrFun hz a]; simp) _).symm
  · show i ∈ ((View.whole main_v6).slice (win1_6.rect t1_0)).set
    rw [View.set_slice_whole, Rect.mem_set_unit]
    intro a
    have h := (i a).isLt
    match a with
    | ⟨0, _⟩ => exact ⟨Nat.zero_le _, h⟩
    | ⟨1, _⟩ => exact ⟨Nat.zero_le _, h⟩

end Cert.Proof.PickArrays
end
-- ==== Proof.PickMath.lean ====
/-
  The summary's and the selection's arithmetic at an element over the extended reals, and the reference's.
-/
module

public import proofs.«01_k».proof.Proof.PickBody
public import proofs.«01_k».proof.Proof.Spec
public import proofs.«01_k».proof.Proof.Gen.SelectionReferenceIdeal
public import Idealize.ShloMosaic.Lib.Pipeline.ValueKit.Tiles
public import Idealize.ShloMosaic.Lib.Pointwise

@[expose] public section

noncomputable section

namespace Cert.Proof.PickMath

open Idealize.ShloMosaic
set_option maxRecDepth 16384

/-! ## The kernels -/

section
open Cert.SelectionIdeal Cert.SelectionIdeal.Gen

theorem added_at (X0 : Vec Ideal S1x512x1024 .f32) (X1 X2 : Vec Ideal S1x1024 .f32) (A : Vec Ideal S1x1x1024 .f32) (i : Fin 1024) :
    k0_pay3 (F := Ideal) X0 X1 X2 A (ix3 0 0 i)
      = A (ix3 0 0 i) + ∑ t : Fin 512, Spec.normK (fun i => X0 (ix3 0 t i)) (fun i => X1 (ix2 0 i)) (fun i => X2 (ix2 0 i)) i := by
  pointwise [k0_pay3, Spec.normK, Spec.cen, Spec.var]
theorem none_at (i : Fin 1024) : k0_pay2 (F := Ideal) (ix3 0 0 i) = 0 := by
  pointwise [k0_pay2]
theorem mean_at (A : Vec Ideal S1x1x1024 .f32) (i : Fin 1024) : k0_pay1 (F := Ideal) A (ix3 0 0 i) = A (ix3 0 0 i) * Ideal.ofBits .f32 0x3A000000#32 := by
  pointwise [k0_pay1]

theorem score_raw (X0 : Vec Ideal S4x1024 .f32) (X1 : Vec Ideal S1024x1024 .f32) (X2 : Vec Ideal S1x1024 .f32) (X5 : Vec Ideal S8192x1024 .f32)
    (w : Elt Ideal .f32) (X3 : Vec Ideal S4x8192 .f32) (p : Fin 4) (n : Fin 8192) (q : Fin 1024 → EReal)
    (hq : q = Spec.lin (fun i => X0 (ix2 p i)) (fun n i => X1 (ix2 n i)) (fun i => X2 (ix2 0 i))) :
    k1_pay1 (F := Ideal) X0 X1 X2 X5 w X3 (ix2 p n)
      = (∑ c, q c * X5 (ix2 n c)) + ((∑ c, q c * (X5 (ix2 n c) - X5 (ix2 n c))) + ∑ c, (q c - q c) * X5 (ix2 n c)) + w * X3 (ix2 p n) := by
  subst hq
  pointwise [k1_pay1, Spec.lin]
end

/-! ## The reference -/

section
open Cert.SelectionReferenceIdeal Cert.SelectionReferenceIdeal.Gen

/-- The mean over the last axis. -/
def mean (x : FVec Ideal S4x2048x1024 .f32) : FVec Ideal S4x2048x1 .f32 :=
  Host.divf (broadcastInDim S4x2048x1 ![0, 1] bcast_S4x2048_S4x2048x1_0_1 (Host.reduceAdd x (constant S_ .f32 0x00000000#32) reducesTo_S4x2048x1024_S4x2048_d2 h_S_))
    (broadcastInDim S4x2048x1 ![] bcast_S_S4x2048x1 (constant S_ .f32 0x44800000#32))
/-- One value a position, along the last axis. -/
def spread (x : FVec Ideal S4x2048x1 .f32) : FVec Ideal S4x2048x1024 .f32 := broadcastInDim S4x2048x1024 ![0, 1, 2] bcast_S4x2048x1_S4x2048x1024_0_1_2 x
def centred (x : FVec Ideal S4x2048x1024 .f32) : FVec Ideal S4x2048x1024 .f32 := subf x (spread (mean x))
/-- The square root of the variance and a little. -/
def deviation (x : FVec Ideal S4x2048x1024 .f32) : FVec Ideal S4x2048x1 .f32 :=
  Host.sqrt (addf (mean (mulf (centred x) (centred x))) (broadcastInDim S4x2048x1 ![] bcast_S_S4x2048x1 (constant S_ .f32 0x3727C5AC#32)))
/-- A vector along every position. -/
def row (v : FVec Ideal S1024 .f32) : FVec Ideal S4x2048x1024 .f32 :=
  broadcastInDim S4x2048x1024 ![0, 1, 2] bcast_S1x1x1024_S4x2048x1024_0_1_2 (broadcastInDim S1x1x1024 ![2] bcast_S1024_S1x1x1024_2 v)
/-- The layer norm. -/
def norm (x : FVec Ideal S4x2048x1024 .f32) (g b : FVec Ideal S1024 .f32) : FVec Ideal S4x2048x1024 .f32 :=
  addf (mulf (Host.divf (centred x) (spread (deviation x))) (row g)) (row b)
/-- The mean over the positions. -/
def summary (x : FVec Ideal S4x2048x1024 .f32) : FVec Ideal S4x1024 .f32 :=
  Host.divf (Host.reduceAdd x (constant S_ .f32 0x00000000#32) reducesTo_S4x2048x1024_S4x1024_d1 h_S_) (broadcastInDim S4x1024 ![] bcast_S_S4x1024 (constant S_ .f32 0x45000000#32))
/-- The queries of the table. -/
def query (x : FVec Ideal S4x1024 .f32) (W : FVec Ideal S1024x1024 .f32) (b : FVec Ideal S1024 .f32) : FVec Ideal S4x1024 .f32 :=
  addf (Host.dotGeneral dot_S4x1024_S1024x1024_S4x1024_1_0_0_1_n_n none x (transpose S1024x1024 [1, 0] W transposes_S1024x1024_S1024x1024_1_0))
    (broadcastInDim S4x1024 ![0, 1] bcast_S1x1024_S4x1024_0_1 (broadcastInDim S1x1024 ![1] bcast_S1024_S1x1024_1 b))
/-- The scores of the table's rows. -/
def scores (q : FVec Ideal S4x1024 .f32) (M : FVec Ideal S8192x1024 .f32) (w : FVec Ideal S_ .f32) (a : FVec Ideal S4x8192 .f32) : FVec Ideal S4x8192 .f32 :=
  addf (Host.dotGeneral dot_S4x1024_S1024x8192_S4x8192_1_0_0_1_n_n none q (transpose S1024x8192 [1, 0] M transposes_S8192x1024_S1024x8192_1_0))
    (mulf (broadcastInDim S4x8192 ![] bcast_S_S4x8192 w) a)

theorem norm_at (x : FVec Ideal S4x2048x1024 .f32) (g b : FVec Ideal S1024 .f32) (p : Fin 4) (t : Fin 2048) (i : Fin 1024) :
    norm x g b (ix3 p t i) = Spec.normR (fun i => x (ix3 p t i)) (fun i => g (ix1 i)) (fun i => b (ix1 i)) i := by
  pointwise [norm, centred, spread, mean, row, deviation, Spec.normR, Spec.cen, Spec.var]
theorem summary_at (x : FVec Ideal S4x2048x1024 .f32) (p : Fin 4) (i : Fin 1024) :
    summary x (ix2 p i) = Ideal.div (∑ t : Fin 2048, x (ix3 p t i)) (Ideal.ofBits .f32 0x45000000#32) := by
  pointwise [summary]
theorem query_at (x : FVec Ideal S4x1024 .f32) (W : FVec Ideal S1024x1024 .f32) (b : FVec Ideal S1024 .f32) (p : Fin 4) (n : Fin 1024) :
    query x W b (ix2 p n) = Spec.lin (fun i => x (ix2 p i)) (fun n i => W (ix2 n i)) (fun i => b (ix1 i)) n := by
  pointwise [query, Spec.lin]
theorem scores_at (q : FVec Ideal S4x1024 .f32) (M : FVec Ideal S8192x1024 .f32) (w : FVec Ideal S_ .f32) (a : FVec Ideal S4x8192 .f32) (p : Fin 4) (n : Fin 8192) :
    scores q M w a (ix2 p n) = (∑ c, q (ix2 p c) * M (ix2 n c)) + w ix0 * a (ix2 p n) := by
  pointwise [scores]
end

/-! ## The two agree -/

theorem c2048 : Ideal.ofBits .f32 0x45000000#32 = ((2048 : ℝ) : EReal) := by
  simp [Ideal.ofBits, Ideal.ieee]
  rw [← EReal.coe_mul, EReal.coe_eq_coe_iff]; norm_num
theorem cinv2048 : Ideal.ofBits .f32 0x3A000000#32 = ((2048⁻¹ : ℝ) : EReal) := by
  simp [Ideal.ofBits, Ideal.ieee]
  rw [← EReal.coe_mul, EReal.coe_eq_coe_iff]; norm_num

/-- A sum times the reciprocal is the sum divided. -/
theorem mean_eq (x : EReal) : x * Ideal.ofBits .f32 0x3A000000#32 = Ideal.div x (Ideal.ofBits .f32 0x45000000#32) := by
  rw [c2048, cinv2048, Ideal.div_coe (by norm_num), one_div]

theorem sub_self {x : EReal} (hx : Spec.IsReal x) : x - x = 0 := by
  obtain ⟨a, rfl⟩ := hx
  rw [← EReal.coe_sub, _root_.sub_self, EReal.coe_zero]

/-- Of reals, the low halves vanish. -/
theorem halves {q r : Fin 1024 → EReal} (hq : ∀ c, Spec.IsReal (q c)) (hr : ∀ c, Spec.IsReal (r c)) :
    (∑ c, q c * r c) + ((∑ c, q c * (r c - r c)) + ∑ c, (q c - q c) * r c) = ∑ c, q c * r c := by
  simp only [sub_self (hr _), sub_self (hq _), mul_zero, zero_mul, Finset.sum_const_zero, add_zero]

/-- The sum over the positions by four tiles. -/
theorem split (f : Fin 2048 → EReal) : ∑ t, f t = ∑ u : Fin 4, ∑ t : Fin 512, f ⟨512 * u.val + t.val, by omega⟩ := by
  rw [← Fintype.sum_prod_type']
  refine (Fintype.sum_equiv (finProdFinEquiv (m := 4) (n := 512)) _ _ fun p => congrArg f (Fin.ext ?_)).symm
  show 512 * p.1.val + p.2.val = p.2.val + 512 * p.1.val
  omega

end Cert.Proof.PickMath
end
-- ==== Proof.PickTop.lean ====
/-
  The selection rounds at an element: each round takes the first index of the row's largest value and strikes it out, so
  the first rounds of a row of reals take what a stable sort by descending value puts first.
-/
module

public import proofs.«01_k».proof.Proof.PickBody
public import proofs.«01_k».proof.Proof.Spec
public import Idealize.ShloMosaic.Lib.SortPrefix
public import Idealize.ShloMosaic.Lib.Pipeline.ValueKit.Tiles
public import Idealize.ShloMosaic.Lib.StableHlo.Predicate

@[expose] public section

noncomputable section

namespace Cert.Proof.PickTop

open Cert.SelectionIdeal Cert.SelectionIdeal.Gen
open Idealize.ShloMosaic
set_option maxRecDepth 16384

/-! ## One round -/

/-- The place `a` is the first of the row's largest. -/
def Picks {n : Nat} (v : Fin n → EReal) (a : Fin n) : Prop := (∀ k, v k ≤ v a) ∧ ∀ k, v k = v a → a ≤ k

theorem picks_exists {n : Nat} (hn : 0 < n) (v : Fin n → EReal) : ∃ a, Picks v a := by
  haveI : Nonempty (Fin n) := ⟨⟨0, hn⟩⟩
  obtain ⟨m, hm⟩ := Finite.exists_max v
  let S := Finset.univ.filter fun k => v k = v m
  have hS : S.Nonempty := ⟨m, by simp [S]⟩
  have hmem := Finset.min'_mem S hS
  have he : v (S.min' hS) = v m := (Finset.mem_filter.1 hmem).2
  refine ⟨S.min' hS, fun k => he ▸ hm k, fun k hk => Finset.min'_le S k (by simp [S, hk, he])⟩

theorem toInt_minsi (a b : BitVec 32) : (IntOp.minsi a b).toInt = min a.toInt b.toInt := by
  unfold IntOp.minsi
  split <;> rename_i h <;> simp only [BitVec.slt, BitVec.sle, decide_eq_true_eq] at h <;> omega

theorem toInt_fold {ι : Type} (s : Finset ι) (b : BitVec 32) (f : ι → BitVec 32) :
    (s.fold IntOp.minsi b f).toInt = s.fold min b.toInt fun i => (f i).toInt := by
  classical
  induction s using Finset.induction_on with
  | empty => simp
  | insert a s h ih => rw [Finset.fold_insert h, Finset.fold_insert h, toInt_minsi, ih]

theorem bot_bits : Ideal.ofBits .f32 0xFF800000#32 = (⊥ : EReal) := by simp [Ideal.ofBits, Ideal.ieee]

theorem fold_max {n : Nat} (v : Fin n → EReal) (a : Fin n) (h : ∀ k, v k ≤ v a) : (Finset.univ : Finset (Fin n)).fold max (⊥ : EReal) v = v a :=
  le_antisymm ((Finset.fold_max_le (v a)).2 ⟨bot_le, fun k _ => h k⟩) ((Finset.le_fold_max (v a)).2 (.inr ⟨a, Finset.mem_univ _, le_rfl⟩))

/-- The index a round takes. -/
theorem pick_at (v : Vec Ideal S4x8192 .f32) (p : Fin 4) (a : Fin 8192) (ha : Picks (fun k => v (ix2 p k)) a) :
    k1_pay3 (F := Ideal) v (ix2 p 0) = BitVec.ofNat 32 a.val := by
  pointwise [k1_pay3]
  rw [bot_bits, fold_max (fun k => v (ix2 p k)) a ha.1]
  have small : ∀ k : Nat, k ≤ 8192 → (BitVec.ofNat 32 k).toInt = k := fun k hk => by
    rw [BitVec.toInt_eq_toNat_of_lt (by rw [BitVec.toNat_ofNat]; omega), BitVec.toNat_ofNat, Nat.mod_eq_of_lt (by omega)]
  refine BitVec.eq_of_toInt_eq ?_
  rw [toInt_fold, small a.val (by omega)]
  refine le_antisymm ((Finset.fold_min_le _).2 (.inr ⟨a, Finset.mem_univ _, ?_⟩)) ((Finset.le_fold_min _).2 ⟨?_, fun k _ => ?_⟩)
  · rw [if_pos le_rfl, small a.val (by omega)]
  · have e : (2147483647#32).toInt = 2147483647 := by decide
    rw [e]; omega
  · by_cases h : v (ix2 p a) ≤ v (ix2 p k)
    · rw [if_pos h, small k.val (by omega)]
      exact_mod_cast ha.2 k (le_antisymm (ha.1 k) h)
    · rw [if_neg h, small 8192 le_rfl]
      omega

theorem ofNat_eq_iff {a b : Nat} (ha : a < 2 ^ 32) (hb : b < 2 ^ 32) : IntOp.cmpi .eq (BitVec.ofNat 32 a) (BitVec.ofNat 32 b) = 1#1 ↔ a = b := by
  rw [StableHlo.Predicate.cmpi_eq_iff]
  refine ⟨fun h => ?_, fun h => by rw [h]⟩
  have h := congrArg BitVec.toNat h
  rwa [BitVec.toNat_ofNat, BitVec.toNat_ofNat, Nat.mod_eq_of_lt ha, Nat.mod_eq_of_lt hb] at h

theorem struck_at (v : Vec Ideal S4x8192 .f32) (p : Fin 4) (a : Fin 8192) (ha : Picks (fun k => v (ix2 p k)) a) (k : Fin 8192) :
    k1_pay4 (F := Ideal) v (ix2 p k) = if k = a then ⊥ else v (ix2 p k) := by
  pointwise [k1_pay4]
  rw [pick_at v p a ha, bot_bits]
  refine (if_congr ((ofNat_eq_iff (a := k.val) (b := a.val) (by omega) (by omega)).trans Fin.ext_iff.symm) rfl rfl : _ = _)

theorem put_at (n : Fin k1_t1_loop.trips) (t : IVec S4x64 32) (v : Vec Ideal S4x8192 .f32) (p : Fin 4) (k : Fin 64) :
    k1_pay5 (F := Ideal) n t v (ix2 p k) = if k.val = n.val then k1_pay3 (F := Ideal) v (ix2 p 0) else t (ix2 p k) := by
  have hn : n.val < 64 := n.isLt
  have hv : Scf.iv 0#32 1#32 n.val = BitVec.ofNat 32 n.val := by simp [Scf.iv]
  pointwise [k1_pay5]
  rw [hv]
  exact if_congr (ofNat_eq_iff (a := k.val) (b := n.val) (by omega) (by omega)) rfl rfl

/-! ## The rounds -/

/-- What is left of a row after some rounds that take the places `pick` names. -/
def after {n : Nat} (s : Fin n → EReal) (pick : ℕ → Fin n) : ℕ → Fin n → EReal
  | 0 => s
  | r + 1 => fun k => if k = pick r then ⊥ else after s pick r k

theorem after_eq {n : Nat} (s : Fin n → EReal) (pick : ℕ → Fin n) (r : ℕ) (k : Fin n) : after s pick r k = if ∃ j < r, pick j = k then ⊥ else s k := by
  induction r with
  | zero => exact (if_neg (by rintro ⟨j, h, -⟩; omega)).symm
  | succ r ih =>
    show (if k = pick r then ⊥ else after s pick r k) = _
    rw [ih]
    by_cases h : k = pick r
    · rw [if_pos h, if_pos ⟨r, by omega, h.symm⟩]
    · rw [if_neg h]
      refine if_congr ⟨fun ⟨j, hj, e⟩ => ⟨j, by omega, e⟩, fun ⟨j, hj, e⟩ => ⟨j, ?_, e⟩⟩ rfl rfl
      rcases Nat.lt_succ_iff_lt_or_eq.1 hj with h' | rfl
      · exact h'
      · exact absurd e.symm h

/-- Greater first, then lower place. -/
def Before {n : Nat} (s : Fin n → EReal) (a b : Fin n) : Bool := decide (s b < s a) || (decide (s a = s b) && decide (a < b))

theorem before_total {n : Nat} (s : Fin n → EReal) : StrictTotalBefore (Before s) :=
  StrictTotalBefore.of_key_then_position (fun x y : EReal => decide (y < x)) s (fun a => by simp) (fun a b c h h' => by
      simp only [decide_eq_true_eq] at h h' ⊢; exact lt_trans h' h) fun a b => by
      simp only [decide_eq_true_eq]
      rcases lt_trichotomy a b with h | h | h
      exacts [.inr (.inr h), .inr (.inl h), .inl h]

/-- A stable sort of a list whose later members compare alike under both orders is the same under both. -/
theorem stableSort_later {ι : Type} (R R' : ι → ι → Bool) (l : List ι) (hl : l.Pairwise fun a b => R b a = R' b a) : stableSort R l = stableSort R' l := by
  induction l with
  | nil => rfl
  | cons a l ih =>
    obtain ⟨ha, hl⟩ := List.pairwise_cons.1 hl
    unfold stableSort
    rw [ih hl]
    exact insertBefore_congr R R' a _ fun b hb => ha b ((perm_stableSort R' l).mem_iff.1 hb)

theorem sorted_eq {n : Nat} (s : Fin n → EReal) (k : Fin n) : sortedFrom (fun a b => decide (s b < s a)) k = sortedFrom (Before s) k := by
  have h : sortPositions n (fun a b => decide (s b < s a)) = sortPositions n (Before s) :=
    stableSort_later _ _ _ ((List.pairwise_lt_finRange n).imp fun {a b} hab => by
      have : ¬ b < a := not_lt.2 hab.le
      simp [Before, this])
  unfold sortedFrom
  simp only [List.get_eq_getElem, h]
  rfl

/-- THE ROUNDS OF A ROW OF REALS are the first of the stable sort by descending value. -/
theorem rounds_eq {n m : Nat} (hm : m ≤ n) (s : Fin n → EReal) (hs : ∀ k, Spec.IsReal (s k)) (pick : ℕ → Fin n)
    (hp : ∀ r < m, Picks (after s pick r) (pick r)) (i : Fin m) : sortedFrom (fun a b => decide (s b < s a)) (i.castLE hm) = pick i.val := by
  have hbot : ∀ k, ⊥ < s k := fun k => by obtain ⟨x, hx⟩ := hs k; rw [hx]; exact EReal.bot_lt_coe x
  have new : ∀ r < m, ¬ ∃ j < r, pick j = pick r := by
    intro r hr hj
    obtain ⟨k, hk⟩ : ∃ k : Fin n, ∀ j : Fin r, pick j.val ≠ k := by
      by_contra hc
      have : Function.Surjective fun j : Fin r => pick j.val := fun k => by
        by_contra hk
        exact hc ⟨k, fun j e => hk ⟨j, e⟩⟩
      have := Fintype.card_le_of_surjective _ this
      simp only [Fintype.card_fin] at this
      omega
    have h := (hp r hr).1 k
    rw [after_eq, after_eq, if_pos hj, if_neg (by rintro ⟨j, hj, e⟩; exact hk ⟨j, hj⟩ e)] at h
    exact absurd h (not_le.2 (hbot k))
  have free : ∀ r < m, ∀ k, (∀ j < r, pick j ≠ k) → Before s k (pick r) = false := by
    intro r hr k hk
    have e : after s pick r k = s k := by rw [after_eq, if_neg (by rintro ⟨j, hj, h⟩; exact hk j hj h)]
    have e' : after s pick r (pick r) = s (pick r) := by rw [after_eq, if_neg (new r hr)]
    have h := (hp r hr).1 k
    have h' := (hp r hr).2 k
    rw [e, e'] at h h'
    unfold Before
    rw [Bool.or_eq_false_iff, Bool.and_eq_false_iff, decide_eq_false_iff_not, decide_eq_false_iff_not, decide_eq_false_iff_not]
    refine ⟨not_lt.2 h, ?_⟩
    by_cases hc : s k = s (pick r)
    · exact .inr (not_lt.2 (h' hc))
    · exact .inl hc
  rw [sorted_eq]
  refine (before_total s).sortedFrom_eq_of_prefix hm (fun i => pick i.val) (fun a b h => ?_) (fun a b h => ?_) (fun a p h => ?_) i
  · rcases lt_trichotomy a.val b.val with hl | hl | hl
    · exact absurd ⟨a.val, hl, h⟩ (new b.val b.isLt)
    · exact Fin.ext hl
    · exact absurd ⟨b.val, hl, h.symm⟩ (new a.val a.isLt)
  · exact free a.val a.isLt _ fun j hj e => new b.val b.isLt ⟨j, lt_trans hj h, e⟩
  · exact free a.val a.isLt _ fun j hj => h ⟨j, lt_trans hj a.isLt⟩

/-! ## The kernel's rounds and the host's selection -/

theorem taken_at (X : Vec Ideal S4x8192 .f32) (n : ℕ) (hn : n ≤ 64) (p : Fin 4) (k : Fin 64) :
    PickBody.taken X n (ix2 p k) = if k.val < n then k1_pay3 (F := Ideal) (PickBody.left X k.val) (ix2 p 0) else 0#32 := by
  induction n with
  | zero => exact (if_neg (by omega)).symm
  | succ n ih =>
    have h : n < k1_t1_loop.trips := (show n < 64 by omega)
    show (if h : n < k1_t1_loop.trips then k1_pay5 (F := Ideal) ⟨n, h⟩ (PickBody.taken X n) (PickBody.left X n) else PickBody.taken X n) (ix2 p k) = _
    rw [dif_pos h, put_at, ih (by omega)]
    by_cases e : k.val = n
    · rw [if_pos e, if_pos (by omega), e]
    · rw [if_neg e]
      exact if_congr (by omega) rfl rfl

/-- The host's selection at an element. -/
theorem topK_at (x : FVec Ideal S4x8192 .f32) (h : S4x8192.Slices (fun _ => 0) S4x64) (p : Fin 4) (k : Fin 64) :
    (Host.topK S4x64 1 (FloatOps.cmpfTotal .gt) x h).2 (ix2 p k)
      = BitVec.ofNat 32 (sortedFrom (fun a b : Fin 8192 => decide (x (ix2 p b) < x (ix2 p a))) (k.castLE (by omega))).val := by
  have ha : ∀ c : Fin 8192, Shape.Idx.along (s := S4x8192) (ix2 p (k.castLE (by omega))) 1 c = ix2 p c := fun c => by
    funext a
    match a with
    | 0 => rfl
    | 1 => rfl
  have hc : ∀ a b : Fin 8192, (FloatOps.cmpfTotal (F := Ideal) .gt (x (ix2 p a)) (x (ix2 p b)) == 1#1) = decide (x (ix2 p b) < x (ix2 p a)) := fun a b => by
    show (BitVec.ofBool (decide (x (ix2 p b) < x (ix2 p a))) == 1#1) = _
    cases decide (x (ix2 p b) < x (ix2 p a)) <;> rfl
  have hj : (fun a => ⟨0 + ((ix2 p k : S4x64.Idx) (a.cast h.1.symm)).val, Nat.lt_of_lt_of_le (Nat.add_lt_add_left ((ix2 p k : S4x64.Idx) _).isLt _) (h.2 a)⟩ : S4x8192.Idx)
      = ix2 p (k.castLE (by omega)) := by
    funext a
    match a with
    | 0 => exact Fin.ext (Nat.zero_add _)
    | 1 => exact Fin.ext (Nat.zero_add _)
  refine (congrArg (Host.sort2 S4x8192 1 (fun l r => FloatOps.cmpfTotal (F := Ideal) (φ := .f32) .gt l.1 r.1) x
    (fun i => if hd : 1 < S4x8192.rank then iotaInDim S4x8192 32 ⟨1, hd⟩ i else 0#32)).2 hj).trans ?_
  unfold Host.sort2
  rw [dif_pos (show 1 < S4x8192.rank by decide)]
  have h64 : 64 ≤ 8192 := by omega
  let q : S4x8192.Idx := ix2 p (Fin.castLE h64 k)
  show iotaInDim S4x8192 32 1 (q.along 1 (sortedFrom (fun a b : Fin 8192 =>
    FloatOps.cmpfTotal (F := Ideal) (φ := .f32) .gt (x (q.along 1 a)) (x (q.along 1 b)) == 1#1) (Fin.castLE h64 k))) = _
  have hq : ∀ c : Fin 8192, q.along 1 c = ix2 p c := ha
  have hi : ∀ c : Fin 8192, iotaInDim S4x8192 32 1 (q.along 1 c) = BitVec.ofNat 32 c.val := fun c =>
    (congrArg (iotaInDim S4x8192 32 1) (hq c)).trans rfl
  have hf : (fun a b : Fin 8192 => FloatOps.cmpfTotal (F := Ideal) (φ := .f32) .gt (x (q.along 1 a)) (x (q.along 1 b)) == 1#1)
      = fun a b : Fin 8192 => decide (x (ix2 p b) < x (ix2 p a)) := funext fun a => funext fun b => by rw [hq, hq, hc]
  exact (hi _).trans (congrArg (fun f : Fin 8192 → Fin 8192 → Bool => BitVec.ofNat 32 (sortedFrom f (Fin.castLE h64 k)).val) hf)

/-- THE KERNEL'S ROUNDS ARE THE HOST'S SELECTION, on rows of reals. -/
theorem taken_eq (X : Vec Ideal S4x8192 .f32) (hX : ∀ i, Spec.IsReal (X i)) (h : S4x8192.Slices (fun _ => 0) S4x64) :
    PickBody.taken X 64 = (Host.topK S4x64 1 (FloatOps.cmpfTotal (F := Ideal) (φ := .f32) .gt) X h).2 := by
  funext j
  idx_vars j
  rw [taken_at X 64 le_rfl, if_pos j1.isLt, topK_at]
  choose pick hpick using fun r => picks_exists (n := 8192) (by omega) fun k => PickBody.left X r (ix2 j0 k)
  have hl : ∀ r k, PickBody.left X r (ix2 j0 k) = after (fun k => X (ix2 j0 k)) pick r k := by
    intro r
    induction r with
    | zero => exact fun k => rfl
    | succ r ih =>
      intro k
      show k1_pay4 (F := Ideal) (PickBody.left X r) (ix2 j0 k) = if k = pick r then ⊥ else after (fun k => X (ix2 j0 k)) pick r k
      rw [struck_at _ _ _ (hpick r), ih]
  rw [pick_at _ _ _ (hpick j1.val), rounds_eq (by omega) (fun k => X (ix2 j0 k)) (fun k => hX _) pick fun r _ => by
    have := hpick r
    rwa [show (fun k => PickBody.left X r (ix2 j0 k)) = after (fun k => X (ix2 j0 k)) pick r from funext (hl r)] at this]

end Cert.Proof.PickTop
end
-- ==== Proof.PickValue.lean ====
/-
  What the selection's run leaves in its result: the indices that the host's selection takes of the reference's scores.
-/
module

public import proofs.«01_k».proof.Proof.PickFrames
public import proofs.«01_k».proof.Proof.PickArrays
public import proofs.«01_k».proof.Proof.PickMath
public import proofs.«01_k».proof.Proof.PickTop
public import proofs.«01_k».proof.Proof.Pre
public import Idealize.ShloMosaic.Lib.StableHlo.ReadAt

@[expose] public section

noncomputable section

namespace Cert.Proof.PickValue

open Cert.SelectionIdeal Cert.SelectionIdeal.Gen Cert.Proof.PickDats Cert.Proof.PickRun Cert.Proof.PickArrays Cert.Proof.PickFrames
open Idealize.ShloMosaic Idealize.ShloMosaic.TcCoe
set_option maxRecDepth 16384

/-! ## The precondition -/

/-- Every argument holds real numbers. -/
structure Finite (x0 : FVec Ideal S4x2048x1024 .f32) (x1 : FVec Ideal S8192x1024 .f32) (x2 : FVec Ideal S4x8192 .f32) (x3 x4 : FVec Ideal S1024 .f32)
    (x5 : FVec Ideal S1024x1024 .f32) (x6 : FVec Ideal S1024 .f32) (x7 : FVec Ideal S_ .f32) : Prop where
  h : ∀ i, Spec.IsReal (x0 i)
  memory : ∀ i, Spec.IsReal (x1 i)
  activations : ∀ i, Spec.IsReal (x2 i)
  ln_g : ∀ i, Spec.IsReal (x3 i)
  ln_b : ∀ i, Spec.IsReal (x4 i)
  Wf : ∀ i, Spec.IsReal (x5 i)
  bf : ∀ i, Spec.IsReal (x6 i)
  weight : ∀ i, Spec.IsReal (x7 i)

theorem finite (x0 x1 x2 x3 x4 x5 x6 x7) (h : Cert.Pre_finite.fn (F := Ideal) x0 x1 x2 x3 x4 x5 x6 x7 = fun _ => 1#1) : Finite x0 x1 x2 x3 x4 x5 x6 x7 := by
  have e := congrFun h (fun a => a.elim0)
  obtain ⟨e, e7⟩ := (Take.andi_one _ _).1 e
  obtain ⟨e, e6⟩ := (Take.andi_one _ _).1 e
  obtain ⟨e, e5⟩ := (Take.andi_one _ _).1 e
  obtain ⟨e, e4⟩ := (Take.andi_one _ _).1 e
  obtain ⟨e, e3⟩ := (Take.andi_one _ _).1 e
  obtain ⟨e, e2⟩ := (Take.andi_one _ _).1 e
  obtain ⟨e0, e1⟩ := (Take.andi_one _ _).1 e
  refine ⟨fun i => ?_, fun i => ?_, fun i => ?_, fun i => ?_, fun i => ?_, fun i => ?_, fun i => ?_, fun i => ?_⟩
  · exact Pre.real_of_lt _ (((Take.reduce_andi _ _ _ _ _).1 e0).2 i (funext fun a => a.elim0))
  · exact Pre.real_of_lt _ (((Take.reduce_andi _ _ _ _ _).1 e1).2 i (funext fun a => a.elim0))
  · exact Pre.real_of_lt _ (((Take.reduce_andi _ _ _ _ _).1 e2).2 i (funext fun a => a.elim0))
  · exact Pre.real_of_lt _ (((Take.reduce_andi _ _ _ _ _).1 e3).2 i (funext fun a => a.elim0))
  · exact Pre.real_of_lt _ (((Take.reduce_andi _ _ _ _ _).1 e4).2 i (funext fun a => a.elim0))
  · exact Pre.real_of_lt _ (((Take.reduce_andi _ _ _ _ _).1 e5).2 i (funext fun a => a.elim0))
  · exact Pre.real_of_lt _ (((Take.reduce_andi _ _ _ _ _).1 e6).2 i (funext fun a => a.elim0))
  · obtain rfl : i = fun a => a.elim0 := funext fun a => a.elim0
    exact Pre.real_of_lt _ e7

/-! ## The host's lines -/

section
variable (V : Valuation τ sig (Elt Ideal))

theorem row0 (i : Fin 1024) : StableHlo.after (hostOps0 (F := Ideal)) V (Proc.devRef .tc main_v0) (ix2 0 i) = V (Proc.devRef .tc main_arg3) (ix1 i) := by
  after_reads_at
theorem row1 (i : Fin 1024) : StableHlo.after (hostOps0 (F := Ideal)) V (Proc.devRef .tc main_v1) (ix2 0 i) = V (Proc.devRef .tc main_arg4) (ix1 i) := by
  after_reads_at
theorem row2 (i : Fin 1024) : StableHlo.after (hostOps0 (F := Ideal)) V (Proc.devRef .tc main_v2) (ix2 0 i) = V (Proc.devRef .tc main_arg6) (ix1 i) := by
  after_reads_at
theorem scalar3 : StableHlo.after (hostOps0 (F := Ideal)) V (Proc.devRef .tc main_v3) (ix2 0 0) = V (Proc.devRef .tc main_arg7) ix0 := by
  after_reads_at
theorem mean_reshaped (p : Fin 4) (i : Fin 1024) :
    (StableHlo.after (hostOps1 (F := Ideal)) V (Proc.devRef .tc main_v5) : S4x1024.Idx → EReal) (ix2 p i) = (V (Proc.devRef .tc main_v4) : S4x1x1024.Idx → EReal) (ix3 p 0 i) := by
  after_reads_at
end

/-! ## The reference's result -/

section
variable (x0 : FVec Ideal S4x2048x1024 .f32) (x1 : FVec Ideal S8192x1024 .f32) (x2 : FVec Ideal S4x8192 .f32) (x3 x4 : FVec Ideal S1024 .f32)
    (x5 : FVec Ideal S1024x1024 .f32) (x6 : FVec Ideal S1024 .f32) (x7 : FVec Ideal S_ .f32)

/-- The queries of the table, -/
def query : FVec Ideal S4x1024 .f32 := PickMath.query (PickMath.summary (PickMath.norm x0 x3 x4)) x5 x6
/-- the scores -/
def score : FVec Ideal S4x8192 .f32 := PickMath.scores (query x0 x3 x4 x5 x6) x1 x7 x2
/-- and the indices. -/
def answer : IVec S4x64 32 := (Host.topK S4x64 1 (FloatOps.cmpfTotal (F := Ideal) (φ := .f32) .gt) (score x0 x1 x2 x3 x4 x5 x6 x7) Cert.SelectionReferenceIdeal.Gen.sliceFits_S4x8192_S4x64).2

variable {x0 x1 x2 x3 x4 x5 x6 x7} (fin : Finite x0 x1 x2 x3 x4 x5 x6 x7)
include fin

theorem query_real (p : Fin 4) (n : Fin 1024) : Spec.IsReal (query x0 x3 x4 x5 x6 (ix2 p n)) := by
  unfold query
  rw [PickMath.query_at]
  refine Spec.lin_fin (fun i => ?_) (fun _ _ => fin.Wf _) (fun _ => fin.bf _) n
  rw [PickMath.summary_at, PickMath.c2048]
  refine (Spec.IsReal.sum _ fun t => ?_).div (by norm_num)
  rw [PickMath.norm_at]
  exact Spec.norm_fin (fun _ => fin.h _) (fun _ => fin.ln_g _) (fun _ => fin.ln_b _) i

theorem score_real (i : S4x8192.Idx) : Spec.IsReal (score x0 x1 x2 x3 x4 x5 x6 x7 i) := by
  idx_vars i
  unfold score
  rw [PickMath.scores_at]
  exact (Spec.IsReal.sum _ fun c => (query_real fin i0 c).mul (fin.memory _)).add ((fin.weight _).mul (fin.activations _))
end

/-! ## The run's result -/

section
variable (m : (ℓ : Loc nD τ sig) → Buf (Elt Ideal) ℓ) (d : Dev nD)

abbrev arg (r : Ref sig .tc) : Buf (Elt Ideal) ((d.tc : Thread nD τ).loc r) := m ((d.tc : Thread nD τ).loc r)

variable (fin : Finite (arg m d main_arg0) (arg m d main_arg1) (arg m d main_arg2) (arg m d main_arg3) (arg m d main_arg4) (arg m d main_arg5) (arg m d main_arg6) (arg m d main_arg7))
include fin

/-- A tile's share of the mean's sum. -/
theorem tile_at (b u : Fin 4) (A : Vec Ideal S1x1x1024 .f32) (i : Fin 1024) :
    added (W1 m) d (pt b u) A (ix3 0 0 i)
      = A (ix3 0 0 i) + ∑ t : Fin 512, PickMath.norm (arg m d main_arg0) (arg m d main_arg3) (arg m d main_arg4) (ix3 b ⟨512 * u.val + t.val, by omega⟩ i) := by
  unfold added
  rw [whole0_1, whole0_2, PickMath.added_at]
  refine congrArg (_ + ·) (Finset.sum_congr rfl fun t _ => ?_)
  rw [PickMath.norm_at, ← Spec.norm_eq (fun _ => fin.h _)]
  have h0 : (fun i => (at' (W1 m) d main_v0 : S1x1024.Idx → EReal) (ix2 0 i)) = fun i => (arg m d main_arg3 : S1024.Idx → EReal) (ix1 i) := funext fun i => row0 (fun b => m (d, b)) i
  have h1 : (fun i => (at' (W1 m) d main_v1 : S1x1024.Idx → EReal) (ix2 0 i)) = fun i => (arg m d main_arg4 : S1024.Idx → EReal) (ix1 i) := funext fun i => row1 (fun b => m (d, b)) i
  have hx : (fun i => (blk (W1 m) cfg0 d 0 (pt b u) : S1x512x1024.Idx → EReal) (ix3 0 t i)) = fun i => (arg m d main_arg0 : S4x2048x1024.Idx → EReal) (ix3 b ⟨512 * u.val + t.val, by omega⟩ i) := funext fun i => by
    rw [block0_0]
    exact congrFun (kept1 m d main_arg0 (by decide)) _
  rw [h0, h1, hx]

/-- The mean of a batch row. -/
theorem mean_at (b : Fin 4) (i : Fin 1024) : (summed (W1 m) d (pt b 3).val (pt b 3).isLt : S1x1x1024.Idx → EReal) (ix3 0 0 i)
    = PickMath.summary (PickMath.norm (arg m d main_arg0) (arg m d main_arg3) (arg m d main_arg4)) (ix2 b i) := by
  have step : ∀ u : Fin 4, ∀ v : Fin 4, v.val = u.val + 1 → (summed (W1 m) d ((pt b v).val - 1) (Nat.lt_of_le_of_lt (Nat.sub_le _ _) (pt b v).isLt))
      = summed (W1 m) d (pt b u).val (pt b u).isLt := fun u v hv => by
    have e : (pt b v).val - 1 = (pt b u).val := by show 4 * b.val + v.val - 1 = 4 * b.val + u.val; omega
    congr 1
  rw [summed_last (W1 m) d (pt b 3) (by show (4 * b.val + 3) % 4 = 3; omega), PickMath.mean_at, tile_at m d fin, step 2 3 rfl,
    summed_next (W1 m) d (pt b 2) (by show ¬ (4 * b.val + 2) % 4 = 0; omega) (by show ¬ (4 * b.val + 2) % 4 = 3; omega), tile_at m d fin, step 1 2 rfl,
    summed_next (W1 m) d (pt b 1) (by show ¬ (4 * b.val + 1) % 4 = 0; omega) (by show ¬ (4 * b.val + 1) % 4 = 3; omega), tile_at m d fin, step 0 1 rfl,
    summed_first (W1 m) d (pt b 0) (by show (4 * b.val + 0) % 4 = 0; omega), tile_at m d fin, PickMath.none_at, zero_add, PickMath.mean_eq, PickMath.summary_at,
    PickMath.split, Fin.sum_univ_four]

theorem mean_array (b : Fin 4) (i : Fin 1024) : (at' (W3 m) d main_v5 : S4x1024.Idx → EReal) (ix2 b i)
    = PickMath.summary (PickMath.norm (arg m d main_arg0) (arg m d main_arg3) (arg m d main_arg4)) (ix2 b i) := by
  have e : W2 m d (Proc.devRef .tc main_v4) = _ := (Pipeline.afterRegion_arr (dat0 (W1 m) d) (W1 m d) (kit (F := Ideal) 0).win.arr_inj 3).trans
    (final0_3 (W1 m) d (fun j => PickMath.summary (PickMath.norm (arg m d main_arg0) (arg m d main_arg3) (arg m d main_arg4)) (ix2 (j 0) (j 2))) fun b k => mean_at m d fin b k)
  exact (mean_reshaped (W2 m d) b i).trans (congrFun e (ix3 b 0 i))

omit fin in
/-- A buffer that only the first line may write. -/
theorem third (r : Ref sig .tc) (h : r ≠ main_v4) (h' : r ∉ hostOps1_W) : at' (W3 m) d r = W1 m d (Proc.devRef .tc r) :=
  (kept3 m d r h').trans (kept2 m d r h)

/-- The kernel's scores are the reference's. -/
theorem scores_eq : scoresOf (W3 m) d = score (arg m d main_arg0) (arg m d main_arg1) (arg m d main_arg2) (arg m d main_arg3) (arg m d main_arg4) (arg m d main_arg5) (arg m d main_arg6) (arg m d main_arg7) := by
  funext j
  idx_vars j
  have a5 : at' (W3 m) d main_arg5 = arg m d main_arg5 := (third m d main_arg5 (by decide) (by decide)).trans (kept1 m d main_arg5 (by decide))
  have a2 : at' (W3 m) d main_arg2 = arg m d main_arg2 := (third m d main_arg2 (by decide) (by decide)).trans (kept1 m d main_arg2 (by decide))
  have a1 : at' (W3 m) d main_arg1 = arg m d main_arg1 := (third m d main_arg1 (by decide) (by decide)).trans (kept1 m d main_arg1 (by decide))
  have hw : (at' (W3 m) d main_v3 : S1x1.Idx → EReal) (ix2 0 0) = (arg m d main_arg7 : S_.Idx → EReal) ix0 := by
    rw [third m d main_v3 (by decide) (by decide)]
    exact scalar3 fun b => m (d, b)
  have hl : ∀ X : Vec Ideal S1x1 .f32, View.ld X (Rect.unit ![0, 0] ![1, 1] inb_S1x1_S1x1_0_0) (Shape.Idx.first (s := S1x1) (by decide)) = X (ix2 0 0) := fun X =>
    congrArg X (funext fun a => by fin_cases a <;> rfl)
  unfold scoresOf PickBody.scores
  rw [PickMath.score_raw _ _ _ _ _ _ j0 j1 (fun c => query (arg m d main_arg0) (arg m d main_arg3) (arg m d main_arg4) (arg m d main_arg5) (arg m d main_arg6) (ix2 j0 c)) ?_, a2, a1, hl]
  · unfold score
    rw [PickMath.scores_at, PickMath.halves (query_real fin j0) (fun c => fin.memory _)]
    exact congrArg (fun z : EReal => _ + z * _) hw
  · funext c
    unfold query
    rw [PickMath.query_at, a5]
    have hm : (fun i => (at' (W3 m) d main_v5 : S4x1024.Idx → EReal) (ix2 j0 i)) = fun i => PickMath.summary (PickMath.norm (arg m d main_arg0) (arg m d main_arg3) (arg m d main_arg4)) (ix2 j0 i) :=
      funext fun i => mean_array m d fin j0 i
    have hb : (fun i => (at' (W3 m) d main_v2 : S1x1024.Idx → EReal) (ix2 0 i)) = fun i => (arg m d main_arg6 : S1024.Idx → EReal) (ix1 i) := funext fun i => by
      rw [third m d main_v2 (by decide) (by decide)]
      exact row2 (fun b => m (d, b)) i
    rw [hm, hb]

theorem result_at : W4 m d (Proc.devRef .tc main_v6) = answer (arg m d main_arg0) (arg m d main_arg1) (arg m d main_arg2) (arg m d main_arg3) (arg m d main_arg4) (arg m d main_arg5) (arg m d main_arg6) (arg m d main_arg7) := by
  refine ((Pipeline.afterRegion_arr (dat1 (W3 m) d) (W3 m d) (kit (F := Ideal) 1).win.arr_inj 6).trans (final1_6 (W3 m) d)).trans ?_
  rw [scores_eq m d fin]
  exact PickTop.taken_eq _ (score_real fin) _
end

end Cert.Proof.PickValue
end
-- ==== Proof.PickSame.lean ====
/-
  The selection's two programs' results are equal over the extended reals.
-/
module

public import proofs.«01_k».proof.Proof.PickValue

@[expose] public section

noncomputable section

namespace Cert.Proof.PickSame

open Idealize.ShloMosaic Idealize.SL.Sem
open Cert.SelectionIdeal Cert.SelectionIdeal.Gen

theorem algebraic : Cert.algebraic_SelectionIdeal_SelectionReferenceIdeal_pre_finite := by
  intro m ρ m' ρ' hpre hagree
  have fin := fun c => PickValue.finite _ _ _ _ _ _ _ _ (hpre c)
  refine ⟨fun c => PickRun.W4 m c (Proc.devRef .tc main_v6),
    (θ_run Cert.SelectionIdeal.defs _ _).mono (fun r h c => by
      have hu : Proc.devRef .tc main_v6 ∈ Pipeline.ucRefs τ sig := by decide
      refine ⟨h.1 c _ hu, ?_, ?_, ?_, ?_, ?_, ?_, ?_, ?_⟩ <;>
        exact PickFrames.kept_at m h.1 c _ (by decide) (by decide) (by decide) (by decide) (by decide))
      (PickRun.run_main (F := Ideal) m ρ), ?_⟩
  refine (θ_run Cert.SelectionReferenceIdeal.defs _ _).mono (fun r h c => ⟨?_, (h c).2⟩) (Cert.SelectionReferenceIdeal.Value.run (F := Ideal) m' ρ')
  refine (h c).1.trans ?_
  refine Eq.trans ?_ (PickValue.result_at m c (fin c)).symm
  obtain ⟨e0, e1, e2, e3, e4, e5, e6, e7⟩ := hagree c
  rw [e0, e1, e2, e3, e4, e5, e6, e7]
  rfl

end Cert.Proof.PickSame
end
-- ==== Proof.lean ====
/-
  The certificate's claim: the frames (Proof.Frames, Proof.FrameKernel) and the equality of the results (Proof.Same), and the same of the
  selection (Proof.PickFrames, Proof.PickTwin and Proof.PickSame).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Selection
public import proofs.«01_k».proof.Proof.Gen.SelectionIdeal
public import proofs.«01_k».proof.Proof.Gen.SelectionReferenceIdeal
public import proofs.«01_k».proof.Proof.Gen.Pre_in_range
public import proofs.«01_k».proof.Proof.Gen.Pre_selected
public import proofs.«01_k».proof.Proof.Gen.Pre_finite
public import proofs.«01_k».proof.Proof.FrameKernel
public import proofs.«01_k».proof.Proof.Same
public import proofs.«01_k».proof.Proof.PickTwin
public import proofs.«01_k».proof.Proof.PickSame

@[expose] public section

noncomputable section

namespace Cert.Proof

theorem claim : Cert.Claim := ⟨Cert.Kernel.Gen.facts, Cert.KernelIdeal.Gen.facts, Cert.ReferenceIdeal.Gen.facts, Cert.Selection.Gen.facts,
  Cert.SelectionIdeal.Gen.facts, Cert.SelectionReferenceIdeal.Gen.facts, Cert.Pre_in_range.Gen.facts, Cert.Pre_selected.Gen.facts, Cert.Pre_finite.Gen.facts,
  FrameKernel.frame_kernel, Frames.frame_kernelIdeal, Frames.frame_kernelIdeal_selected, Frames.frame_reference, Frames.frame_reference_selected,
  PickTwin.frame_selection, PickFrames.frame_ideal, PickFrames.frame_ideal_finite, PickFrames.frame_reference, PickFrames.frame_reference_finite,
  trivial, Same.algebraic, trivial, PickSame.algebraic⟩

end Cert.Proof

end
